-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_args2 [hPre_finite_args2 : Cert.Pre_finite_args2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_args2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite_args2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite_args2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite_args2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite_args2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_args2 [hPre_finite_args2 : Cert.Pre_finite_args2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_args2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite_args2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite_args2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite_args2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite_args2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_args3 [hPre_finite_args3 : Cert.Pre_finite_args3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_args3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_finite_args3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_finite_args3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 = (fun _ => 1#1)
    ∧ (Cert.Pre_finite_args3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.1 = (fun _ => 1#1)
    ∧ (Cert.Pre_finite_args3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.1 = (fun _ => 1#1)
    ∧ (Cert.Pre_finite_args3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_args3 [hPre_finite_args3 : Cert.Pre_finite_args3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_args3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_finite_args3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_finite_args3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.1 = (fun _ => 1#1)
    ∧ (Cert.Pre_finite_args3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.1 = (fun _ => 1#1)
    ∧ (Cert.Pre_finite_args3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.1 = (fun _ => 1#1)
    ∧ (Cert.Pre_finite_args3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_args4 [hPre_finite_args4 : Cert.Pre_finite_args4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_args4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite_args4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite_args4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite_args4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.1 = (fun _ => 1#1)
    ∧ (Cert.Pre_finite_args4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_args4 [hPre_finite_args4 : Cert.Pre_finite_args4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_args4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite_args4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite_args4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite_args4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.1 = (fun _ => 1#1)
    ∧ (Cert.Pre_finite_args4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_args5 [hPre_finite_args5 : Cert.Pre_finite_args5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_args5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_finite_args5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.1 = (fun _ => 1#1)
    ∧ (Cert.Pre_finite_args5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_args5 [hPre_finite_args5 : Cert.Pre_finite_args5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_args5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_finite_args5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.1 = (fun _ => 1#1)
    ∧ (Cert.Pre_finite_args5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_args8 [hPre_finite_args8 : Cert.Pre_finite_args8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_args8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_args8 [hPre_finite_args8 : Cert.Pre_finite_args8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_args8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_args2 [hKernel2Ideal : Cert.Kernel2Ideal.Facts] [hPre_finite_args2 : Cert.Pre_finite_args2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_args2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_args2 [hReference2Ideal : Cert.Reference2Ideal.Facts] [hPre_finite_args2 : Cert.Pre_finite_args2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_args2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite_args3 [hKernel3Ideal : Cert.Kernel3Ideal.Facts] [hPre_finite_args3 : Cert.Pre_finite_args3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_args3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite_args3 [hReference3Ideal : Cert.Reference3Ideal.Facts] [hPre_finite_args3 : Cert.Pre_finite_args3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_args3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite_args4 [hKernel4Ideal : Cert.Kernel4Ideal.Facts] [hPre_finite_args4 : Cert.Pre_finite_args4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_args4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite_args4 [hReference4Ideal : Cert.Reference4Ideal.Facts] [hPre_finite_args4 : Cert.Pre_finite_args4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_args4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite_args5 [hKernel5Ideal : Cert.Kernel5Ideal.Facts] [hPre_finite_args5 : Cert.Pre_finite_args5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_args5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite_args5 [hReference5Ideal : Cert.Reference5Ideal.Facts] [hPre_finite_args5 : Cert.Pre_finite_args5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_args5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Kernel8Ideal_pre_finite_args8 [hKernel8Ideal : Cert.Kernel8Ideal.Facts] [hPre_finite_args8 : Cert.Pre_finite_args8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_args8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Reference8Ideal_pre_finite_args8 [hReference8Ideal : Cert.Reference8Ideal.Facts] [hPre_finite_args8 : Cert.Pre_finite_args8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_args8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_args2 [hKernel2Ideal : Cert.Kernel2Ideal.Facts] [hReference2Ideal : Cert.Reference2Ideal.Facts] [hPre_finite_args2 : Cert.Pre_finite_args2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_args2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v55) = v1 c
          ∧ r.2.mem ((c.tc : Thread Cert.Reference2Ideal.nD Cert.Reference2Ideal.τ).loc Cert.Reference2Ideal.main_v56) = v2 c
          ∧ r.2.mem ((c.tc : Thread Cert.Reference2Ideal.nD Cert.Reference2Ideal.τ).loc Cert.Reference2Ideal.main_v57) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_args3 [hKernel3Ideal : Cert.Kernel3Ideal.Facts] [hReference3Ideal : Cert.Reference3Ideal.Facts] [hPre_finite_args3 : Cert.Pre_finite_args3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_args3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)) (v3 : (c : Dev Cert.Kernel3Ideal.nD) → Buf (Elt Ideal) ((c.tc : Thread Cert.Kernel3Ideal.nD Cert.Kernel3Ideal.τ).loc Cert.Kernel3Ideal.main_v10_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_v10_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_v50) = v1 c
          ∧ r.2.mem ((c.tc : Thread Cert.Reference3Ideal.nD Cert.Reference3Ideal.τ).loc Cert.Reference3Ideal.main_v49) = v2 c
          ∧ r.2.mem ((c.tc : Thread Cert.Reference3Ideal.nD Cert.Reference3Ideal.τ).loc Cert.Reference3Ideal.main_v45) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite_args4 [hKernel4Ideal : Cert.Kernel4Ideal.Facts] [hReference4Ideal : Cert.Reference4Ideal.Facts] [hPre_finite_args4 : Cert.Pre_finite_args4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_args4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v28_0)) (v1 : (c : Dev Cert.Kernel4Ideal.nD) → Buf (Elt Ideal) ((c.tc : Thread Cert.Kernel4Ideal.nD Cert.Kernel4Ideal.τ).loc Cert.Kernel4Ideal.main_v28_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28_0) = v0 c
          ∧ r.2.mem ((c.tc : Thread Cert.Kernel4Ideal.nD Cert.Kernel4Ideal.τ).loc Cert.Kernel4Ideal.main_v28_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_v13) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite_args5 [hKernel5Ideal : Cert.Kernel5Ideal.Facts] [hReference5Ideal : Cert.Reference5Ideal.Facts] [hPre_finite_args5 : Cert.Pre_finite_args5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_args5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)) (v2 : (c : Dev Cert.Kernel5Ideal.nD) → Buf (Elt Ideal) ((c.tc : Thread Cert.Kernel5Ideal.nD Cert.Kernel5Ideal.τ).loc Cert.Kernel5Ideal.main_v7_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_v7_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v7) = v1 c
          ∧ r.2.mem ((c.tc : Thread Cert.Reference5Ideal.nD Cert.Reference5Ideal.τ).loc Cert.Reference5Ideal.main_v9) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_v20) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v17) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal_pre_finite_args8 [hKernel8Ideal : Cert.Kernel8Ideal.Facts] [hReference8Ideal : Cert.Reference8Ideal.Facts] [hPre_finite_args8 : Cert.Pre_finite_args8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_args8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v336) = v0 c
          ∧ r.2.mem ((c.tc : Thread Cert.Reference8Ideal.nD Cert.Reference8Ideal.τ).loc Cert.Reference8Ideal.main_v233) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)) (v2 : (c : Dev Cert.Kernel9Ideal.nD) → Buf (Elt Ideal) ((c.tc : Thread Cert.Kernel9Ideal.nD Cert.Kernel9Ideal.τ).loc Cert.Kernel9Ideal.main_v3_2)) (v3 : (c : Dev Cert.Kernel9Ideal.nD) → Buf (Elt Ideal) ((c.tc : Thread Cert.Kernel9Ideal.nD Cert.Kernel9Ideal.τ).loc Cert.Kernel9Ideal.main_v3_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_v3_2) = v2 c
          ∧ r.2.mem ((c.tc : Thread Cert.Kernel9Ideal.nD Cert.Kernel9Ideal.τ).loc Cert.Kernel9Ideal.main_v3_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v28) = v1 c
          ∧ r.2.mem ((c.tc : Thread Cert.Reference9Ideal.nD Cert.Reference9Ideal.τ).loc Cert.Reference9Ideal.main_v7) = v2 c
          ∧ r.2.mem ((c.tc : Thread Cert.Reference9Ideal.nD Cert.Reference9Ideal.τ).loc Cert.Reference9Ideal.main_v14) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_args : Cert.Pre_finite_args.Facts) (hPre_finite_args2 : Cert.Pre_finite_args2.Facts) (hPre_finite_args3 : Cert.Pre_finite_args3.Facts) (hPre_finite_args4 : Cert.Pre_finite_args4.Facts) (hPre_finite_args5 : Cert.Pre_finite_args5.Facts) (hPre_finite_args8 : Cert.Pre_finite_args8.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Kernel2 (hKernel2 := hKernel2)
    ∧ quiescent_Kernel2Ideal (hKernel2Ideal := hKernel2Ideal)
    ∧ quiescent_Kernel2Ideal_pre_finite_args2 (hKernel2Ideal := hKernel2Ideal) (hPre_finite_args2 := hPre_finite_args2)
    ∧ quiescent_Reference2Ideal (hReference2Ideal := hReference2Ideal)
    ∧ quiescent_Reference2Ideal_pre_finite_args2 (hReference2Ideal := hReference2Ideal) (hPre_finite_args2 := hPre_finite_args2)
    ∧ quiescent_Kernel3 (hKernel3 := hKernel3)
    ∧ quiescent_Kernel3Ideal (hKernel3Ideal := hKernel3Ideal)
    ∧ quiescent_Kernel3Ideal_pre_finite_args3 (hKernel3Ideal := hKernel3Ideal) (hPre_finite_args3 := hPre_finite_args3)
    ∧ quiescent_Reference3Ideal (hReference3Ideal := hReference3Ideal)
    ∧ quiescent_Reference3Ideal_pre_finite_args3 (hReference3Ideal := hReference3Ideal) (hPre_finite_args3 := hPre_finite_args3)
    ∧ quiescent_Kernel4 (hKernel4 := hKernel4)
    ∧ quiescent_Kernel4Ideal (hKernel4Ideal := hKernel4Ideal)
    ∧ quiescent_Kernel4Ideal_pre_finite_args4 (hKernel4Ideal := hKernel4Ideal) (hPre_finite_args4 := hPre_finite_args4)
    ∧ quiescent_Reference4Ideal (hReference4Ideal := hReference4Ideal)
    ∧ quiescent_Reference4Ideal_pre_finite_args4 (hReference4Ideal := hReference4Ideal) (hPre_finite_args4 := hPre_finite_args4)
    ∧ quiescent_Kernel5 (hKernel5 := hKernel5)
    ∧ quiescent_Kernel5Ideal (hKernel5Ideal := hKernel5Ideal)
    ∧ quiescent_Kernel5Ideal_pre_finite_args5 (hKernel5Ideal := hKernel5Ideal) (hPre_finite_args5 := hPre_finite_args5)
    ∧ quiescent_Reference5Ideal (hReference5Ideal := hReference5Ideal)
    ∧ quiescent_Reference5Ideal_pre_finite_args5 (hReference5Ideal := hReference5Ideal) (hPre_finite_args5 := hPre_finite_args5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_args8 (hKernel8Ideal := hKernel8Ideal) (hPre_finite_args8 := hPre_finite_args8)
    ∧ quiescent_Reference8Ideal (hReference8Ideal := hReference8Ideal)
    ∧ quiescent_Reference8Ideal_pre_finite_args8 (hReference8Ideal := hReference8Ideal) (hPre_finite_args8 := hPre_finite_args8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Kernel2_Kernel2Ideal
    ∧ algebraic_Kernel2Ideal_Reference2Ideal_pre_finite_args2 (hKernel2Ideal := hKernel2Ideal) (hReference2Ideal := hReference2Ideal) (hPre_finite_args2 := hPre_finite_args2)
    ∧ preserves_Kernel3_Kernel3Ideal
    ∧ algebraic_Kernel3Ideal_Reference3Ideal_pre_finite_args3 (hKernel3Ideal := hKernel3Ideal) (hReference3Ideal := hReference3Ideal) (hPre_finite_args3 := hPre_finite_args3)
    ∧ preserves_Kernel4_Kernel4Ideal
    ∧ algebraic_Kernel4Ideal_Reference4Ideal_pre_finite_args4 (hKernel4Ideal := hKernel4Ideal) (hReference4Ideal := hReference4Ideal) (hPre_finite_args4 := hPre_finite_args4)
    ∧ preserves_Kernel5_Kernel5Ideal
    ∧ algebraic_Kernel5Ideal_Reference5Ideal_pre_finite_args5 (hKernel5Ideal := hKernel5Ideal) (hReference5Ideal := hReference5Ideal) (hPre_finite_args5 := hPre_finite_args5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_args8 (hKernel8Ideal := hKernel8Ideal) (hReference8Ideal := hReference8Ideal) (hPre_finite_args8 := hPre_finite_args8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite_args.lean ====
abbrev S4096x1536 : Shape := ⟨2, ![4096, 1536]⟩
abbrev S1x1024x1536 : Shape := ⟨3, ![1, 1024, 1536]⟩
abbrev S1x4096x1024 : Shape := ⟨3, ![1, 4096, 1024]⟩
abbrev S4096x1024 : Shape := ⟨2, ![4096, 1024]⟩
abbrev S1x1024 : Shape := ⟨2, ![1, 1024]⟩
abbrev S_ : Shape := ⟨0, ![]⟩

class Facts : Prop where
  bcast_S_S4096x1536 : S_.BroadcastsInDim S4096x1536 (![] : Fin 0 → Fin S4096x1536.rank)
  bcast_S_S1x1024x1536 : S_.BroadcastsInDim S1x1024x1536 (![] : Fin 0 → Fin S1x1024x1536.rank)
  bcast_S_S1x4096x1024 : S_.BroadcastsInDim S1x4096x1024 (![] : Fin 0 → Fin S1x4096x1024.rank)
  bcast_S_S1x1024 : S_.BroadcastsInDim S1x1024 (![] : Fin 0 → Fin S1x1024.rank)

variable [Facts]

def fn {F : FTy → Type} [FloatOps F] (main_arg0 : FVec F S4096x1536 .f32) (main_arg1 : FVec F S1x1024x1536 .f32) (main_arg2 : FVec F S1x4096x1024 .f32) (main_arg3 : FVec F S4096x1024 .f32) (main_arg4 : FVec F S1x1024 .f32) : IVec S4096x1536 1 × IVec S1x1024x1536 1 × IVec S1x4096x1024 1 × IVec S1x1024 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S1x1024x1536 .f32 := Host.absf main_arg1
  let main_cst_0 : FVec F S_ .f32 := constant S_ .f32 0x7F800000#32
  let main_v4 : FVec F S1x1024x1536 .f32 := broadcastInDim S1x1024x1536 ![] bcast_S_S1x1024x1536 main_cst_0
  let main_v5 : IVec S1x1024x1536 1 := cmpf .olt main_v3 main_v4
  let main_v6 : FVec F S1x4096x1024 .f32 := Host.absf main_arg2
  let main_cst_1 : FVec F S_ .f32 := constant S_ .f32 0x7F800000#32
  let main_v7 : FVec F S1x4096x1024 .f32 := broadcastInDim S1x4096x1024 ![] bcast_S_S1x4096x1024 main_cst_1
  let main_v8 : IVec S1x4096x1024 1 := cmpf .olt main_v6 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Pre_finite_args2.lean ====
abbrev S4096x1024 : Shape := ⟨2, ![4096, 1024]⟩
abbrev S4096x2816 : Shape := ⟨2, ![4096, 2816]⟩
abbrev S1x2816x1024 : Shape := ⟨3, ![1, 2816, 1024]⟩
abbrev S1024 : Shape := ⟨1, ![1024]⟩
abbrev S1x4096x1024 : Shape := ⟨3, ![1, 4096, 1024]⟩
abbrev S_ : Shape := ⟨0, ![]⟩

class Facts : Prop where
  bcast_S_S4096x1024 : S_.BroadcastsInDim S4096x1024 (![] : Fin 0 → Fin S4096x1024.rank)
  bcast_S_S4096x2816 : S_.BroadcastsInDim S4096x2816 (![] : Fin 0 → Fin S4096x2816.rank)
  bcast_S_S1x2816x1024 : S_.BroadcastsInDim S1x2816x1024 (![] : Fin 0 → Fin S1x2816x1024.rank)
  bcast_S_S1024 : S_.BroadcastsInDim S1024 (![] : Fin 0 → Fin S1024.rank)
  bcast_S_S1x4096x1024 : S_.BroadcastsInDim S1x4096x1024 (![] : Fin 0 → Fin S1x4096x1024.rank)

variable [Facts]

def fn {F : FTy → Type} [FloatOps F] (main_arg0 : FVec F S4096x1024 .f32) (main_arg1 : FVec F S4096x2816 .f32) (main_arg2 : FVec F S1x2816x1024 .f32) (main_arg3 : FVec F S1024 .f32) (main_arg4 : FVec F S1x4096x1024 .f32) : IVec S4096x1024 1 × IVec S4096x2816 1 × IVec S1x2816x1024 1 × IVec S1024 1 × IVec S1x4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x2816 .f32 := Host.absf main_arg1
  let main_cst_0 : FVec F S_ .f32 := constant S_ .f32 0x7F800000#32
  let main_v4 : FVec F S4096x2816 .f32 := broadcastInDim S4096x2816 ![] bcast_S_S4096x2816 main_cst_0
  let main_v5 : IVec S4096x2816 1 := cmpf .olt main_v3 main_v4
  let main_v6 : FVec F S1x2816x1024 .f32 := Host.absf main_arg2
  let main_cst_1 : FVec F S_ .f32 := constant S_ .f32 0x7F800000#32
  let main_v7 : FVec F S1x2816x1024 .f32 := broadcastInDim S1x2816x1024 ![] bcast_S_S1x2816x1024 main_cst_1
  let main_v8 : IVec S1x2816x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1x4096x1024 .f32 := Host.absf main_arg4
  let main_cst_3 : FVec F S_ .f32 := constant S_ .f32 0x7F800000#32
  let main_v13 : FVec F S1x4096x1024 .f32 := broadcastInDim S1x4096x1024 ![] bcast_S_S1x4096x1024 main_cst_3
  let main_v14 : IVec S1x4096x1024 1 := cmpf .olt main_v12 main_v13
  (main_v2, main_v5, main_v8, main_v11, main_v14)
-- ==== Pre_finite_args3.lean ====
abbrev S4096x2816 : Shape := ⟨2, ![4096, 2816]⟩
abbrev S1x1024x2816 : Shape := ⟨3, ![1, 1024, 2816]⟩
abbrev S4096x1024 : Shape := ⟨2, ![4096, 1024]⟩
abbrev S1x1024 : Shape := ⟨2, ![1, 1024]⟩
abbrev S1x1024x1024 : Shape := ⟨3, ![1, 1024, 1024]⟩
abbrev S_ : Shape := ⟨0, ![]⟩

class Facts : Prop where
  bcast_S_S4096x2816 : S_.BroadcastsInDim S4096x2816 (![] : Fin 0 → Fin S4096x2816.rank)
  bcast_S_S1x1024x2816 : S_.BroadcastsInDim S1x1024x2816 (![] : Fin 0 → Fin S1x1024x2816.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x2816 .f32) (main_arg1 : FVec F S4096x2816 .f32) (main_arg2 : FVec F S1x1024x2816 .f32) (main_arg3 : FVec F S1x1024x2816 .f32) (main_arg4 : FVec F S4096x1024 .f32) (main_arg5 : FVec F S4096x1024 .f32) (main_arg6 : FVec F S1x1024 .f32) (main_arg7 : FVec F S1x1024x1024 .f32) : IVec S4096x2816 1 × IVec S4096x2816 1 × IVec S1x1024x2816 1 × IVec S1x1024x2816 1 × IVec S4096x1024 1 × IVec S1x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S4096x2816 .f32 := Host.absf main_arg1
  let main_cst_0 : FVec F S_ .f32 := constant S_ .f32 0x7F800000#32
  let main_v4 : FVec F S4096x2816 .f32 := broadcastInDim S4096x2816 ![] bcast_S_S4096x2816 main_cst_0
  let main_v5 : IVec S4096x2816 1 := cmpf .olt main_v3 main_v4
  let main_v6 : FVec F S1x1024x2816 .f32 := Host.absf main_arg2
  let main_cst_1 : FVec F S_ .f32 := constant S_ .f32 0x7F800000#32
  let main_v7 : FVec F S1x1024x2816 .f32 := broadcastInDim S1x1024x2816 ![] bcast_S_S1x1024x2816 main_cst_1
  let main_v8 : IVec S1x1024x2816 1 := cmpf .olt main_v6 main_v7
  let main_v9 : FVec F S1x1024x2816 .f32 := Host.absf main_arg3
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S1x1024 .f32 := Host.absf main_arg6
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Pre_finite_args4.lean ====
abbrev S4096x1024 : Shape := ⟨2, ![4096, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S4096x1024 : S_.BroadcastsInDim S4096x1024 (![] : Fin 0 → Fin S4096x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)

variable [Facts]

def fn {F : FTy → Type} [FloatOps F] (main_arg0 : FVec F S4096x1024 .f32) (main_arg1 : FVec F S1x1024x2816 .f32) (main_arg2 : FVec F S1x1024x2816 .f32) (main_arg3 : FVec F S1x2816x1024 .f32) (main_arg4 : FVec F S4096x1024 .f32) : IVec S4096x1024 1 × IVec S1x1024x2816 1 × IVec S1x1024x2816 1 × IVec S1x2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024x2816 .f32 := Host.absf main_arg1
  let main_cst_0 : FVec F S_ .f32 := constant S_ .f32 0x7F800000#32
  let main_v4 : FVec F S1x1024x2816 .f32 := broadcastInDim S1x1024x2816 ![] bcast_S_S1x1024x2816 main_cst_0
  let main_v5 : IVec S1x1024x2816 1 := cmpf .olt main_v3 main_v4
  let main_v6 : FVec F S1x1024x2816 .f32 := Host.absf main_arg2
  let main_cst_1 : FVec F S_ .f32 := constant S_ .f32 0x7F800000#32
  let main_v7 : FVec F S1x1024x2816 .f32 := broadcastInDim S1x1024x2816 ![] bcast_S_S1x1024x2816 main_cst_1
  let main_v8 : IVec S1x1024x2816 1 := cmpf .olt main_v6 main_v7
  let main_v9 : FVec F S1x2816x1024 .f32 := Host.absf main_arg3
  let main_cst_2 : FVec F S_ .f32 := constant S_ .f32 0x7F800000#32
  let main_v10 : FVec F S1x2816x1024 .f32 := broadcastInDim S1x2816x1024 ![] bcast_S_S1x2816x1024 main_cst_2
  let main_v11 : IVec S1x2816x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite_args5.lean ====
abbrev S4096x1024 : Shape := ⟨2, ![4096, 1024]⟩
abbrev S1x1024x2816 : Shape := ⟨3, ![1, 1024, 2816]⟩
abbrev S_ : Shape := ⟨0, ![]⟩

class Facts : Prop where
  bcast_S_S4096x1024 : S_.BroadcastsInDim S4096x1024 (![] : Fin 0 → Fin S4096x1024.rank)
  bcast_S_S1x1024x2816 : S_.BroadcastsInDim S1x1024x2816 (![] : Fin 0 → Fin S1x1024x2816.rank)

variable [Facts]

def fn {F : FTy → Type} [FloatOps F] (main_arg0 : FVec F S4096x1024 .f32) (main_arg1 : FVec F S1x1024x2816 .f32) (main_arg2 : FVec F S1x1024x2816 .f32) : IVec S4096x1024 1 × IVec S1x1024x2816 1 × IVec S1x1024x2816 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024x2816 .f32 := Host.absf main_arg1
  let main_cst_0 : FVec F S_ .f32 := constant S_ .f32 0x7F800000#32
  let main_v4 : FVec F S1x1024x2816 .f32 := broadcastInDim S1x1024x2816 ![] bcast_S_S1x1024x2816 main_cst_0
  let main_v5 : IVec S1x1024x2816 1 := cmpf .olt main_v3 main_v4
  let main_v6 : FVec F S1x1024x2816 .f32 := Host.absf main_arg2
  let main_cst_1 : FVec F S_ .f32 := constant S_ .f32 0x7F800000#32
  let main_v7 : FVec F S1x1024x2816 .f32 := broadcastInDim S1x1024x2816 ![] bcast_S_S1x1024x2816 main_cst_1
  let main_v8 : IVec S1x1024x2816 1 := cmpf .olt main_v6 main_v7
  (main_v2, main_v5, main_v8)
-- ==== Pre_finite_args8.lean ====
abbrev S4096x1536 : Shape := ⟨2, ![4096, 1536]⟩
abbrev S1x31x512 : Shape := ⟨3, ![1, 31, 512]⟩
abbrev S1x512 : Shape := ⟨2, ![1, 512]⟩
abbrev S1x4x128x128 : Shape := ⟨4, ![1, 4, 128, 128]⟩
abbrev S_ : Shape := ⟨0, ![]⟩

class Facts : Prop where
  bcast_S_S4096x1536 : S_.BroadcastsInDim S4096x1536 (![] : Fin 0 → Fin S4096x1536.rank)

variable [Facts]

def fn {F : FTy → Type} [FloatOps F] (main_arg0 : FVec F S4096x1536 .f32) (main_arg1 : FVec F S1x31x512 .f32) (main_arg2 : FVec F S1x512 .f32) (main_arg3 : FVec F S1x512 .f32) (main_arg4 : FVec F S1x512 .f32) (main_arg5 : FVec F S1x4x128x128 .f32) (main_arg6 : FVec F S1x512 .f32) : IVec S4096x1536 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  main_v2
-- ==== Kernel.lean ====
abbrev S4096x1536 : Shape := ⟨2, ![4096, 1536]⟩
abbrev S1x1024x1536 : Shape := ⟨3, ![1, 1024, 1536]⟩
abbrev S1x4096x1024 : Shape := ⟨3, ![1, 4096, 1024]⟩
abbrev S4096x1024 : Shape := ⟨2, ![4096, 1024]⟩
abbrev S1x1024 : Shape := ⟨2, ![1, 1024]⟩
abbrev S1024x1536 : Shape := ⟨2, ![1024, 1536]⟩
abbrev S1536x1024 : Shape := ⟨2, ![1536, 1024]⟩
abbrev S512x1536 : Shape := ⟨2, ![512, 1536]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 11
  | .smem => 0
  | _ => 0

abbrev bufTy : (tb : Table) → Fin (tcTables nBuf tb) → BufTy
  | .hbm, ⟨0, _⟩ => ⟨S4096x1536, .f32⟩
  | .hbm, ⟨1, _⟩ => ⟨S1x1024x1536, .f32⟩
  | .hbm, ⟨2, _⟩ => ⟨S1x4096x1024, .f32⟩
  | .hbm, ⟨3, _⟩ => ⟨S4096x1024, .f32⟩
  | .hbm, ⟨4, _⟩ => ⟨S1x1024, .f32⟩
  | .hbm, ⟨5, _⟩ => ⟨S4096x1536, .bf16⟩
  | .hbm, ⟨6, _⟩ => ⟨S1024x1536, .f32⟩
  | .hbm, ⟨7, _⟩ => ⟨S1536x1024, .f32⟩
  | .hbm, ⟨8, _⟩ => ⟨S1536x1024, .bf16⟩
  | .hbm, ⟨9, _⟩ => ⟨S4096x1024, .f32⟩
  | .hbm, ⟨10, _⟩ => ⟨S4096x1024, .f32⟩
  | .hbm, ⟨11, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1536x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v37 : BitVec 32 := Scalar.extui v34
  let c0_i32_17 : BitVec 32 := 0#32
  let v38 : BitVec 1 := Scalar.cmpi .ne v37 c0_i32_17
  v38

def k0_cond2 (i : grid0.Coords) : BitVec 1 :=
  let arg0 : BitVec 32 := BitVec.ofNat 32 (i 0).val
  let c0_i32 : BitVec 32 := 0#32
  let v34 : BitVec 1 := Scalar.cmpi .eq arg0 c0_i32
  let v_true : BitVec 1 := 1#1
  let v39 : BitVec 1 := Scalar.xori v34 v_true
  let v40 : BitVec 32 := Scalar.extui v39
  let c0_i32_18 : BitVec 32 := 0#32
  let v41 : BitVec 1 := Scalar.cmpi .ne v40 c0_i32_18
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096x1536 : Shape := ⟨2, ![4096, 1536]⟩
abbrev S1x1024x1536 : Shape := ⟨3, ![1, 1024, 1536]⟩
abbrev S1x4096x1024 : Shape := ⟨3, ![1, 4096, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x1536 : Shape := ⟨2, ![1024, 1536]⟩

abbrev nBuf : Space → Nat
  | .hbm => 59
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S1x1024x1536, .f32⟩
  | .hbm, ⟨2, _⟩ => ⟨S1x4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1024x1536, .f32⟩
  | .hbm, ⟨28, _⟩ => ⟨S4096x1536, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x1024, .f32⟩
  | .hbm, ⟨57, _⟩ => ⟨S1x4096x1024, .f32⟩
  | .hbm, ⟨58, _⟩ => ⟨S4096x1024, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel2.lean ====
abbrev S4096x1024 : Shape := ⟨2, ![4096, 1024]⟩
abbrev S4096x2816 : Shape := ⟨2, ![4096, 2816]⟩
abbrev S1x2816x1024 : Shape := ⟨3, ![1, 2816, 1024]⟩
abbrev S1024 : Shape := ⟨1, ![1024]⟩
abbrev S1x4096x1024 : Shape := ⟨3, ![1, 4096, 1024]⟩
abbrev S2816x1024 : Shape := ⟨2, ![2816, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 14
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S1x2816x1024, .f32⟩
  | .hbm, ⟨3, _⟩ => ⟨S1024, .f32⟩
  | .hbm, ⟨4, _⟩ => ⟨S1x4096x1024, .f32⟩
  | .hbm, ⟨5, _⟩ => ⟨S4096x2816, .bf16⟩
  | .hbm, ⟨6, _⟩ => ⟨S2816x1024, .f32⟩
  | .hbm, ⟨7, _⟩ => ⟨S2816x1024, .bf16⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S1x128, .f32⟩
  | .hbm, ⟨13, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v24 : BitVec 1 := Scalar.cmpi .eq arg0 c0_i32
  let v32 : BitVec 32 := Scalar.extui v24
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32 : BitVec 32 := 0#32
  let v24 : BitVec 1 := Scalar.cmpi .eq arg0 c0_i32
  let v_true : BitVec 1 := 1#1
  let v34 : BitVec 1 := Scalar.xori v24 v_true
  let v35 : BitVec 32 := Scalar.extui v34
  let c0_i32_15 : BitVec 32 := 0#32
  let v36 : BitVec 1 := Scalar.cmpi .ne v35 c0_i32_15
  v36

def k0_cond3 (i : grid0.Coords) : BitVec 1 :=
  let arg0 : BitVec 32 := BitVec.ofNat 32 (i 0).val
  let c0_i32_26 : BitVec 32 := 0#32
  let v65 : BitVec 1 := Scalar.cmpi .eq arg0 c0_i32_26
  let v68 : BitVec 32 := Scalar.extui v65
  let c0_i32_28 : BitVec 32 := 0#32
  let v69 : BitVec 1 := Scalar.cmpi .ne v68 c0_i32_28
  v69

def k0_cond4 (i : grid0.Coords) : BitVec 1 :=
  let arg0 : BitVec 32 := BitVec.ofNat 32 (i 0).val
  let c0_i32_26 : BitVec 32 := 0#32
  let v65 : BitVec 1 := Scalar.cmpi .eq arg0 c0_i32_26
  let true_29 : BitVec 1 := 1#1
  let v70 : BitVec 1 := Scalar.xori v65 true_29
  let v71 : BitVec 32 := Scalar.extui v70
  let c0_i32_30 : BitVec 32 := 0#32
  let v72 : BitVec 1 := Scalar.cmpi .ne v71 c0_i32_30
  v72

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S4096x1024 : Shape := ⟨2, ![4096, 1024]⟩
abbrev S4096x2816 : Shape := ⟨2, ![4096, 2816]⟩
abbrev S1x2816x1024 : Shape := ⟨3, ![1, 2816, 1024]⟩
abbrev S1024 : Shape := ⟨1, ![1024]⟩
abbrev S1x4096x1024 : Shape := ⟨3, ![1, 4096, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S1x2816x1024, .f32⟩
  | .hbm, ⟨3, _⟩ => ⟨S1024, .f32⟩
  | .hbm, ⟨4, _⟩ => ⟨S1x4096x1024, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .bf16⟩
  | .hbm, ⟨78, _⟩ => ⟨S1x128, .f32⟩
  | .hbm, ⟨79, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Kernel3.lean ====
abbrev S4096x2816 : Shape := ⟨2, ![4096, 2816]⟩
abbrev S1x1024x2816 : Shape := ⟨3, ![1, 1024, 2816]⟩
abbrev S4096x1024 : Shape := ⟨2, ![4096, 1024]⟩
abbrev S1x1024 : Shape := ⟨2, ![1, 1024]⟩
abbrev S1x1024x1024 : Shape := ⟨3, ![1, 1024, 1024]⟩
abbrev S1024x2816 : Shape := ⟨2, ![1024, 2816]⟩
abbrev S2816x1024 : Shape := ⟨2, ![2816, 1024]⟩
abbrev S1024x1024 : Shape := ⟨2, ![1024, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 22
  | .vmem => 19
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S1x1024x2816, .f32⟩
  | .hbm, ⟨3, _⟩ => ⟨S1x1024x2816, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1x1024x1024, .f32⟩
  | .hbm, ⟨8, _⟩ => ⟨S4096x2816, .bf16⟩
  | .hbm, ⟨9, _⟩ => ⟨S4096x2816, .bf16⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S1024x2816, .f32⟩
  | .hbm, ⟨14, _⟩ => ⟨S2816x1024, .f32⟩
  | .hbm, ⟨15, _⟩ => ⟨S2816x1024, .bf16⟩
  | .hbm, ⟨16, _⟩ => ⟨S1024x1024, .f32⟩
  | .hbm, ⟨17, _⟩ => ⟨S1024x1024, .bf16⟩
  | .hbm, ⟨18, _⟩ => ⟨S4096x1024, .f32⟩
  | .hbm, ⟨19, _⟩ => ⟨S4096x1024, .bf16⟩
  | .hbm, ⟨20, _⟩ => ⟨S4096x1024, .f32⟩
  | .hbm, ⟨21, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v45 : BitVec 1 := Scalar.cmpi .eq arg0 c0_i32
  let v48 : BitVec 32 := Scalar.extui v45
  let c0_i32_29 : BitVec 32 := 0#32
  let v49 : BitVec 1 := Scalar.cmpi .ne v48 c0_i32_29
  v49

def k0_cond2 (i : grid0.Coords) : BitVec 1 :=
  let arg0 : BitVec 32 := BitVec.ofNat 32 (i 0).val
  let c0_i32 : BitVec 32 := 0#32
  let v45 : BitVec 1 := Scalar.cmpi .eq arg0 c0_i32
  let v_true : BitVec 1 := 1#1
  let v50 : BitVec 1 := Scalar.xori v45 v_true
  let v51 : BitVec 32 := Scalar.extui v50
  let c0_i32_30 : BitVec 32 := 0#32
  let v52 : BitVec 1 := Scalar.cmpi .ne v51 c0_i32_30
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S4096x2816 : Shape := ⟨2, ![4096, 2816]⟩
abbrev S1x1024x2816 : Shape := ⟨3, ![1, 1024, 2816]⟩
abbrev S4096x1024 : Shape := ⟨2, ![4096, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S1024x1024 : Shape := ⟨2, ![1024, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S1x1024x2816, .f32⟩
  | .hbm, ⟨3, _⟩ => ⟨S1x1024x2816, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1x1024x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1024x2816, .f32⟩
  | .hbm, ⟨30, _⟩ => ⟨S4096x2816, .f32⟩
  | .hbm, ⟨31, _⟩ => ⟨S1024x2816, .f32⟩
  | .hbm, ⟨32, _⟩ => ⟨S4096x2816, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S1x1024, .f32⟩
  | .hbm, ⟨63, _⟩ => ⟨S_, .f32⟩
  | .hbm, ⟨64, _⟩ => ⟨S4096x1024, .f32⟩
  | .hbm, ⟨65, _⟩ => ⟨S1024x1024, .f32⟩
  | .hbm, ⟨66, _⟩ => ⟨S4096x1024, .f32⟩
  | .hbm, ⟨67, _⟩ => ⟨S4096x1024, .f32⟩
  | .hbm, ⟨68, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Kernel4.lean ====
abbrev S4096x1024 : Shape := ⟨2, ![4096, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S1024x1024 : Shape := ⟨2, ![1024, 1024]⟩
abbrev S1408x1024 : Shape := ⟨2, ![1408, 1024]⟩
abbrev S1024x1408 : Shape := ⟨2, ![1024, 1408]⟩
abbrev S512x1024 : Shape := ⟨2, ![512, 1024]⟩
abbrev S1024x512 : Shape := ⟨2, ![1024, 512]⟩
abbrev S384x1024 : Shape := ⟨2, ![384, 1024]⟩
abbrev S1024x384 : Shape := ⟨2, ![1024, 384]⟩

abbrev nBuf : Space → Nat
  | .hbm => 39
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S4096x1024, .f32⟩
  | .hbm, ⟨5, _⟩ => ⟨S4096x1024, .bf16⟩
  | .hbm, ⟨6, _⟩ => ⟨S1024x2816, .f32⟩
  | .hbm, ⟨7, _⟩ => ⟨S2816x1024, .f32⟩
  | .hbm, ⟨8, _⟩ => ⟨S2816x1024, .bf16⟩
  | .hbm, ⟨9, _⟩ => ⟨S1024x2816, .f32⟩
  | .hbm, ⟨10, _⟩ => ⟨S2816x1024, .f32⟩
  | .hbm, ⟨11, _⟩ => ⟨S2816x1024, .bf16⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .bf16⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .bf16⟩
  | .hbm, ⟨34, _⟩ => ⟨S4096x1024, .bf16⟩
  | .hbm, ⟨35, _⟩ => ⟨S2816x1024, .f32⟩
  | .hbm, ⟨36, _⟩ => ⟨S2816x1024, .bf16⟩
  | .hbm, ⟨37, _⟩ => ⟨S4096x2816, .bf16⟩
  | .hbm, ⟨38, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S4096x1024 : Shape := ⟨2, ![4096, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S4096x2816 : Shape := ⟨2, ![4096, 2816]⟩
abbrev S_ : Shape := ⟨0, ![]⟩
abbrev S2816x1024 : Shape := ⟨2, ![2816, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S4096x1024, .f32⟩
  | .hbm, ⟨5, _⟩ => ⟨S1024x2816, .f32⟩
  | .hbm, ⟨6, _⟩ => ⟨S4096x2816, .f32⟩
  | .hbm, ⟨7, _⟩ => ⟨S1024x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S2816x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .bf16⟩
  | .hbm, ⟨33, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v4_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v4_1 : Ref sig .tc := ⟨.hbm, 20, rfl⟩
abbrev main_v4_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩

abbrev nD : Nat := 1
abbrev τ : Topo := Topo.v7x

variable {F : FTy → Type} [FloatOps F]
-- ==== Kernel5.lean ====
abbrev S4096x1024 : Shape := ⟨2, ![4096, 1024]⟩
abbrev S1x1024x2816 : Shape := ⟨3, ![1, 1024, 2816]⟩
abbrev S1024x2816 : Shape := ⟨2, ![1024, 2816]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩
abbrev S512x1024 : Shape := ⟨2, ![512, 1024]⟩
abbrev S1024x512 : Shape := ⟨2, ![1024, 512]⟩
abbrev S384x1024 : Shape := ⟨2, ![384, 1024]⟩
abbrev S1024x384 : Shape := ⟨2, ![1024, 384]⟩

abbrev nBuf : Space → Nat
  | .hbm => 13
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024x2816, .f32⟩
  | .hbm, ⟨2, _⟩ => ⟨S1x1024x2816, .f32⟩
  | .hbm, ⟨3, _⟩ => ⟨S4096x1024, .bf16⟩
  | .hbm, ⟨4, _⟩ => ⟨S1024x2816, .f32⟩
  | .hbm, ⟨5, _⟩ => ⟨S2816x1024, .f32⟩
  | .hbm, ⟨6, _⟩ => ⟨S2816x1024, .bf16⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S4096x2816, .bf16⟩
  | .hbm, ⟨11, _⟩ => ⟨S4096x2816, .bf16⟩
  | .hbm, ⟨12, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4096x1024 : Shape := ⟨2, ![4096, 1024]⟩
abbrev S1x1024x2816 : Shape := ⟨3, ![1, 1024, 2816]⟩
abbrev S1024x2816 : Shape := ⟨2, ![1024, 2816]⟩
abbrev S4096x2816 : Shape := ⟨2, ![4096, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x2816, .f32⟩
  | .hbm, ⟨2, _⟩ => ⟨S1x1024x2816, .f32⟩
  | .hbm, ⟨3, _⟩ => ⟨S1024x2816, .f32⟩
  | .hbm, ⟨4, _⟩ => ⟨S4096x2816, .f32⟩
  | .hbm, ⟨5, _⟩ => ⟨S1024x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .bf16⟩
  | .hbm, ⟨25, _⟩ => ⟨S4096x2816, .bf16⟩
  | .hbm, ⟨26, _⟩ => ⟨S4096x2816, .f32⟩
  | .hbm, ⟨27, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1x1024x1536 : Shape := ⟨3, ![1, 1024, 1536]⟩
abbrev S1x1536 : Shape := ⟨2, ![1, 1536]⟩
abbrev S1024x1536 : Shape := ⟨2, ![1024, 1536]⟩
abbrev S1536x1024 : Shape := ⟨2, ![1536, 1024]⟩
abbrev S4096x1536 : Shape := ⟨2, ![4096, 1536]⟩
abbrev S512x1024 : Shape := ⟨2, ![512, 1024]⟩
abbrev S512x1536 : Shape := ⟨2, ![512, 1536]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x1536, .f32⟩
  | .hbm, ⟨3, _⟩ => ⟨S1x1536, .f32⟩
  | .hbm, ⟨4, _⟩ => ⟨S1024x1536, .f32⟩
  | .hbm, ⟨5, _⟩ => ⟨S1536x1024, .f32⟩
  | .hbm, ⟨6, _⟩ => ⟨S1536x1024, .bf16⟩
  | .hbm, ⟨7, _⟩ => ⟨S4096x1536, .f32⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1536x1024, .bf16⟩
  | .local _ .vmem, ⟨4, _⟩ => ⟨S1x1536, .f32⟩
  | .local _ .vmem, ⟨5, _⟩ => ⟨S512x1536, .f32⟩
  | .local _ .vmem, ⟨6, _⟩ => ⟨S512x1536, .f32⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S4096x1024 : Shape := ⟨2, ![4096, 1024]⟩
abbrev S1x1024 : Shape := ⟨2, ![1, 1024]⟩
abbrev S1x1024x1536 : Shape := ⟨3, ![1, 1024, 1536]⟩
abbrev S1x1536 : Shape := ⟨2, ![1, 1536]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x1536 : Shape := ⟨2, ![1024, 1536]⟩
abbrev S4096x1536 : Shape := ⟨2, ![4096, 1536]⟩
abbrev S1536 : Shape := ⟨1, ![1536]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x1536, .f32⟩
  | .hbm, ⟨3, _⟩ => ⟨S1x1536, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1024x1536, .f32⟩
  | .hbm, ⟨22, _⟩ => ⟨S4096x1536, .f32⟩
  | .hbm, ⟨23, _⟩ => ⟨S1536, .f32⟩
  | .hbm, ⟨24, _⟩ => ⟨S1x1536, .f32⟩
  | .hbm, ⟨25, _⟩ => ⟨S4096x1536, .f32⟩
  | .hbm, ⟨26, _⟩ => ⟨S4096x1536, .f32⟩
  | .hbm, ⟨27, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel7.lean ====
abbrev S4096x1024 : Shape := ⟨2, ![4096, 1024]⟩
abbrev S1x1024x1024 : Shape := ⟨3, ![1, 1024, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024x1024, .f32⟩
  | .hbm, ⟨3, _⟩ => ⟨S1x1024, .f32⟩
  | .hbm, ⟨4, _⟩ => ⟨S4096x1024, .bf16⟩
  | .hbm, ⟨5, _⟩ => ⟨S1024x1024, .f32⟩
  | .hbm, ⟨6, _⟩ => ⟨S1024x1024, .bf16⟩
  | .hbm, ⟨7, _⟩ => ⟨S4096x1024, .f32⟩
  | .hbm, ⟨8, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S4096x1024 : Shape := ⟨2, ![4096, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024x1024, .f32⟩
  | .hbm, ⟨3, _⟩ => ⟨S1x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel8.lean ====
abbrev S4096x1536 : Shape := ⟨2, ![4096, 1536]⟩
abbrev S1x31x512 : Shape := ⟨3, ![1, 31, 512]⟩
abbrev S1x512 : Shape := ⟨2, ![1, 512]⟩
abbrev S1x4x128x128 : Shape := ⟨4, ![1, 4, 128, 128]⟩
abbrev S31x512 : Shape := ⟨2, ![31, 512]⟩
abbrev S31x4x1x128 : Shape := ⟨4, ![31, 4, 1, 128]⟩
abbrev S4x31x1x128 : Shape := ⟨4, ![4, 31, 1, 128]⟩
abbrev S4x128x128 : Shape := ⟨3, ![4, 128, 128]⟩
abbrev S4096x1024 : Shape := ⟨2, ![4096, 1024]⟩
abbrev S4096x512 : Shape := ⟨2, ![4096, 512]⟩
abbrev S512x1536 : Shape := ⟨2, ![512, 1536]⟩
abbrev S32x1536 : Shape := ⟨2, ![32, 1536]⟩
abbrev S512x1024 : Shape := ⟨2, ![512, 1024]⟩
abbrev S512x512 : Shape := ⟨2, ![512, 512]⟩
abbrev S8x544x512 : Shape := ⟨3, ![8, 544, 512]⟩
abbrev S544x512 : Shape := ⟨2, ![544, 512]⟩
abbrev S32x512 : Shape := ⟨2, ![32, 512]⟩
abbrev S1x32x512 : Shape := ⟨3, ![1, 32, 512]⟩
abbrev S1x512x512 : Shape := ⟨3, ![1, 512, 512]⟩
abbrev S1x536x512 : Shape := ⟨3, ![1, 536, 512]⟩
abbrev S536x512 : Shape := ⟨2, ![536, 512]⟩
abbrev S64x128 : Shape := ⟨2, ![64, 128]⟩
abbrev S1x64x128 : Shape := ⟨3, ![1, 64, 128]⟩
abbrev S1x1x1x128 : Shape := ⟨4, ![1, 1, 1, 128]⟩
abbrev S1x128 : Shape := ⟨2, ![1, 128]⟩
abbrev S512 : Shape := ⟨1, ![512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩

abbrev nBuf : Space → Nat
  | .hbm => 13
  | .vmem => 16
  | .smem => 0
  | _ => 0

abbrev bufTy : (tb : Table) → Fin (tcTables nBuf tb) → BufTy
  | .hbm, ⟨0, _⟩ => ⟨S4096x1536, .f32⟩
  | .hbm, ⟨1, _⟩ => ⟨S1x31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x4x128x128, .f32⟩
  | .hbm, ⟨6, _⟩ => ⟨S1x512, .f32⟩
  | .hbm, ⟨7, _⟩ => ⟨S31x512, .f32⟩
  | .hbm, ⟨8, _⟩ => ⟨S31x4x1x128, .f32⟩
  | .hbm, ⟨9, _⟩ => ⟨S4x31x1x128, .f32⟩
  | .hbm, ⟨10, _⟩ => ⟨S4x128x128, .f32⟩
  | .hbm, ⟨11, _⟩ => ⟨S4096x1024, .bf16⟩
  | .hbm, ⟨12, _⟩ => ⟨S4096x512, .f32⟩
  | .local _ .vmem, ⟨0, _⟩ => ⟨S512x1536, .f32⟩
  | .local _ .vmem, ⟨1, _⟩ => ⟨S512x1536, .f32⟩
  | .local _ .vmem, ⟨2, _⟩ => ⟨S32x1536, .f32⟩
  | .local _ .vmem, ⟨3, _⟩ => ⟨S32x1536, .f32⟩
  | .local _ .vmem, ⟨4, _⟩ => ⟨S4x31x1x128, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S4x128x128, .f32⟩
  | .local _ .vmem, ⟨9, _⟩ => ⟨S1x512, .f32⟩
  | .local _ .vmem, ⟨10, _⟩ => ⟨S512x1024, .bf16⟩
  | .local _ .vmem, ⟨11, _⟩ => ⟨S512x1024, .bf16⟩
  | .local _ .vmem, ⟨12, _⟩ => ⟨S512x512, .f32⟩
  | .local _ .vmem, ⟨13, _⟩ => ⟨S512x512, .f32⟩
  | .local _ .vmem, ⟨14, _⟩ => ⟨S8x544x512, .f32⟩
  | .local _ .vmem, ⟨15, _⟩ => ⟨S544x512, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x31x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference8Ideal.lean ====
abbrev S4096x1536 : Shape := ⟨2, ![4096, 1536]⟩
abbrev S1x31x512 : Shape := ⟨3, ![1, 31, 512]⟩
abbrev S1x512 : Shape := ⟨2, ![1, 512]⟩
abbrev S1x4x128x128 : Shape := ⟨4, ![1, 4, 128, 128]⟩
abbrev S4096x512 : Shape := ⟨2, ![4096, 512]⟩
abbrev S31x512 : Shape := ⟨2, ![31, 512]⟩
abbrev S512 : Shape := ⟨1, ![512]⟩
abbrev S_ : Shape := ⟨0, ![]⟩
abbrev S30x512 : Shape := ⟨2, ![30, 512]⟩
abbrev S4126x512 : Shape := ⟨2, ![4126, 512]⟩
abbrev S4096 : Shape := ⟨1, ![4096]⟩
abbrev S4096x1 : Shape := ⟨2, ![4096, 1]⟩
abbrev S4x128x128 : Shape := ⟨3, ![4, 128, 128]⟩
abbrev S4096x128 : Shape := ⟨2, ![4096, 128]⟩
abbrev S4098x128 : Shape := ⟨2, ![4098, 128]⟩
abbrev S1x128x128 : Shape := ⟨3, ![1, 128, 128]⟩
abbrev S128x128 : Shape := ⟨2, ![128, 128]⟩
abbrev S4100x128 : Shape := ⟨2, ![4100, 128]⟩
abbrev S4104x128 : Shape := ⟨2, ![4104, 128]⟩
abbrev S4112x128 : Shape := ⟨2, ![4112, 128]⟩
abbrev S4096x1024 : Shape := ⟨2, ![4096, 1024]⟩

abbrev nBuf : Space → Nat
  | .hbm => 384
  | .vmem => 0
  | .smem => 0
  | _ => 0

abbrev hbmTy0_0 (i : Nat) : BufTy := match i % 128 with
  | 0 => ⟨S4096x1536, .f32⟩
  | 1 => ⟨S1x31x512, .f32⟩
  | 2 => ⟨S1x512, .f32⟩
  | 3 => ⟨S1x512, .f32⟩
  | 4 => ⟨S1x512, .f32⟩
  | 5 => ⟨S1x4x128x128, .f32⟩
  | 6 => ⟨S1x512, .f32⟩
  | 7 => ⟨S4096x512, .f32⟩
  | 8 => ⟨S4096x512, .f32⟩
  | 9 => ⟨S31x512, .f32⟩
  | 10 => ⟨S512, .f32⟩
  | 11 => ⟨S512, .f32⟩
  | 12 => ⟨S512, .f32⟩
  | 13 => ⟨S4096x512, .f32⟩
  | 14 => ⟨S4096x512, .f32⟩
  | 15 => ⟨S_, .f32⟩
  | 16 => ⟨S4096x512, .f32⟩
  | 17 => ⟨S4096x512, .f32⟩
  | 18 => ⟨S_, .f32⟩
  | 19 => ⟨S4096x512, .f32⟩
  | 20 => ⟨S4096x512, .f32⟩
  | 21 => ⟨S4096x512, .f32⟩
  | 22 => ⟨S_, .f32⟩
  | 23 => ⟨S30x512, .f32⟩
  | 24 => ⟨S4126x512, .f32⟩
  | 25 => ⟨S4096x512, .f32⟩
  | 26 => ⟨S1x512, .f32⟩
  | 27 => ⟨S512, .f32⟩
  | 28 => ⟨S1x512, .f32⟩
  | 29 => ⟨S4096x512, .f32⟩
  | 30 => ⟨S4096x512, .f32⟩
  | 31 => ⟨S4096x512, .f32⟩
  | 32 => ⟨S1x512, .f32⟩
  | 33 => ⟨S512, .f32⟩
  | 34 => ⟨S1x512, .f32⟩
  | 35 => ⟨S4096x512, .f32⟩
  | 36 => ⟨S4096x512, .f32⟩
  | 37 => ⟨S4096x512, .f32⟩
  | 38 => ⟨S4096x512, .f32⟩
  | 39 => ⟨S1x512, .f32⟩
  | 40 => ⟨S512, .f32⟩
  | 41 => ⟨S1x512, .f32⟩
  | 42 => ⟨S4096x512, .f32⟩
  | 43 => ⟨S4096x512, .f32⟩
  | 44 => ⟨S4096x512, .f32⟩
  | 45 => ⟨S4096x512, .f32⟩
  | 46 => ⟨S1x512, .f32⟩
  | 47 => ⟨S512, .f32⟩
  | 48 => ⟨S1x512, .f32⟩
  | 49 => ⟨S4096x512, .f32⟩
  | 50 => ⟨S4096x512, .f32⟩
  | 51 => ⟨S4096x512, .f32⟩
  | 52 => ⟨S4096x512, .f32⟩
  | 53 => ⟨S1x512, .f32⟩
  | 54 => ⟨S512, .f32⟩
  | 55 => ⟨S1x512, .f32⟩
  | 56 => ⟨S4096x512, .f32⟩
  | 57 => ⟨S4096x512, .f32⟩
  | 58 => ⟨S4096x512, .f32⟩
  | 59 => ⟨S4096x512, .f32⟩
  | 60 => ⟨S1x512, .f32⟩
  | 61 => ⟨S512, .f32⟩
  | 62 => ⟨S1x512, .f32⟩
  | 63 => ⟨S4096x512, .f32⟩
  | 64 => ⟨S4096x512, .f32⟩
  | 65 => ⟨S4096x512, .f32⟩
  | 66 => ⟨S4096x512, .f32⟩
  | 67 => ⟨S1x512, .f32⟩
  | 68 => ⟨S512, .f32⟩
  | 69 => ⟨S1x512, .f32⟩
  | 70 => ⟨S4096x512, .f32⟩
  | 71 => ⟨S4096x512, .f32⟩
  | 72 => ⟨S4096x512, .f32⟩
  | 73 => ⟨S4096x512, .f32⟩
  | 74 => ⟨S1x512, .f32⟩
  | 75 => ⟨S512, .f32⟩
  | 76 => ⟨S1x512, .f32⟩
  | 77 => ⟨S4096x512, .f32⟩
  | 78 => ⟨S4096x512, .f32⟩
  | 79 => ⟨S4096x512, .f32⟩
  | 80 => ⟨S4096x512, .f32⟩
  | 81 => ⟨S1x512, .f32⟩
  | 82 => ⟨S512, .f32⟩
  | 83 => ⟨S1x512, .f32⟩
  | 84 => ⟨S4096x512, .f32⟩
  | 85 => ⟨S4096x512, .f32⟩
  | 86 => ⟨S4096x512, .f32⟩
  | 87 => ⟨S4096x512, .f32⟩
  | 88 => ⟨S1x512, .f32⟩
  | 89 => ⟨S512, .f32⟩
  | 90 => ⟨S1x512, .f32⟩
  | 91 => ⟨S4096x512, .f32⟩
  | 92 => ⟨S4096x512, .f32⟩
  | 93 => ⟨S4096x512, .f32⟩
  | 94 => ⟨S4096x512, .f32⟩
  | 95 => ⟨S1x512, .f32⟩
  | 96 => ⟨S512, .f32⟩
  | 97 => ⟨S1x512, .f32⟩
  | 98 => ⟨S4096x512, .f32⟩
  | 99 => ⟨S4096x512, .f32⟩
  | 100 => ⟨S4096x512, .f32⟩
  | 101 => ⟨S4096x512, .f32⟩
  | 102 => ⟨S1x512, .f32⟩
  | 103 => ⟨S512, .f32⟩
  | 104 => ⟨S1x512, .f32⟩
  | 105 => ⟨S4096x512, .f32⟩
  | 106 => ⟨S4096x512, .f32⟩
  | 107 => ⟨S4096x512, .f32⟩
  | 108 => ⟨S4096x512, .f32⟩
  | 109 => ⟨S1x512, .f32⟩
  | 110 => ⟨S512, .f32⟩
  | 111 => ⟨S1x512, .f32⟩
  | 112 => ⟨S4096x512, .f32⟩
  | 113 => ⟨S4096x512, .f32⟩
  | 114 => ⟨S4096x512, .f32⟩
  | 115 => ⟨S4096x512, .f32⟩
  | 116 => ⟨S1x512, .f32⟩
  | 117 => ⟨S512, .f32⟩
  | 118 => ⟨S1x512, .f32⟩
  | 119 => ⟨S4096x512, .f32⟩
  | 120 => ⟨S4096x512, .f32⟩
  | 121 => ⟨S4096x512, .f32⟩
  | 122 => ⟨S4096x512, .f32⟩
  | 123 => ⟨S1x512, .f32⟩
  | 124 => ⟨S512, .f32⟩
  | 125 => ⟨S1x512, .f32⟩
  | 126 => ⟨S4096x512, .f32⟩
  | 127 => ⟨S4096x512, .f32⟩
  | _ => ⟨S4096x1536, .f32⟩

abbrev hbmTy0_1 (i : Nat) : BufTy := match i % 128 with
  | 0 => ⟨S4096x512, .f32⟩
  | 1 => ⟨S4096x512, .f32⟩
  | 2 => ⟨S1x512, .f32⟩
  | 3 => ⟨S512, .f32⟩
  | 4 => ⟨S1x512, .f32⟩
  | 5 => ⟨S4096x512, .f32⟩
  | 6 => ⟨S4096x512, .f32⟩
  | 7 => ⟨S4096x512, .f32⟩
  | 8 => ⟨S4096x512, .f32⟩
  | 9 => ⟨S1x512, .f32⟩
  | 10 => ⟨S512, .f32⟩
  | 11 => ⟨S1x512, .f32⟩
  | 12 => ⟨S4096x512, .f32⟩
  | 13 => ⟨S4096x512, .f32⟩
  | 14 => ⟨S4096x512, .f32⟩
  | 15 => ⟨S4096x512, .f32⟩
  | 16 => ⟨S1x512, .f32⟩
  | 17 => ⟨S512, .f32⟩
  | 18 => ⟨S1x512, .f32⟩
  | 19 => ⟨S4096x512, .f32⟩
  | 20 => ⟨S4096x512, .f32⟩
  | 21 => ⟨S4096x512, .f32⟩
  | 22 => ⟨S4096x512, .f32⟩
  | 23 => ⟨S1x512, .f32⟩
  | 24 => ⟨S512, .f32⟩
  | 25 => ⟨S1x512, .f32⟩
  | 26 => ⟨S4096x512, .f32⟩
  | 27 => ⟨S4096x512, .f32⟩
  | 28 => ⟨S4096x512, .f32⟩
  | 29 => ⟨S4096x512, .f32⟩
  | 30 => ⟨S1x512, .f32⟩
  | 31 => ⟨S512, .f32⟩
  | 32 => ⟨S1x512, .f32⟩
  | 33 => ⟨S4096x512, .f32⟩
  | 34 => ⟨S4096x512, .f32⟩
  | 35 => ⟨S4096x512, .f32⟩
  | 36 => ⟨S4096x512, .f32⟩
  | 37 => ⟨S1x512, .f32⟩
  | 38 => ⟨S512, .f32⟩
  | 39 => ⟨S1x512, .f32⟩
  | 40 => ⟨S4096x512, .f32⟩
  | 41 => ⟨S4096x512, .f32⟩
  | 42 => ⟨S4096x512, .f32⟩
  | 43 => ⟨S4096x512, .f32⟩
  | 44 => ⟨S1x512, .f32⟩
  | 45 => ⟨S512, .f32⟩
  | 46 => ⟨S1x512, .f32⟩
  | 47 => ⟨S4096x512, .f32⟩
  | 48 => ⟨S4096x512, .f32⟩
  | 49 => ⟨S4096x512, .f32⟩
  | 50 => ⟨S4096x512, .f32⟩
  | 51 => ⟨S1x512, .f32⟩
  | 52 => ⟨S512, .f32⟩
  | 53 => ⟨S1x512, .f32⟩
  | 54 => ⟨S4096x512, .f32⟩
  | 55 => ⟨S4096x512, .f32⟩
  | 56 => ⟨S4096x512, .f32⟩
  | 57 => ⟨S4096x512, .f32⟩
  | 58 => ⟨S1x512, .f32⟩
  | 59 => ⟨S512, .f32⟩
  | 60 => ⟨S1x512, .f32⟩
  | 61 => ⟨S4096x512, .f32⟩
  | 62 => ⟨S4096x512, .f32⟩
  | 63 => ⟨S4096x512, .f32⟩
  | 64 => ⟨S4096x512, .f32⟩
  | 65 => ⟨S1x512, .f32⟩
  | 66 => ⟨S512, .f32⟩
  | 67 => ⟨S1x512, .f32⟩
  | 68 => ⟨S4096x512, .f32⟩
  | 69 => ⟨S4096x512, .f32⟩
  | 70 => ⟨S4096x512, .f32⟩
  | 71 => ⟨S4096x512, .f32⟩
  | 72 => ⟨S1x512, .f32⟩
  | 73 => ⟨S512, .f32⟩
  | 74 => ⟨S1x512, .f32⟩
  | 75 => ⟨S4096x512, .f32⟩
  | 76 => ⟨S4096x512, .f32⟩
  | 77 => ⟨S4096x512, .f32⟩
  | 78 => ⟨S4096x512, .f32⟩
  | 79 => ⟨S1x512, .f32⟩
  | 80 => ⟨S512, .f32⟩
  | 81 => ⟨S1x512, .f32⟩
  | 82 => ⟨S4096x512, .f32⟩
  | 83 => ⟨S4096x512, .f32⟩
  | 84 => ⟨S4096x512, .f32⟩
  | 85 => ⟨S4096x512, .f32⟩
  | 86 => ⟨S1x512, .f32⟩
  | 87 => ⟨S512, .f32⟩
  | 88 => ⟨S1x512, .f32⟩
  | 89 => ⟨S4096x512, .f32⟩
  | 90 => ⟨S4096x512, .f32⟩
  | 91 => ⟨S4096x512, .f32⟩
  | 92 => ⟨S4096x512, .f32⟩
  | 93 => ⟨S1x512, .f32⟩
  | 94 => ⟨S512, .f32⟩
  | 95 => ⟨S1x512, .f32⟩
  | 96 => ⟨S4096x512, .f32⟩
  | 97 => ⟨S4096x512, .f32⟩
  | 98 => ⟨S4096x512, .f32⟩
  | 99 => ⟨S4096x512, .f32⟩
  | 100 => ⟨S1x512, .f32⟩
  | 101 => ⟨S512, .f32⟩
  | 102 => ⟨S1x512, .f32⟩
  | 103 => ⟨S4096x512, .f32⟩
  | 104 => ⟨S4096x512, .f32⟩
  | 105 => ⟨S4096x512, .f32⟩
  | 106 => ⟨S4096x512, .f32⟩
  | 107 => ⟨S1x512, .f32⟩
  | 108 => ⟨S512, .f32⟩
  | 109 => ⟨S1x512, .f32⟩
  | 110 => ⟨S4096x512, .f32⟩
  | 111 => ⟨S4096x512, .f32⟩
  | 112 => ⟨S4096x512, .f32⟩
  | 113 => ⟨S1x512, .f32⟩
  | 114 => ⟨S4096x512, .f32⟩
  | 115 => ⟨S4096x512, .f32⟩
  | 116 => ⟨S_, .f32⟩
  | 117 => ⟨S4096, .f32⟩
  | 118 => ⟨S4096x1, .f32⟩
  | 119 => ⟨S_, .f32⟩
  | 120 => ⟨S4096x1, .f32⟩
  | 121 => ⟨S4096x1, .f32⟩
  | 122 => ⟨S4096x512, .f32⟩
  | 123 => ⟨S4096x512, .f32⟩
  | 124 => ⟨S4096x512, .f32⟩
  | 125 => ⟨S_, .f32⟩
  | 126 => ⟨S4096, .f32⟩
  | 127 => ⟨S4096x1, .f32⟩
  | _ => ⟨S4096x1536, .f32⟩

abbrev hbmTy0_2 (i : Nat) : BufTy := match i % 128 with
  | 0 => ⟨S_, .f32⟩
  | 1 => ⟨S4096x1, .f32⟩
  | 2 => ⟨S4096x1, .f32⟩
  | 3 => ⟨S4096x512, .f32⟩
  | 4 => ⟨S4096x512, .f32⟩
  | 5 => ⟨S_, .f32⟩
  | 6 => ⟨S4096x1, .f32⟩
  | 7 => ⟨S4096x1, .f32⟩
  | 8 => ⟨S4096x1, .f32⟩
  | 9 => ⟨S4096x512, .f32⟩
  | 10 => ⟨S4096x512, .f32⟩
  | 11 => ⟨S1x512, .f32⟩
  | 12 => ⟨S4096x512, .f32⟩
  | 13 => ⟨S4096x512, .f32⟩
  | 14 => ⟨S1x512, .f32⟩
  | 15 => ⟨S4096x512, .f32⟩
  | 16 => ⟨S4096x512, .f32⟩
  | 17 => ⟨S4096x512, .f32⟩
  | 18 => ⟨S4096x512, .f32⟩
  | 19 => ⟨S_, .f32⟩
  | 20 => ⟨S4096x512, .f32⟩
  | 21 => ⟨S4096x512, .f32⟩
  | 22 => ⟨S_, .f32⟩
  | 23 => ⟨S4096x512, .f32⟩
  | 24 => ⟨S4096x512, .f32⟩
  | 25 => ⟨S4096x512, .f32⟩
  | 26 => ⟨S4096x512, .f32⟩
  | 27 => ⟨S4x128x128, .f32⟩
  | 28 => ⟨S512, .f32⟩
  | 29 => ⟨S4096, .i32⟩
  | 30 => ⟨S4096x128, .f32⟩
  | 31 => ⟨S_, .f32⟩
  | 32 => ⟨S_, .f32⟩
  | 33 => ⟨S4096x128, .f32⟩
  | 34 => ⟨S_, .i32⟩
  | 35 => ⟨S_, .f32⟩
  | 36 => ⟨S4098x128, .f32⟩
  | 37 => ⟨S4096x128, .f32⟩
  | 38 => ⟨S_, .i32⟩
  | 39 => ⟨S4096, .i32⟩
  | 40 => ⟨S4096, .i32⟩
  | 41 => ⟨S_, .i32⟩
  | 42 => ⟨S4096, .i32⟩
  | 43 => ⟨S4096, .i32⟩
  | 44 => ⟨S4096, .f32⟩
  | 45 => ⟨S4096x1, .f32⟩
  | 46 => ⟨S4096x128, .f32⟩
  | 47 => ⟨S4096x128, .f32⟩
  | 48 => ⟨S4096x128, .f32⟩
  | 49 => ⟨S4096x128, .f32⟩
  | 50 => ⟨S1x128x128, .f32⟩
  | 51 => ⟨S128x128, .f32⟩
  | 52 => ⟨S4096x128, .f32⟩
  | 53 => ⟨S4096x128, .f32⟩
  | 54 => ⟨S_, .f32⟩
  | 55 => ⟨S_, .f32⟩
  | 56 => ⟨S4096x128, .f32⟩
  | 57 => ⟨S_, .i32⟩
  | 58 => ⟨S_, .f32⟩
  | 59 => ⟨S4100x128, .f32⟩
  | 60 => ⟨S4096x128, .f32⟩
  | 61 => ⟨S_, .i32⟩
  | 62 => ⟨S4096, .i32⟩
  | 63 => ⟨S4096, .i32⟩
  | 64 => ⟨S_, .i32⟩
  | 65 => ⟨S4096, .i32⟩
  | 66 => ⟨S4096, .i32⟩
  | 67 => ⟨S4096, .f32⟩
  | 68 => ⟨S4096x1, .f32⟩
  | 69 => ⟨S4096x128, .f32⟩
  | 70 => ⟨S4096x128, .f32⟩
  | 71 => ⟨S4096x128, .f32⟩
  | 72 => ⟨S4096x128, .f32⟩
  | 73 => ⟨S1x128x128, .f32⟩
  | 74 => ⟨S128x128, .f32⟩
  | 75 => ⟨S4096x128, .f32⟩
  | 76 => ⟨S4096x128, .f32⟩
  | 77 => ⟨S_, .f32⟩
  | 78 => ⟨S_, .f32⟩
  | 79 => ⟨S4096x128, .f32⟩
  | 80 => ⟨S_, .i32⟩
  | 81 => ⟨S_, .f32⟩
  | 82 => ⟨S4104x128, .f32⟩
  | 83 => ⟨S4096x128, .f32⟩
  | 84 => ⟨S_, .i32⟩
  | 85 => ⟨S4096, .i32⟩
  | 86 => ⟨S4096, .i32⟩
  | 87 => ⟨S_, .i32⟩
  | 88 => ⟨S4096, .i32⟩
  | 89 => ⟨S4096, .i32⟩
  | 90 => ⟨S4096, .f32⟩
  | 91 => ⟨S4096x1, .f32⟩
  | 92 => ⟨S4096x128, .f32⟩
  | 93 => ⟨S4096x128, .f32⟩
  | 94 => ⟨S4096x128, .f32⟩
  | 95 => ⟨S4096x128, .f32⟩
  | 96 => ⟨S1x128x128, .f32⟩
  | 97 => ⟨S128x128, .f32⟩
  | 98 => ⟨S4096x128, .f32⟩
  | 99 => ⟨S4096x128, .f32⟩
  | 100 => ⟨S_, .f32⟩
  | 101 => ⟨S_, .f32⟩
  | 102 => ⟨S4096x128, .f32⟩
  | 103 => ⟨S_, .i32⟩
  | 104 => ⟨S_, .f32⟩
  | 105 => ⟨S4112x128, .f32⟩
  | 106 => ⟨S4096x128, .f32⟩
  | 107 => ⟨S_, .i32⟩
  | 108 => ⟨S4096, .i32⟩
  | 109 => ⟨S4096, .i32⟩
  | 110 => ⟨S_, .i32⟩
  | 111 => ⟨S4096, .i32⟩
  | 112 => ⟨S4096, .i32⟩
  | 113 => ⟨S4096, .f32⟩
  | 114 => ⟨S4096x1, .f32⟩
  | 115 => ⟨S4096x128, .f32⟩
  | 116 => ⟨S4096x128, .f32⟩
  | 117 => ⟨S4096x128, .f32⟩
  | 118 => ⟨S4096x128, .f32⟩
  | 119 => ⟨S1x128x128, .f32⟩
  | 120 => ⟨S128x128, .f32⟩
  | 121 => ⟨S4096x128, .f32⟩
  | 122 => ⟨S4096x512, .f32⟩
  | 123 => ⟨S1x512, .f32⟩
  | 124 => ⟨S4096x512, .f32⟩
  | 125 => ⟨S4096x512, .f32⟩
  | 126 => ⟨S4096x1024, .f32⟩
  | 127 => ⟨S4096x1024, .bf16⟩
  | _ => ⟨S4096x1536, .f32⟩

abbrev hbmTy (i : Nat) : BufTy := match i / 128 with
  | 0 => hbmTy0_0 i
  | 1 => hbmTy0_1 i
  | 2 => hbmTy0_2 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_cst_2 : Ref sig .tc := ⟨.hbm, 244, rfl⟩
abbrev main_v234 : Ref sig .tc := ⟨.hbm, 245, rfl⟩
abbrev main_v235 : Ref sig .tc := ⟨.hbm, 246, rfl⟩
abbrev main_cst_3 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_cst_4 : Ref sig .tc := ⟨.hbm, 253, rfl⟩
abbrev main_v241 : Ref sig .tc := ⟨.hbm, 254, rfl⟩
abbrev main_v242 : Ref sig .tc := ⟨.hbm, 255, rfl⟩
abbrev main_cst_5 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_cst_6 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_v256 : Ref sig .tc := ⟨.hbm, 271, rfl⟩
abbrev main_v257 : Ref sig .tc := ⟨.hbm, 272, rfl⟩
abbrev main_call0_v0 : Ref sig .tc := ⟨.hbm, 273, rfl⟩
abbrev main_call0_v1 : Ref sig .tc := ⟨.hbm, 274, rfl⟩
abbrev main_call0_cst : Ref sig .tc := ⟨.hbm, 275, rfl⟩
abbrev main_call0_v2 : Ref sig .tc := ⟨.hbm, 276, rfl⟩
abbrev main_call0_v3 : Ref sig .tc := ⟨.hbm, 277, rfl⟩
abbrev main_call0_cst_0 : Ref sig .tc := ⟨.hbm, 278, rfl⟩
abbrev main_call0_v4 : Ref sig .tc := ⟨.hbm, 279, rfl⟩
abbrev main_call0_v5 : Ref sig .tc := ⟨.hbm, 280, rfl⟩
abbrev main_v258 : Ref sig .tc := ⟨.hbm, 281, rfl⟩
abbrev main_v259 : Ref sig .tc := ⟨.hbm, 282, rfl⟩
abbrev main_v260 : Ref sig .tc := ⟨.hbm, 283, rfl⟩
abbrev main_v261 : Ref sig .tc := ⟨.hbm, 284, rfl⟩
abbrev main_v262 : Ref sig .tc := ⟨.hbm, 285, rfl⟩
abbrev main_v263 : Ref sig .tc := ⟨.hbm, 286, rfl⟩
abbrev main_call1_call0_cst : Ref sig .tc := ⟨.hbm, 287, rfl⟩
abbrev main_call1_call0_v0 : Ref sig .tc := ⟨.hbm, 288, rfl⟩
abbrev main_v264 : Ref sig .tc := ⟨.hbm, 289, rfl⟩
abbrev main_c : Ref sig .tc := ⟨.hbm, 290, rfl⟩
abbrev main_call2_v0 : Ref sig .tc := ⟨.hbm, 291, rfl⟩
abbrev main_v265 : Ref sig .tc := ⟨.hbm, 292, rfl⟩
abbrev main_v266 : Ref sig .tc := ⟨.hbm, 293, rfl⟩
abbrev main_c_7 : Ref sig .tc := ⟨.hbm, 294, rfl⟩
abbrev main_v267 : Ref sig .tc := ⟨.hbm, 295, rfl⟩
abbrev main_v268 : Ref sig .tc := ⟨.hbm, 296, rfl⟩
abbrev main_c_8 : Ref sig .tc := ⟨.hbm, 297, rfl⟩
abbrev main_v269 : Ref sig .tc := ⟨.hbm, 298, rfl⟩
abbrev main_v270 : Ref sig .tc := ⟨.hbm, 299, rfl⟩
abbrev main_v271 : Ref sig .tc := ⟨.hbm, 300, rfl⟩
abbrev main_v272 : Ref sig .tc := ⟨.hbm, 301, rfl⟩
abbrev main_v273 : Ref sig .tc := ⟨.hbm, 302, rfl⟩
abbrev main_v274 : Ref sig .tc := ⟨.hbm, 303, rfl⟩
abbrev main_v275 : Ref sig .tc := ⟨.hbm, 304, rfl⟩
abbrev main_v276 : Ref sig .tc := ⟨.hbm, 305, rfl⟩
abbrev main_v277 : Ref sig .tc := ⟨.hbm, 306, rfl⟩
abbrev main_v278 : Ref sig .tc := ⟨.hbm, 307, rfl⟩
abbrev main_v279 : Ref sig .tc := ⟨.hbm, 308, rfl⟩
abbrev main_v280 : Ref sig .tc := ⟨.hbm, 309, rfl⟩
abbrev main_call3_call0_cst : Ref sig .tc := ⟨.hbm, 310, rfl⟩
abbrev main_call3_call0_v0 : Ref sig .tc := ⟨.hbm, 311, rfl⟩
abbrev main_v281 : Ref sig .tc := ⟨.hbm, 312, rfl⟩
abbrev main_c_9 : Ref sig .tc := ⟨.hbm, 313, rfl⟩
abbrev main_call4_v0 : Ref sig .tc := ⟨.hbm, 314, rfl⟩
abbrev main_v282 : Ref sig .tc := ⟨.hbm, 315, rfl⟩
abbrev main_v283 : Ref sig .tc := ⟨.hbm, 316, rfl⟩
abbrev main_c_10 : Ref sig .tc := ⟨.hbm, 317, rfl⟩
abbrev main_v284 : Ref sig .tc := ⟨.hbm, 318, rfl⟩
abbrev main_v285 : Ref sig .tc := ⟨.hbm, 319, rfl⟩
abbrev main_c_11 : Ref sig .tc := ⟨.hbm, 320, rfl⟩
abbrev main_v286 : Ref sig .tc := ⟨.hbm, 321, rfl⟩
abbrev main_v287 : Ref sig .tc := ⟨.hbm, 322, rfl⟩
abbrev main_v288 : Ref sig .tc := ⟨.hbm, 323, rfl⟩
abbrev main_v289 : Ref sig .tc := ⟨.hbm, 324, rfl⟩
abbrev main_v290 : Ref sig .tc := ⟨.hbm, 325, rfl⟩
abbrev main_v291 : Ref sig .tc := ⟨.hbm, 326, rfl⟩
abbrev main_v292 : Ref sig .tc := ⟨.hbm, 327, rfl⟩
abbrev main_v293 : Ref sig .tc := ⟨.hbm, 328, rfl⟩
abbrev main_v294 : Ref sig .tc := ⟨.hbm, 329, rfl⟩
abbrev main_v295 : Ref sig .tc := ⟨.hbm, 330, rfl⟩
abbrev main_v296 : Ref sig .tc := ⟨.hbm, 331, rfl⟩
abbrev main_v297 : Ref sig .tc := ⟨.hbm, 332, rfl⟩
abbrev main_call5_call0_cst : Ref sig .tc := ⟨.hbm, 333, rfl⟩
abbrev main_call5_call0_v0 : Ref sig .tc := ⟨.hbm, 334, rfl⟩
abbrev main_v298 : Ref sig .tc := ⟨.hbm, 335, rfl⟩
abbrev main_c_12 : Ref sig .tc := ⟨.hbm, 336, rfl⟩
abbrev main_call6_v0 : Ref sig .tc := ⟨.hbm, 337, rfl⟩
abbrev main_v299 : Ref sig .tc := ⟨.hbm, 338, rfl⟩
abbrev main_v300 : Ref sig .tc := ⟨.hbm, 339, rfl⟩
abbrev main_c_13 : Ref sig .tc := ⟨.hbm, 340, rfl⟩
abbrev main_v301 : Ref sig .tc := ⟨.hbm, 341, rfl⟩
abbrev main_v302 : Ref sig .tc := ⟨.hbm, 342, rfl⟩
abbrev main_c_14 : Ref sig .tc := ⟨.hbm, 343, rfl⟩
abbrev main_v303 : Ref sig .tc := ⟨.hbm, 344, rfl⟩
abbrev main_v304 : Ref sig .tc := ⟨.hbm, 345, rfl⟩
abbrev main_v305 : Ref sig .tc := ⟨.hbm, 346, rfl⟩
abbrev main_v306 : Ref sig .tc := ⟨.hbm, 347, rfl⟩
abbrev main_v307 : Ref sig .tc := ⟨.hbm, 348, rfl⟩
abbrev main_v308 : Ref sig .tc := ⟨.hbm, 349, rfl⟩
abbrev main_v309 : Ref sig .tc := ⟨.hbm, 350, rfl⟩
abbrev main_v310 : Ref sig .tc := ⟨.hbm, 351, rfl⟩
abbrev main_v311 : Ref sig .tc := ⟨.hbm, 352, rfl⟩
abbrev main_v312 : Ref sig .tc := ⟨.hbm, 353, rfl⟩
abbrev main_v313 : Ref sig .tc := ⟨.hbm, 354, rfl⟩
abbrev main_v314 : Ref sig .tc := ⟨.hbm, 355, rfl⟩
abbrev main_call7_call0_cst : Ref sig .tc := ⟨.hbm, 356, rfl⟩
abbrev main_call7_call0_v0 : Ref sig .tc := ⟨.hbm, 357, rfl⟩
abbrev main_v315 : Ref sig .tc := ⟨.hbm, 358, rfl⟩
abbrev main_c_15 : Ref sig .tc := ⟨.hbm, 359, rfl⟩
abbrev main_call8_v0 : Ref sig .tc := ⟨.hbm, 360, rfl⟩
abbrev main_v316 : Ref sig .tc := ⟨.hbm, 361, rfl⟩
abbrev main_v317 : Ref sig .tc := ⟨.hbm, 362, rfl⟩
abbrev main_c_16 : Ref sig .tc := ⟨.hbm, 363, rfl⟩
abbrev main_v318 : Ref sig .tc := ⟨.hbm, 364, rfl⟩
abbrev main_v319 : Ref sig .tc := ⟨.hbm, 365, rfl⟩
abbrev main_c_17 : Ref sig .tc := ⟨.hbm, 366, rfl⟩
abbrev main_v320 : Ref sig .tc := ⟨.hbm, 367, rfl⟩
abbrev main_v321 : Ref sig .tc := ⟨.hbm, 368, rfl⟩
abbrev main_v322 : Ref sig .tc := ⟨.hbm, 369, rfl⟩
abbrev main_v323 : Ref sig .tc := ⟨.hbm, 370, rfl⟩
abbrev main_v324 : Ref sig .tc := ⟨.hbm, 371, rfl⟩
abbrev main_v325 : Ref sig .tc := ⟨.hbm, 372, rfl⟩
abbrev main_v326 : Ref sig .tc := ⟨.hbm, 373, rfl⟩
abbrev main_v327 : Ref sig .tc := ⟨.hbm, 374, rfl⟩
abbrev main_v328 : Ref sig .tc := ⟨.hbm, 375, rfl⟩
abbrev main_v329 : Ref sig .tc := ⟨.hbm, 376, rfl⟩
abbrev main_v330 : Ref sig .tc := ⟨.hbm, 377, rfl⟩
abbrev main_v331 : Ref sig .tc := ⟨.hbm, 378, rfl⟩
abbrev main_v332 : Ref sig .tc := ⟨.hbm, 379, rfl⟩
abbrev main_v333 : Ref sig .tc := ⟨.hbm, 380, rfl⟩
abbrev main_v334 : Ref sig .tc := ⟨.hbm, 381, rfl⟩
abbrev main_v335 : Ref sig .tc := ⟨.hbm, 382, rfl⟩
abbrev main_v336 : Ref sig .tc := ⟨.hbm, 383, rfl⟩

abbrev nD : Nat := 1
abbrev τ : Topo := Topo.v7x

variable {F : FTy → Type} [FloatOps F]
-- ==== Kernel9.lean ====
abbrev S1x1024x384 : Shape := ⟨3, ![1, 1024, 384]⟩
abbrev S384x1024 : Shape := ⟨2, ![384, 1024]⟩
abbrev S1024x384 : Shape := ⟨2, ![1024, 384]⟩
abbrev S256x384 : Shape := ⟨2, ![256, 384]⟩
abbrev S384x256 : Shape := ⟨2, ![384, 256]⟩

abbrev nBuf : Space → Nat
  | .hbm => 12
  | .vmem => 18
  | .smem => 0
  | _ => 0

abbrev bufTy : (tb : Table) → Fin (tcTables nBuf tb) → BufTy
  | .hbm, ⟨0, _⟩ => ⟨S1x1024x384, .f32⟩
  | .hbm, ⟨1, _⟩ => ⟨S1x1024x384, .f32⟩
  | .hbm, ⟨2, _⟩ => ⟨S1x1024x384, .f32⟩
  | .hbm, ⟨3, _⟩ => ⟨S384x1024, .f32⟩
  | .hbm, ⟨4, _⟩ => ⟨S384x1024, .f32⟩
  | .hbm, ⟨5, _⟩ => ⟨S1024x384, .f32⟩
  | .hbm, ⟨6, _⟩ => ⟨S1024x384, .f32⟩
  | .hbm, ⟨7, _⟩ => ⟨S1024x384, .f32⟩
  | .hbm, ⟨8, _⟩ => ⟨S1024x384, .f32⟩
  | .hbm, ⟨9, _⟩ => ⟨S1024x384, .f32⟩
  | .hbm, ⟨10, _⟩ => ⟨S1024x384, .f32⟩
  | .hbm, ⟨11, _⟩ => ⟨S1024x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S384x256, .f32⟩
  | .local _ .vmem, ⟨7, _⟩ => ⟨S384x256, .f32⟩
  | .local _ .vmem, ⟨8, _⟩ => ⟨S384x256, .f32⟩
  | .local _ .vmem, ⟨9, _⟩ => ⟨S384x256, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | .local _ .vmem, ⟨16, _⟩ => ⟨S256x384, .f32⟩
  | .local _ .vmem, ⟨17, _⟩ => ⟨S256x384, .f32⟩
  | _, _ => ⟨S1x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S1x1024x384 : Shape := ⟨3, ![1, 1024, 384]⟩
abbrev S384x1024 : Shape := ⟨2, ![384, 1024]⟩
abbrev S1024x384 : Shape := ⟨2, ![1024, 384]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1x1024x384, .f32⟩
  | .hbm, ⟨1, _⟩ => ⟨S1x1024x384, .f32⟩
  | .hbm, ⟨2, _⟩ => ⟨S1x1024x384, .f32⟩
  | .hbm, ⟨3, _⟩ => ⟨S384x1024, .f32⟩
  | .hbm, ⟨4, _⟩ => ⟨S384x1024, .f32⟩
  | .hbm, ⟨5, _⟩ => ⟨S384x1024, .f32⟩
  | .hbm, ⟨6, _⟩ => ⟨S1024x384, .f32⟩
  | .hbm, ⟨7, _⟩ => ⟨S1024x384, .f32⟩
  | .hbm, ⟨8, _⟩ => ⟨S_, .f32⟩
  | .hbm, ⟨9, _⟩ => ⟨S1024x384, .f32⟩
  | .hbm, ⟨10, _⟩ => ⟨S1024x384, .f32⟩
  | .hbm, ⟨11, _⟩ => ⟨S_, .f32⟩
  | .hbm, ⟨12, _⟩ => ⟨S1024x384, .f32⟩
  | .hbm, ⟨13, _⟩ => ⟨S1024x384, .f32⟩
  | .hbm, ⟨14, _⟩ => ⟨S1024x384, .f32⟩
  | .hbm, ⟨15, _⟩ => ⟨S1024x384, .f32⟩
  | .hbm, ⟨16, _⟩ => ⟨S_, .f32⟩
  | .hbm, ⟨17, _⟩ => ⟨S1024x384, .f32⟩
  | .hbm, ⟨18, _⟩ => ⟨S1024x384, .f32⟩
  | .hbm, ⟨19, _⟩ => ⟨S1024x384, .f32⟩
  | .hbm, ⟨20, _⟩ => ⟨S_, .f32⟩
  | .hbm, ⟨21, _⟩ => ⟨S1024x384, .f32⟩
  | .hbm, ⟨22, _⟩ => ⟨S1024x384, .f32⟩
  | .hbm, ⟨23, _⟩ => ⟨S1024x384, .f32⟩
  | .hbm, ⟨24, _⟩ => ⟨S_, .f32⟩
  | .hbm, ⟨25, _⟩ => ⟨S1024x384, .f32⟩
  | .hbm, ⟨26, _⟩ => ⟨S1024x384, .f32⟩
  | .hbm, ⟨27, _⟩ => ⟨S_, .f32⟩
  | .hbm, ⟨28, _⟩ => ⟨S1024x384, .f32⟩
  | .hbm, ⟨29, _⟩ => ⟨S1024x384, .f32⟩
  | .hbm, ⟨30, _⟩ => ⟨S1024x384, .f32⟩
  | .hbm, ⟨31, _⟩ => ⟨S_, .f32⟩
  | .hbm, ⟨32, _⟩ => ⟨S1024x384, .f32⟩
  | .hbm, ⟨33, _⟩ => ⟨S1024x384, .f32⟩
  | .hbm, ⟨34, _⟩ => ⟨S1024x384, .f32⟩
  | .hbm, ⟨35, _⟩ => ⟨S1024x384, .f32⟩
  | .hbm, ⟨36, _⟩ => ⟨S_, .f32⟩
  | .hbm, ⟨37, _⟩ => ⟨S1024x384, .f32⟩
  | .hbm, ⟨38, _⟩ => ⟨S1024x384, .f32⟩
  | .hbm, ⟨39, _⟩ => ⟨S1024x384, .f32⟩
  | .hbm, ⟨40, _⟩ => ⟨S_, .f32⟩
  | .hbm, ⟨41, _⟩ => ⟨S1024x384, .f32⟩
  | .hbm, ⟨42, _⟩ => ⟨S1024x384, .f32⟩
  | _, _ => ⟨S1x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel10.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference10Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4x32x128 : Shape := ⟨3, ![4, 32, 128]⟩
abbrev S4x128x128 : Shape := ⟨3, ![4, 128, 128]⟩
abbrev S1x512 : Shape := ⟨2, ![1, 512]⟩
abbrev S1x1024 : Shape := ⟨2, ![1, 1024]⟩
abbrev S1x1536 : Shape := ⟨2, ![1, 1536]⟩
abbrev S176x512 : Shape := ⟨2, ![176, 512]⟩
abbrev S1x32x128 : Shape := ⟨3, ![1, 32, 128]⟩
abbrev S32x128 : Shape := ⟨2, ![32, 128]⟩
abbrev S1x128x128 : Shape := ⟨3, ![1, 128, 128]⟩
abbrev S128x128 : Shape := ⟨2, ![128, 128]⟩

abbrev nBuf : Space → Nat
  | .hbm => 10
  | .vmem => 10
  | .smem => 0
  | _ => 0

abbrev bufTy : (tb : Table) → Fin (tcTables nBuf tb) → BufTy
  | .hbm, ⟨0, _⟩ => ⟨S4x32x128, .f32⟩
  | .hbm, ⟨1, _⟩ => ⟨S4x128x128, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x1024, .f32⟩
  | .hbm, ⟨7, _⟩ => ⟨S1x1024, .f32⟩
  | .hbm, ⟨8, _⟩ => ⟨S1x1536, .f32⟩
  | .hbm, ⟨9, _⟩ => ⟨S176x512, .f32⟩
  | .local _ .vmem, ⟨0, _⟩ => ⟨S4x32x128, .f32⟩
  | .local _ .vmem, ⟨1, _⟩ => ⟨S4x128x128, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x1024, .f32⟩
  | .local _ .vmem, ⟨7, _⟩ => ⟨S1x1024, .f32⟩
  | .local _ .vmem, ⟨8, _⟩ => ⟨S1x1536, .f32⟩
  | .local _ .vmem, ⟨9, _⟩ => ⟨S176x512, .f32⟩
  | _, _ => ⟨S4x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S176x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Reference11Ideal.lean ====
abbrev S4x32x128 : Shape := ⟨3, ![4, 32, 128]⟩
abbrev S4x128x128 : Shape := ⟨3, ![4, 128, 128]⟩
abbrev S1x512 : Shape := ⟨2, ![1, 512]⟩
abbrev S1x1024 : Shape := ⟨2, ![1, 1024]⟩
abbrev S1x1536 : Shape := ⟨2, ![1, 1536]⟩
abbrev S1x5632 : Shape := ⟨2, ![1, 5632]⟩
abbrev S11x512 : Shape := ⟨2, ![11, 512]⟩
abbrev S32x4x128 : Shape := ⟨3, ![32, 4, 128]⟩
abbrev S32x512 : Shape := ⟨2, ![32, 512]⟩
abbrev S128x4x128 : Shape := ⟨3, ![128, 4, 128]⟩
abbrev S128x512 : Shape := ⟨2, ![128, 512]⟩
abbrev S_ : Shape := ⟨0, ![]⟩
abbrev S5x512 : Shape := ⟨2, ![5, 512]⟩
abbrev S176x512 : Shape := ⟨2, ![176, 512]⟩

abbrev nBuf : Space → Nat
  | .hbm => 18
  | .vmem => 0
  | .smem => 0
  | _ => 0

abbrev bufTy : (tb : Table) → Fin (tcTables nBuf tb) → BufTy
  | .hbm, ⟨0, _⟩ => ⟨S4x32x128, .f32⟩
  | .hbm, ⟨1, _⟩ => ⟨S4x128x128, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x1024, .f32⟩
  | .hbm, ⟨7, _⟩ => ⟨S1x1024, .f32⟩
  | .hbm, ⟨8, _⟩ => ⟨S1x1536, .f32⟩
  | .hbm, ⟨9, _⟩ => ⟨S1x5632, .f32⟩
  | .hbm, ⟨10, _⟩ => ⟨S11x512, .f32⟩
  | .hbm, ⟨11, _⟩ => ⟨S32x4x128, .f32⟩
  | .hbm, ⟨12, _⟩ => ⟨S32x512, .f32⟩
  | .hbm, ⟨13, _⟩ => ⟨S128x4x128, .f32⟩
  | .hbm, ⟨14, _⟩ => ⟨S128x512, .f32⟩
  | .hbm, ⟨15, _⟩ => ⟨S_, .f32⟩
  | .hbm, ⟨16, _⟩ => ⟨S5x512, .f32⟩
  | .hbm, ⟨17, _⟩ => ⟨S176x512, .f32⟩
  | _, _ => ⟨S4x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Proof.Rms.lean ====
/-
  The gradient of the root-mean-square norm on one row, over the extended reals: the form the kernels write out by hand and
  the form that differentiating the norm's forward lines gives are equal when the row, its scale and its cotangent are finite.
-/
module

public import Idealize.ShloMosaic.PureOps.Ideal.Laws
public import Idealize.ShloMosaic.Lib.Pointwise
public import Idealize.ShloMosaic.Lib.IdealHost

@[expose] public section

noncomputable section

namespace Cert.Rms

open Idealize.ShloMosaic
open scoped BigOperators

/-- An extended real that is neither infinity. -/
def Fin' (x : EReal) : Prop := ∃ r : ℝ, x = (r : EReal)

theorem fin_coe (r : ℝ) : Fin' (r : EReal) := ⟨r, rfl⟩
theorem fin_mul {x y : EReal} : Fin' x → Fin' y → Fin' (x * y) := by
  rintro ⟨a, rfl⟩ ⟨b, rfl⟩; exact ⟨a * b, (EReal.coe_mul a b).symm⟩
theorem fin_add {x y : EReal} : Fin' x → Fin' y → Fin' (x + y) := by
  rintro ⟨a, rfl⟩ ⟨b, rfl⟩; exact ⟨a + b, (EReal.coe_add a b).symm⟩
theorem fin_sub {x y : EReal} : Fin' x → Fin' y → Fin' (x - y) := by
  rintro ⟨a, rfl⟩ ⟨b, rfl⟩; exact ⟨a - b, (EReal.coe_sub a b).symm⟩
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]
theorem fin_sum {ι : Type} (s : Finset ι) (f : ι → EReal) (h : ∀ i, Fin' (f i)) : Fin' (∑ i ∈ s, f i) := by
  choose g hg using h
  simp only [hg]; exact ⟨_, coe_sum s g⟩

/-- The comparison a precondition states of an argument: below the infinity in absolute value is finite. -/
theorem fin_of_abs_lt {x : EReal} (h : Ideal.cmp .olt (max x (-x)) (Ideal.ofBits .f32 0x7F800000#32) = 1#1) : Fin' x := by
  have ht : Ideal.ofBits .f32 0x7F800000#32 = (⊤ : EReal) := by simp [Ideal.ofBits, Ideal.ieee]
  rw [ht] at h
  induction x using EReal.rec with
  | bot => simp [Ideal.cmp] at h
  | top => simp [Ideal.cmp] at h
  | coe r => exact ⟨r, rfl⟩

/-- The number of columns, 1024, as the literal the programs divide by. -/
theorem width_eq : Ideal.ofBits .f32 0x44800000#32 = ((1024 : ℝ) : EReal) := by
  simp [Ideal.ofBits, Ideal.ieee]; norm_num [← EReal.coe_mul]
/-- Minus one half. -/
theorem neg_half_eq : Ideal.ofBits .f32 0xBF000000#32 = ((-(1 / 2) : ℝ) : EReal) := by
  simp [Ideal.ofBits, Ideal.ieee]; norm_num [← EReal.coe_mul]
/-- One half, two, one, and the reciprocals of 1024 and of 2048. -/
theorem half_eq : Ideal.ofBits .f32 0x3F000000#32 = ((1 / 2 : ℝ) : EReal) := by
  simp [Ideal.ofBits, Ideal.ieee]; norm_num [← EReal.coe_mul]
theorem two_eq : Ideal.ofBits .f32 0x40000000#32 = ((2 : ℝ) : EReal) := by
  simp [Ideal.ofBits, Ideal.ieee]; norm_num [← EReal.coe_mul]
theorem one_eq : Ideal.ofBits .f32 0x3F800000#32 = ((1 : ℝ) : EReal) := by
  simp [Ideal.ofBits, Ideal.ieee]; norm_num [← EReal.coe_mul]
theorem per_width_eq : Ideal.ofBits .f32 0x3A800000#32 = ((1 / 1024 : ℝ) : EReal) := by
  simp [Ideal.ofBits, Ideal.ieee]; norm_num [← EReal.coe_mul]
theorem per_two_widths_eq : Ideal.ofBits .f32 0x3A000000#32 = ((1 / 2048 : ℝ) : EReal) := by
  simp [Ideal.ofBits, Ideal.ieee]; norm_num [← EReal.coe_mul]
/-- The norm's small constant is a positive real. -/
theorem eps_pos : ∃ e : ℝ, 0 < e ∧ Ideal.ofBits .f32 0x358637BD#32 = (e : EReal) := by
  refine ⟨(8796093 : ℝ) * 2 ^ (-43 : ℤ), by positivity, ?_⟩
  simp [Ideal.ofBits, Ideal.ieee]

abbrev W : EReal := Ideal.ofBits .f32 0x44800000#32
abbrev E : EReal := Ideal.ofBits .f32 0x358637BD#32
abbrev NH : EReal := Ideal.ofBits .f32 0xBF000000#32

/-- Mean square plus the small constant, of one row. -/
def ms {n : Nat} (x : Fin n → EReal) : EReal := Ideal.div (∑ k, x k * x k) W + E
/-- The row's scale: one over its root mean square. -/
def rs {n : Nat} (x : Fin n → EReal) : EReal := Ideal.rsqrt (ms x)

theorem div_coe_coe {a b : ℝ} (hb : b ≠ 0) : Ideal.div (a : EReal) (b : EReal) = ((a / b : ℝ) : EReal) := by
  unfold Ideal.div
  rw [if_neg (by simpa using hb), ← EReal.coe_inv, ← EReal.coe_mul, div_eq_mul_inv]

/-- On a finite row the mean square plus the constant is a positive real `v`, and the row's scale is `1/√v`. -/
theorem ms_rs {n : Nat} (X : Fin n → ℝ) : ∃ v : ℝ, 0 < v ∧ ms (fun k => (X k : EReal)) = (v : EReal)
    ∧ rs (fun k => (X k : EReal)) = (((Real.sqrt v)⁻¹ : ℝ) : EReal) := by
  obtain ⟨e, he, hE⟩ := eps_pos
  have hm : ms (fun k => (X k : EReal)) = (((∑ k, X k * X k) / 1024 + e : ℝ) : EReal) := by
    unfold ms W E
    rw [hE, width_eq]
    simp only [← EReal.coe_mul]
    rw [coe_sum, div_coe_coe (by norm_num), ← EReal.coe_add]
  have hv : 0 < (∑ k, X k * X k) / 1024 + e := by
    have : 0 ≤ ∑ k, X k * X k := Finset.sum_nonneg fun k _ => mul_self_nonneg _
    positivity
  refine ⟨_, hv, hm, ?_⟩
  unfold rs
  rw [hm, Ideal.rsqrt_coe, if_neg (not_lt.mpr hv.le), if_neg hv.ne']

theorem fin_rs {n : Nat} (x : Fin n → EReal) (hx : ∀ k, Fin' (x k)) : Fin' (rs x) := by
  choose X hX using hx
  obtain rfl : x = fun k => (X k : EReal) := funext hX
  obtain ⟨v, _, _, h⟩ := ms_rs X
  exact ⟨_, h⟩

/-- The gradient with respect to the row, as the kernels write it. -/
def byHand {n : Nat} (x gy : Fin n → EReal) (j : Fin n) : EReal :=
  rs x * (gy j - x j * rs x * Ideal.div (∑ k, gy k * (x k * rs x)) W)
/-- The scalar that differentiating the mean square gives, half of the row's multiplier. -/
def pull {n : Nat} (x gy : Fin n → EReal) : EReal :=
  Ideal.div ((∑ k, x k * gy k) * (NH * Ideal.div (rs x) (ms x))) W

/-- The two forms agree on finite rows. -/
theorem byHand_eq {n : Nat} (x gy : Fin n → EReal) (hx : ∀ k, Fin' (x k)) (hg : ∀ k, Fin' (gy k)) (j : Fin n) :
    byHand x gy j = gy j * rs x + x j * pull x gy + pull x gy * x j := by
  choose X hX using hx
  choose G hG using hg
  obtain rfl : x = fun k => (X k : EReal) := funext hX
  obtain rfl : gy = fun k => (G k : EReal) := funext hG
  obtain ⟨v, hv, hm, hr⟩ := ms_rs X
  unfold byHand pull
  rw [hr, hm]
  unfold NH W
  rw [width_eq, neg_half_eq]
  simp only [← EReal.coe_mul]
  rw [coe_sum, coe_sum, div_coe_coe (by norm_num), div_coe_coe hv.ne']
  simp only [← EReal.coe_mul]
  rw [div_coe_coe (by norm_num)]
  simp only [← EReal.coe_mul, ← EReal.coe_sub, ← EReal.coe_add]
  congr 1
  have hs : (Real.sqrt v)⁻¹ / v = (Real.sqrt v)⁻¹ * ((Real.sqrt v)⁻¹ * (Real.sqrt v)⁻¹) := by
    rw [← mul_inv, Real.mul_self_sqrt hv.le, div_eq_mul_inv]
  have hsum : ∑ k, G k * (X k * (Real.sqrt v)⁻¹) = (∑ k, X k * G k) * (Real.sqrt v)⁻¹ := by
    rw [Finset.sum_mul]; exact Finset.sum_congr rfl fun k _ => by ring
  rw [hs, hsum]
  ring

end Cert.Rms
-- ==== Proof.InProj.lean ====
/-
  The gradient of the input projection and of the norm before it: what the kernel's two results hold, read at an index.
-/
module

public import proofs.«01_k».proof.Proof.Rms
public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import Idealize.ShloMosaic.Lib.Tactic
public import Idealize.ShloMosaic.Lib.Tactic.CleanTypes

@[expose] public section

set_option maxRecDepth 16384

noncomputable section

namespace Cert.InProj

open Idealize.ShloMosaic Idealize.ShloMosaic.TcCoe Idealize.SL.Sem Cert.Rms

section Kernel
open Cert.KernelIdeal Cert.KernelIdeal.Gen

variable (m : (ℓ : Loc nD τ sig) → Buf (Elt Ideal) ℓ)

/-- The window index maps, decided over the eight grid points. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

/-- The tile's cotangent of the normed rows. -/
theorem dy_at (v0 : Vec Ideal S512x1536 .bf16) (v2 : Vec Ideal S1536x1024 .bf16) (r : Fin 512) (k : Fin 1024) :
    k0_pay2 v0 v2 (ix2 r k) = ∑ q : Fin 1536, v0 (ix2 r q) * v2 (ix2 q k) := by
  pointwise! [k0_pay2]

theorem scale_at (v5 : Vec Ideal S512x1024 .f32) (r : Fin 512) (k : Fin 1) :
    k0_pay4 v5 (ix2 r k) = rs fun k => v5 (ix2 r k) := by
  pointwise! [k0_pay4, k0_pay3, rs, ms, W, E]

theorem xh_at (v5 : Vec Ideal S512x1024 .f32) (r : Fin 512) (k : Fin 1024) :
    k0_pay5 v5 (ix2 r k) = v5 (ix2 r k) * rs fun k => v5 (ix2 r k) := by
  pointwise [k0_pay5, k0_pay3, scale_at]

/-- What a tile leaves of the gradient with respect to the rows. -/
theorem dx_at (v0 : Vec Ideal S512x1536 .bf16) (v2 : Vec Ideal S1536x1024 .bf16) (v5 : Vec Ideal S512x1024 .f32)
    (v7 : Vec Ideal S1x1024 .f32) (v31 : Vec Ideal S512x1024 .f32) (r : Fin 512) (k : Fin 1024) :
    k0_pay6 v0 v2 v5 v7 v31 (ix2 r k) = v31 (ix2 r k) + byHand (fun k => v5 (ix2 r k))
      (fun k => (∑ q : Fin 1536, v0 (ix2 r q) * v2 (ix2 q k)) * v7 (ix2 0 k)) k := by
  pointwise [k0_pay6, scale_at, xh_at, dy_at, byHand, W]

/-- What a tile adds to the gradient with respect to the norm's weights. -/
theorem dg_at (v0 : Vec Ideal S512x1536 .bf16) (v2 : Vec Ideal S1536x1024 .bf16) (v5 : Vec Ideal S512x1024 .f32)
    (u : Fin 1) (k : Fin 1024) :
    k0_pay7 v0 v2 v5 (ix2 u k) = ∑ r : Fin 512, (∑ q : Fin 1536, v0 (ix2 r q) * v2 (ix2 q k))
      * (v5 (ix2 r k) * rs fun k => v5 (ix2 r k)) := by
  pointwise [k0_pay7, xh_at, dy_at]

/-! ## The two result arrays -/

variable (c : Dev nD)

/-- The arguments, named. -/
abbrev aDz : Vec Ideal S4096x1536 .f32 := m ((c : Thread nD τ).loc main_arg0)
abbrev aW : Vec Ideal S1x1024x1536 .f32 := m ((c : Thread nD τ).loc main_arg1)
abbrev aX : Vec Ideal S1x4096x1024 .f32 := m ((c : Thread nD τ).loc main_arg2)
abbrev aD : Vec Ideal S4096x1024 .f32 := m ((c : Thread nD τ).loc main_arg3)
abbrev aG : Vec Ideal S1x1024 .f32 := m ((c : Thread nD τ).loc main_arg4)

theorem V_dz (i : Fin 4096) (q : Fin 1536) : V m c main_v0 (ix2 i q) = aDz m c (ix2 i q) := by
  unfold_abbrev_sides; after_results; pointwise
theorem V_w (q : Fin 1536) (j : Fin 1024) : V m c main_v3 (ix2 q j) = aW m c (ix3 0 j q) := by
  unfold_abbrev_sides; after_results; pointwise
theorem V_x (i : Fin 4096) (j : Fin 1024) : V m c main_v4 (ix2 i j) = aX m c (ix3 0 i j) := by
  unfold_abbrev_sides; after_results; pointwise

/-- The cotangent of the normed rows. -/
def dY (i : Fin 4096) (j : Fin 1024) : EReal := ∑ q : Fin 1536, aDz m c (ix2 i q) * aW m c (ix3 0 j q)

/-- Row `r` of tile `t`, as a row of the arrays. -/
def row (t : Fin cfg0.N) (r : Fin 512) : Fin 4096 :=
  ⟨t.val * 512 + r.val, by have := t.isLt; have : cfg0.N = 8 := N_0; omega⟩

theorem blk_dz (t : Fin cfg0.N) (r : Fin 512) (q : Fin 1536) : iblk m c 0 t (ix2 r q) = aDz m c (ix2 (row t r) q) := by
  rw [← V_dz]; blk_ext [iblk, idx t, row]
theorem blk_w (t : Fin cfg0.N) (q : Fin 1536) (j : Fin 1024) : iblk m c 1 t (ix2 q j) = aW m c (ix3 0 j q) := by
  rw [← V_w]; blk_ext [iblk, idx t, row]
theorem blk_x (t : Fin cfg0.N) (r : Fin 512) (j : Fin 1024) : iblk m c 2 t (ix2 r j) = aX m c (ix3 0 (row t r) j) := by
  rw [← V_x]; blk_ext [iblk, idx t, row]
theorem blk_d (t : Fin cfg0.N) (r : Fin 512) (j : Fin 1024) : iblk m c 3 t (ix2 r j) = aD m c (ix2 (row t r) j) := by
  blk_ext [iblk, V, idx t, row]
theorem blk_g (t : Fin cfg0.N) (u : Fin 1) (j : Fin 1024) : iblk m c 4 t (ix2 u j) = aG m c (ix2 0 j) := by
  blk_ext [iblk, V, idx t, row]

/-- A tile of the gradient with respect to the rows, in the arguments. -/
theorem tile_dx (t : Fin cfg0.N) (r : Fin 512) (k : Fin 1024) :
    k0_pay6 (iblk m c 0 t) (iblk m c 1 t) (iblk m c 2 t) (iblk m c 4 t) (iblk m c 3 t) (ix2 r k)
      = aD m c (ix2 (row t r) k) + byHand (fun k => aX m c (ix3 0 (row t r) k))
          (fun k => dY m c (row t r) k * aG m c (ix2 0 k)) k := by
  rw [dx_at]
  simp only [blk_dz, blk_w, blk_x, blk_d, blk_g, dY]

/-- A tile's part of the gradient with respect to the weights, in the arguments. -/
theorem tile_dg (t : Fin cfg0.N) (u : Fin 1) (k : Fin 1024) :
    k0_pay7 (iblk m c 0 t) (iblk m c 1 t) (iblk m c 2 t) (ix2 u k)
      = ∑ r : Fin 512, dY m c (row t r) k * (aX m c (ix3 0 (row t r) k) * rs fun k => aX m c (ix3 0 (row t r) k)) := by
  rw [dg_at]
  simp only [blk_dz, blk_w, blk_x, dY]

/-- The first result array after the run. -/
theorem final_dx : (dats m 0 c).arrAt 5 cfg0.N = fun i => aD m c i + byHand (fun k => aX m c (ix3 0 (i 0) k))
    (fun k => dY m c (i 0) k * aG m c (ix2 0 k)) (i 1) := by
  refine (dats m 0 c).arrAt_eq_of_covers 5 _ (by decide +kernel) fun t hf y => ?_
  blk_simp
  rw [after0_5]
  have hN : cfg0.N = 8 := N_0
  have he : ∀ (r : Fin 512) (k : Fin 1024),
      ((View.whole main_v5_0).slice (win0_5.rect t)).emb (ix2 r k) = ix2 (row t r) k := fun r k => by
    blk_ext [idx t, row]
  obtain ⟨r, k, rfl⟩ : ∃ (r : Fin 512) (k : Fin 1024), y = ix2 r k := ⟨y 0, y 1, eq_ix2 y⟩
  by_cases h : t.val = 0
  · rw [outsAt0_A m c t (by omega) (by omega)]
    frame_out
    rw [tile_dx, he]; rfl
  · rw [outsAt0_B m c t (by omega) (by omega)]
    frame_out
    rw [tile_dx, he]; rfl

/-- The second result array after the run. -/
theorem final_dg : (dats m 0 c).arrAt 6 cfg0.N = fun i => ∑ l : Fin 4096, dY m c l (i 1)
    * (aX m c (ix3 0 l (i 1)) * rs fun k => aX m c (ix3 0 l k)) := by
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0)
    (fun t j => ∑ r : Fin 512, dY m c (row t r) (j 1) * (aX m c (ix3 0 (row t r) (j 1)) * rs fun k => aX m c (ix3 0 (row t r) k)))
    (fun t h j => ?_) (fun t h j => ?_) (le_of_eq N_0) t0_7 rfl j, zero_add]
  · exact Fin.sum_mul_add_congr fun s k hl => rfl
  · have hN : cfg0.N = 8 := N_0
    rw [outsAt0_A m c t h (by have := t.isLt; omega)]
    frame_out
    rw [zero_add, eq_ix2 j]
    exact tile_dg m c t (j 0) (j 1)
  · rw [outsAt0_B m c t h (by omega)]
    frame_out
    rw [eq_ix2 j]
    pointwise [k0_pay1]
    exact congrArg _ (tile_dg m c t (j 0) (j 1))

end Kernel

/-! ## The reference -/

section Reference
open Cert.ReferenceIdeal Cert.ReferenceIdeal.Gen

variable (m : (ℓ : Loc nD τ sig) → Buf (Elt Ideal) ℓ) (ρ : Dev nD → PrngReg) (c : Dev nD)

abbrev rDz : Vec Ideal S4096x1536 .f32 := m ((c : Thread nD τ).loc main_arg0)
abbrev rW : Vec Ideal S1x1024x1536 .f32 := m ((c : Thread nD τ).loc main_arg1)
abbrev rX : Vec Ideal S1x4096x1024 .f32 := m ((c : Thread nD τ).loc main_arg2)
abbrev rD : Vec Ideal S4096x1024 .f32 := m ((c : Thread nD τ).loc main_arg3)
abbrev rG : Vec Ideal S1x1024 .f32 := m ((c : Thread nD τ).loc main_arg4)

/-- The cotangent of the normed rows. -/
def rY (i : Fin 4096) (j : Fin 1024) : EReal := ∑ q : Fin 1536, rDz m c (ix2 i q) * rW m c (ix3 0 j q)

/-- The reference's gradient with respect to the rows, at an index. -/
theorem ref_dx (i : Fin 4096) (j : Fin 1024) : Cert.ReferenceIdeal.Value.res_out0 m c (ix2 i j)
    = ((rD m c (ix2 i j) + rY m c i j * rG m c (ix2 0 j) * rs fun k => rX m c (ix3 0 i k))
      + rX m c (ix3 0 i j) * pull (fun k => rX m c (ix3 0 i k)) (fun k => rY m c i k * rG m c (ix2 0 k)))
      + pull (fun k => rX m c (ix3 0 i k)) (fun k => rY m c i k * rG m c (ix2 0 k)) * rX m c (ix3 0 i j) := by
  unfold Value.res_out0 Value.res_main_v44
  clean_types
  pointwise
  simp only [Fintype.sum_unique]
  rfl

/-- The reference's run, its results read at an index. -/
theorem ref_run : θ_run defs (onTc (τ := τ) (main (F := Ideal))) ⟨m, fun _ => 0, ρ⟩ fun r => ∀ c : Dev nD,
      r.2.mem ((c : Thread nD τ).loc main_v44) = Cert.ReferenceIdeal.Value.res_out0 m c
      ∧ r.2.mem ((c : Thread nD τ).loc main_v42) = fun i => ∑ l : Fin 4096, rY m c l (i 1)
          * (rX m c (ix3 0 l (i 1)) * rs fun k => rX m c (ix3 0 l k)) :=
  (θ_run defs _ _).mono (fun r h c => ⟨(h c).1, (h c).2.1.trans (by
    funext j
    clean_types
    pointwise
    simp only [Fintype.sum_unique]
    exact Finset.sum_congr rfl fun l _ => mul_comm _ _)⟩) (Cert.ReferenceIdeal.Value.run m ρ)

end Reference

end Cert.InProj

end
-- ==== Proof.InProjClaim.lean ====
/-
  The two programs of the input projection's gradient end with equal results, from finite arguments.
-/
module

public import proofs.«01_k».proof.Defs
public import proofs.«01_k».proof.Proof.InProj
public import proofs.«01_k».proof.Proof.Gen.Pre_finite_args

@[expose] public section

set_option maxRecDepth 16384

noncomputable section

namespace Cert.InProj

open Idealize.ShloMosaic Idealize.ShloMosaic.TcCoe Idealize.SL.Sem Cert.Rms
open Cert.KernelIdeal (nD τ sig)

/-- What the precondition says of the arguments the claim needs finite. -/
theorem fin_args (m : (ℓ : Loc nD τ sig) → Buf (Elt Ideal) ℓ) (h : Cert.Pre_KernelIdeal_finite_args m) (c : Dev nD) :
    (∀ i, Fin' (aDz m c i)) ∧ (∀ i, Fin' (aW m c i)) ∧ (∀ i, Fin' (aX m c i)) ∧ ∀ i, Fin' (aG m c i) :=
  ⟨fun i => fin_of_abs_lt (congrFun (h c).1 i), fun i => fin_of_abs_lt (congrFun (h c).2.1 i),
    fun i => fin_of_abs_lt (congrFun (h c).2.2.1 i), fun i => fin_of_abs_lt (congrFun (h c).2.2.2 i)⟩

/-- The memories agree on the arguments. -/
def Agree (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD) : Prop :=
  rDz m' c = aDz m c ∧ rW m' c = aW m c ∧ rX m' c = aX m c ∧ rD m' c = aD m c ∧ rG m' c = aG m c

variable {m : (ℓ : Loc nD τ sig) → Buf (Elt Ideal) ℓ}
  {m' : (ℓ : Loc Cert.ReferenceIdeal.nD Cert.ReferenceIdeal.τ Cert.ReferenceIdeal.sig) → Buf (Elt Ideal) ℓ}

theorem rY_eq {c : Dev nD} (h : Agree m m' c) (i : Fin 4096) (j : Fin 1024) : rY m' c i j = dY m c i j := by
  unfold rY dY
  rw [h.1, h.2.1]

/-- The first results meet. -/
theorem meet_dx (hpre : Cert.Pre_KernelIdeal_finite_args m) (c : Dev nD) (h : Agree m m' c) :
    Cert.ReferenceIdeal.Value.res_out0 m' c = (Cert.KernelIdeal.Gen.dats m 0 c).arrAt 5 Cert.KernelIdeal.cfg0.N := by
  obtain ⟨f0, f1, f2, f4⟩ := fin_args m hpre c
  rw [final_dx]
  funext i
  obtain ⟨a, b, rfl⟩ : ∃ (a : Fin 4096) (b : Fin 1024), i = ix2 a b := ⟨i 0, i 1, eq_ix2 i⟩
  refine (ref_dx m' c a b).trans ?_
  simp only [rY_eq h, h.2.2.1, h.2.2.2.1, h.2.2.2.2]
  refine Eq.trans ?_ (congrArg (aD m c (ix2 a b) + ·) (byHand_eq (fun k => aX m c (ix3 0 a k))
    (fun k => dY m c a k * aG m c (ix2 0 k)) (fun k => f2 _)
    (fun k => fin_mul (fin_sum _ _ fun q => fin_mul (f0 _) (f1 _)) (f4 _)) b)).symm
  simp only [← add_assoc]

/-- The second results meet. -/
theorem meet_dg (c : Dev nD) (h : Agree m m' c) :
    (fun i => ∑ l : Fin 4096, rY m' c l (i 1) * (rX m' c (ix3 0 l (i 1)) * rs fun k => rX m' c (ix3 0 l k)) :
      Cert.KernelIdeal.S1x1024.Idx → EReal)
      = (Cert.KernelIdeal.Gen.dats m 0 c).arrAt 6 Cert.KernelIdeal.cfg0.N := by
  rw [final_dg, ← h.2.2.1]
  funext i
  exact Finset.sum_congr rfl fun l _ => congrArg (· * _) (rY_eq h l (i 1))

/-- The claim: equal results from finite arguments. -/
theorem algebraic : Cert.algebraic_KernelIdeal_ReferenceIdeal_pre_finite_args := by
  intro m ρ m' ρ' hpre hag
  refine ⟨fun c => (Cert.KernelIdeal.Gen.dats m 0 c).arrAt 5 Cert.KernelIdeal.cfg0.N,
    fun c => (Cert.KernelIdeal.Gen.dats m 0 c).arrAt 6 Cert.KernelIdeal.cfg0.N,
    Cert.KernelIdeal.Value.run_blocks m ρ, ?_⟩
  exact (θ_run _ _ _).mono (fun r h c => ⟨(h.1 c).1.trans (meet_dx hpre c (hag c)),
      (h.1 c).2.trans (meet_dg c (hag c)), (h.2 c).2.2⟩)
    (θ_run_and (ref_run m' ρ') (Cert.ReferenceIdeal.Value.run m' ρ'))

end Cert.InProj

end
-- ==== Proof.DownLoss.lean ====
/-
  The down projection, the loss and the last norm's gradient: what the kernel's four results hold, read at an index.
-/
module

public import proofs.«01_k».proof.Proof.Rms
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Tactic
public import Idealize.ShloMosaic.Lib.Tactic.CleanTypes

@[expose] public section

set_option maxRecDepth 16384

noncomputable section

namespace Cert.DownLoss

open Idealize.ShloMosaic Idealize.ShloMosaic.TcCoe Idealize.SL.Sem Cert.Rms
open scoped BigOperators

/-! ## The mathematics, over the arguments -/

section Math
open Cert.Kernel2Ideal (S4096x1024 S4096x2816 S1x2816x1024 S1024 S1x4096x1024)

variable (h : S4096x1024.Idx → EReal) (a : S4096x2816.Idx → EReal) (w : S1x2816x1024.Idx → EReal)
  (g : S1024.Idx → EReal) (t : S1x4096x1024.Idx → EReal)

/-- A row after the residual sum. -/
def h2 (i : Fin 4096) (j : Fin 1024) : EReal := h (ix2 i j) + ∑ q : Fin 2816, a (ix2 i q) * w (ix3 0 q j)
/-- The normed row less its target. -/
def diff (i : Fin 4096) (j : Fin 1024) : EReal :=
  h2 h a w i j * rs (h2 h a w i) * g (ix1 j) - t (ix3 0 i j)
/-- The loss's cotangent of the normed row. -/
def ct (i : Fin 4096) (j : Fin 1024) : EReal := diff h a w g t i j * Ideal.ofBits .f32 0x3A800000#32

end Math

section Kernel
open Cert.Kernel2Ideal Cert.Kernel2Ideal.Gen

variable (m : (ℓ : Loc nD τ sig) → Buf (Elt Ideal) ℓ)

/-- The window index maps, decided over the eight grid points. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

/-! ### The payloads at an index -/

variable (v0 : Vec Ideal S512x1024 .f32) (v1 : Vec Ideal S512x2816 .bf16) (v3 : Vec Ideal S2816x1024 .bf16)
  (v15 : Vec Ideal S1x1024 .f32) (v21 : Vec Ideal S512x1024 .f32) (v6 v23 : FVec Ideal S512x1024 .f32)
  (v16 : FVec Ideal S1x1024 .f32)

theorem h2_at (r : Fin 512) (k : Fin 1024) :
    k0_pay8 v0 v1 v3 (ix2 r k) = v0 (ix2 r k) + ∑ q : Fin 2816, v1 (ix2 r q) * v3 (ix2 q k) := by
  pointwise [k0_pay8]

theorem diff_at (r : Fin 512) (k : Fin 1024) : k0_pay10 v0 v1 v3 v15 v21 (ix2 r k)
    = k0_pay8 v0 v1 v3 (ix2 r k) * rs (fun k => k0_pay8 v0 v1 v3 (ix2 r k)) * v15 (ix2 0 k) - v21 (ix2 r k) := by
  pointwise [k0_pay10, k0_pay9, rs, ms, W, E]

theorem loss_at (u : Fin 1) (k : Fin 128) : k0_pay11 v0 v1 v3 v15 v21 (ix2 u k)
    = (∑ r : Fin 512, ∑ j : Fin 1024, k0_pay10 v0 v1 v3 v15 v21 (ix2 r j) * k0_pay10 v0 v1 v3 v15 v21 (ix2 r j))
      * Ideal.ofBits .f32 0x3A000000#32 := by
  pointwise [k0_pay11]

theorem ct_at (r : Fin 512) (k : Fin 1024) : k0_pay1 v23 (ix2 r k) = v23 (ix2 r k) * Ideal.ofBits .f32 0x3A800000#32 := by
  pointwise [k0_pay1]

theorem scale_at (r : Fin 512) (k : Fin 1) : k0_pay2 v6 (ix2 r k) = rs fun k => v6 (ix2 r k) := by
  pointwise! [k0_pay2, rs, ms, W, E]

theorem xh_at (r : Fin 512) (k : Fin 1024) : k0_pay3 v6 (ix2 r k) = v6 (ix2 r k) * rs fun k => v6 (ix2 r k) := by
  pointwise [k0_pay3, scale_at]

theorem dh2_at (r : Fin 512) (k : Fin 1024) : k0_pay4 v6 v16 v23 (ix2 r k) = byHand (fun k => v6 (ix2 r k))
    (fun k => v23 (ix2 r k) * Ideal.ofBits .f32 0x3A800000#32 * v16 (ix2 0 k)) k := by
  pointwise [k0_pay4, ct_at, scale_at, xh_at, byHand, W]

theorem dg_at (u : Fin 1) (k : Fin 1024) : k0_pay6 v6 v23 (ix2 u k)
    = ∑ r : Fin 512, v23 (ix2 r k) * Ideal.ofBits .f32 0x3A800000#32 * (v6 (ix2 r k) * rs fun k => v6 (ix2 r k)) := by
  pointwise [k0_pay6, xh_at, ct_at]

/-! ### The result arrays -/

variable (c : Dev nD)

/-- The arguments, named. -/
abbrev aH : Vec Ideal S4096x1024 .f32 := m ((c : Thread nD τ).loc main_arg0)
abbrev aA : Vec Ideal S4096x2816 .f32 := m ((c : Thread nD τ).loc main_arg1)
abbrev aW : Vec Ideal S1x2816x1024 .f32 := m ((c : Thread nD τ).loc main_arg2)
abbrev aG : Vec Ideal S1024 .f32 := m ((c : Thread nD τ).loc main_arg3)
abbrev aT : Vec Ideal S1x4096x1024 .f32 := m ((c : Thread nD τ).loc main_arg4)

/-- The kernel's rows, differences and cotangent. -/
abbrev kH2 := h2 (aH m c) (aA m c) (aW m c)
abbrev kDiff := diff (aH m c) (aA m c) (aW m c) (aG m c) (aT m c)
abbrev kCt := ct (aH m c) (aA m c) (aW m c) (aG m c) (aT m c)

theorem V_a (i : Fin 4096) (q : Fin 2816) : V m c main_v0 (ix2 i q) = aA m c (ix2 i q) := by
  unfold_abbrev_sides; after_results; pointwise
theorem V_w (q : Fin 2816) (j : Fin 1024) : V m c main_v2 (ix2 q j) = aW m c (ix3 0 q j) := by
  unfold_abbrev_sides; after_results; pointwise
theorem V_t (i : Fin 4096) (j : Fin 1024) : V m c main_v3 (ix2 i j) = aT m c (ix3 0 i j) := by
  unfold_abbrev_sides; after_results; pointwise
theorem V_g (u : Fin 1) (j : Fin 1024) : V m c main_v4 (ix2 u j) = aG m c (ix1 j) := by
  unfold_abbrev_sides; after_results; pointwise

/-- Row `r` of tile `t`, as a row of the arrays. -/
def row (t : Fin cfg0.N) (r : Fin 512) : Fin 4096 :=
  ⟨t.val * 512 + r.val, by have := t.isLt; have : cfg0.N = 8 := N_0; omega⟩

theorem blk_a (t : Fin cfg0.N) (r : Fin 512) (q : Fin 2816) : iblk m c 0 t (ix2 r q) = aA m c (ix2 (row t r) q) := by
  rw [← V_a]; blk_ext [iblk, idx t, row]
theorem blk_w (t : Fin cfg0.N) (q : Fin 2816) (j : Fin 1024) : iblk m c 1 t (ix2 q j) = aW m c (ix3 0 q j) := by
  rw [← V_w]; blk_ext [iblk, idx t, row]
theorem blk_h (t : Fin cfg0.N) (r : Fin 512) (j : Fin 1024) : iblk m c 2 t (ix2 r j) = aH m c (ix2 (row t r) j) := by
  blk_ext [iblk, V, idx t, row]
theorem blk_t (t : Fin cfg0.N) (r : Fin 512) (j : Fin 1024) : iblk m c 3 t (ix2 r j) = aT m c (ix3 0 (row t r) j) := by
  rw [← V_t]; blk_ext [iblk, idx t, row]
theorem blk_g (t : Fin cfg0.N) (u : Fin 1) (j : Fin 1024) : iblk m c 4 t (ix2 u j) = aG m c (ix1 j) := by
  rw [← V_g m c u]; blk_ext [iblk, idx t, row]

/-- A tile's rows after the residual sum. -/
abbrev tH2 (t : Fin cfg0.N) : FVec Ideal S512x1024 .f32 := k0_pay8 (iblk m c 2 t) (iblk m c 0 t) (iblk m c 1 t)
/-- A tile's differences. -/
abbrev tDiff (t : Fin cfg0.N) : FVec Ideal S512x1024 .f32 :=
  k0_pay10 (iblk m c 2 t) (iblk m c 0 t) (iblk m c 1 t) (iblk m c 4 t) (iblk m c 3 t)

theorem tile_h2 (t : Fin cfg0.N) (r : Fin 512) (k : Fin 1024) : tH2 m c t (ix2 r k) = kH2 m c (row t r) k := by
  refine (h2_at _ _ _ r k).trans ?_
  simp only [blk_h, blk_a, blk_w, h2]

theorem tile_diff (t : Fin cfg0.N) (r : Fin 512) (k : Fin 1024) : tDiff m c t (ix2 r k) = kDiff m c (row t r) k := by
  refine (diff_at _ _ _ _ _ r k).trans ?_
  simp only [tile_h2, blk_t, blk_g]
  rfl

theorem tile_dh2 (t : Fin cfg0.N) (r : Fin 512) (k : Fin 1024) :
    k0_pay4 (tH2 m c t) (k0_pay9 (iblk m c 4 t)) (tDiff m c t) (ix2 r k)
      = byHand (kH2 m c (row t r)) (fun k => kCt m c (row t r) k * aG m c (ix1 k)) k := by
  rw [dh2_at]
  have hg : ∀ k : Fin 1024, k0_pay9 (iblk m c 4 t) (ix2 0 k) = aG m c (ix1 k) := fun k => by
    rw [← blk_g m c t 0 k]; pointwise [k0_pay9]
  simp only [tile_h2, tile_diff, hg]
  rfl

theorem tile_dg (t : Fin cfg0.N) (u : Fin 1) (k : Fin 1024) : k0_pay6 (tH2 m c t) (tDiff m c t) (ix2 u k)
      = ∑ r : Fin 512, kCt m c (row t r) k * (kH2 m c (row t r) k * rs (kH2 m c (row t r))) := by
  rw [dg_at]
  simp only [tile_h2, tile_diff]
  rfl

theorem tile_loss (t : Fin cfg0.N) (u : Fin 1) (k : Fin 128) :
    k0_pay11 (iblk m c 2 t) (iblk m c 0 t) (iblk m c 1 t) (iblk m c 4 t) (iblk m c 3 t) (ix2 u k)
      = (∑ r : Fin 512, ∑ j : Fin 1024, kDiff m c (row t r) j * kDiff m c (row t r) j) * Ideal.ofBits .f32 0x3A000000#32 := by
  rw [loss_at]
  simp only [tile_diff]

/-- The gradient with respect to the rows, after the run. -/
theorem final_dh2 : (dats m 0 c).arrAt 5 cfg0.N = fun i => byHand (kH2 m c (i 0))
    (fun k => kCt m c (i 0) k * aG m c (ix1 k)) (i 1) := by
  refine (dats m 0 c).arrAt_eq_of_covers 5 _ (by decide +kernel) fun t hf y => ?_
  blk_simp
  rw [after0_5]
  have hN : cfg0.N = 8 := N_0
  have he : ∀ (r : Fin 512) (k : Fin 1024),
      ((View.whole main_v5_0).slice (win0_5.rect t)).emb (ix2 r k) = ix2 (row t r) k := fun r k => by
    blk_ext [idx t, row]
  obtain ⟨r, k, rfl⟩ : ∃ (r : Fin 512) (k : Fin 1024), y = ix2 r k := ⟨y 0, y 1, eq_ix2 y⟩
  by_cases h : t.val = 0
  · rw [outsAt0_A m c t (by omega) (by omega) (by omega) (by omega)]
    frame_out
    rw [he]; exact tile_dh2 m c t r k
  · rw [outsAt0_B m c t (by omega) (by omega) (by omega) (by omega)]
    frame_out
    rw [he]; exact tile_dh2 m c t r k

/-- Its narrow copy. -/
theorem final_dh2b : (dats m 0 c).arrAt 6 cfg0.N = fun i => byHand (kH2 m c (i 0))
    (fun k => kCt m c (i 0) k * aG m c (ix1 k)) (i 1) := by
  refine (dats m 0 c).arrAt_eq_of_covers 6 _ (by decide +kernel) fun t hf y => ?_
  blk_simp
  rw [after0_6]
  have hN : cfg0.N = 8 := N_0
  have he : ∀ (r : Fin 512) (k : Fin 1024),
      ((View.whole main_v5_1).slice (win0_6.rect t)).emb (ix2 r k) = ix2 (row t r) k := fun r k => by
    blk_ext [idx t, row]
  obtain ⟨r, k, rfl⟩ : ∃ (r : Fin 512) (k : Fin 1024), y = ix2 r k := ⟨y 0, y 1, eq_ix2 y⟩
  by_cases h : t.val = 0
  · rw [outsAt0_A m c t (by omega) (by omega) (by omega) (by omega)]
    frame_out
    rw [he]; exact tile_dh2 m c t r k
  · rw [outsAt0_B m c t (by omega) (by omega) (by omega) (by omega)]
    frame_out
    rw [he]; exact tile_dh2 m c t r k

/-- The loss row after the run: every lane the sum over the tiles. -/
theorem final_loss : (dats m 0 c).arrAt 7 cfg0.N = fun _ => ∑ s : Fin 8,
    (∑ r : Fin 512, ∑ j : Fin 1024, kDiff m c (row s r) j * kDiff m c (row s r) j) * Ideal.ofBits .f32 0x3A000000#32 := by
  refine (dats m 0 c).arrAt_eq_of_after_last 7 t0_7 (by decide +kernel) _ fun j => ?_
  blk_simp
  rw [after0_7, Pipeline.eq_sum_fin_of_reset_step_apply_last (fun n h => (outsAt0 m c n h).2.2.1) 8 (fun _ => 0)
    (fun t _ => (∑ r : Fin 512, ∑ j : Fin 1024, kDiff m c (row t r) j * kDiff m c (row t r) j) * Ideal.ofBits .f32 0x3A000000#32)
    (fun t h j => ?_) (fun t h j => ?_) (le_of_eq N_0) t0_7 rfl j, zero_add]
  · rfl
  · have hN : cfg0.N = 8 := N_0
    have := t.isLt
    rw [outsAt0_A m c t h (by omega) (by omega) (by omega)]
    frame_out
    rw [zero_add, eq_ix2 j]
    exact tile_loss m c t (j 0) (j 1)
  · have hN : cfg0.N = 8 := N_0
    have := t.isLt
    rw [outsAt0_B m c t h (by omega) (by omega) (by omega)]
    frame_out
    rw [eq_ix2 j]
    pointwise [k0_pay12]
    exact congrArg _ (tile_loss m c t (j 0) (j 1))

/-- The gradient with respect to the norm's weights, after the run. -/
theorem final_dg : (dats m 0 c).arrAt 8 cfg0.N = fun i => ∑ l : Fin 4096, kCt m c l (i 1)
    * (kH2 m c l (i 1) * rs (kH2 m c l)) := by
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => 0)
    (fun t j => ∑ r : Fin 512, kCt m c (row t r) (j 1) * (kH2 m c (row t r) (j 1) * rs (kH2 m c (row t r))))
    (fun t h j => ?_) (fun t h j => ?_) (le_of_eq N_0) t0_7 rfl j, zero_add]
  · exact Fin.sum_mul_add_congr fun s k hl => rfl
  · have hN : cfg0.N = 8 := N_0
    have := t.isLt
    rw [outsAt0_A m c t h (by omega) (by omega) (by omega)]
    frame_out
    rw [zero_add, eq_ix2 j]
    exact tile_dg m c t (j 0) (j 1)
  · have hN : cfg0.N = 8 := N_0
    have := t.isLt
    rw [outsAt0_B m c t h (by omega) (by omega) (by omega)]
    frame_out
    rw [eq_ix2 j]
    pointwise [k0_pay7]
    exact congrArg _ (tile_dg m c t (j 0) (j 1))

end Kernel

/-! ## The reference -/

section Reference
open Cert.Reference2Ideal Cert.Reference2Ideal.Gen

variable (m : (ℓ : Loc nD τ sig) → Buf (Elt Ideal) ℓ) (ρ : Dev nD → PrngReg) (c : Dev nD)

abbrev rH : Vec Ideal S4096x1024 .f32 := m ((c : Thread nD τ).loc main_arg0)
abbrev rA : Vec Ideal S4096x2816 .f32 := m ((c : Thread nD τ).loc main_arg1)
abbrev rW : Vec Ideal S1x2816x1024 .f32 := m ((c : Thread nD τ).loc main_arg2)
abbrev rG : Vec Ideal S1024 .f32 := m ((c : Thread nD τ).loc main_arg3)
abbrev rT : Vec Ideal S1x4096x1024 .f32 := m ((c : Thread nD τ).loc main_arg4)
abbrev rH2 := h2 (rH m c) (rA m c) (rW m c)
abbrev rDiff := diff (rH m c) (rA m c) (rW m c) (rG m c) (rT m c)
abbrev rCt := ct (rH m c) (rA m c) (rW m c) (rG m c) (rT m c)

/-- The cotangent as differentiating the loss's lines gives it: one half over the width, times twice the difference. -/
theorem ct_eq (d : EReal) : Ideal.div (Ideal.ofBits .f32 0x3F000000#32)
    (Ideal.ofBits .f32 0x44800000#32) * (Ideal.ofBits .f32 0x40000000#32 * d) = d * Ideal.ofBits .f32 0x3A800000#32 := by
  rw [half_eq, width_eq, two_eq, per_width_eq, div_coe_coe (by norm_num), ← mul_assoc,
    ← EReal.coe_mul, mul_comm d]
  norm_num

/-- The reference's gradient with respect to the rows, at an index. -/
theorem ref_dh2 (i : Fin 4096) (j : Fin 1024) : Cert.Reference2Ideal.Value.res_out0 m c (ix2 i j)
    = (rCt m c i j * rG m c (ix1 j) * rs (rH2 m c i)
      + rH2 m c i j * pull (rH2 m c i) (fun k => rCt m c i k * rG m c (ix1 k)))
      + pull (rH2 m c i) (fun k => rCt m c i k * rG m c (ix1 k)) * rH2 m c i j := by
  unfold Value.res_out0 Value.res_main_v54
  clean_types
  pointwise
  simp only [Fintype.sum_unique, ct_eq]
  refine congrArg₂ (· + ·) (congrArg₂ (· + ·) ?_ ?_) ?_
  · rfl
  · rfl
  · rfl

theorem ref_dh2b : Cert.Reference2Ideal.Value.res_out1 m c = Cert.Reference2Ideal.Value.res_out0 m c := rfl

/-- The reference's run, its last two results read at an index. -/
theorem ref_run : θ_run defs (onTc (τ := τ) (main (F := Ideal))) ⟨m, fun _ => 0, ρ⟩ fun r => ∀ c : Dev nD,
      r.2.mem ((c : Thread nD τ).loc main_v54) = Cert.Reference2Ideal.Value.res_out0 m c
      ∧ r.2.mem ((c : Thread nD τ).loc main_v55) = Cert.Reference2Ideal.Value.res_out1 m c
      ∧ r.2.mem ((c : Thread nD τ).loc main_v56) = (fun _ => Ideal.ofBits .f32 0x3F000000#32
          * ∑ l : Fin 4096, Ideal.div (∑ k : Fin 1024, rDiff m c l k * rDiff m c l k) W)
      ∧ r.2.mem ((c : Thread nD τ).loc main_v57) = fun i => ∑ l : Fin 4096, rCt m c l (i 1)
          * (rH2 m c l (i 1) * rs (rH2 m c l)) :=
  (θ_run defs _ _).mono (fun r h c => ⟨(h c).1, (h c).2.1, (h c).2.2.1.trans (by
    funext j
    clean_types
    pointwise
    rfl), (h c).2.2.2.1.trans (by
    funext j
    clean_types
    pointwise
    simp only [Fintype.sum_unique, ct_eq]
    exact Finset.sum_congr rfl fun l _ => mul_comm (_ : EReal) _)⟩) (Cert.Reference2Ideal.Value.run m ρ)

end Reference

end Cert.DownLoss

end
-- ==== Proof.DownLossClaim.lean ====
/-
  The two programs of the loss and the last norm's gradient end with equal results, from finite arguments.
-/
module

public import proofs.«01_k».proof.Defs
public import proofs.«01_k».proof.Proof.DownLoss
public import proofs.«01_k».proof.Proof.Gen.Pre_finite_args2

@[expose] public section

set_option maxRecDepth 16384

noncomputable section

namespace Cert.DownLoss

open Idealize.ShloMosaic Idealize.ShloMosaic.TcCoe Idealize.SL.Sem Cert.Rms
open Cert.Kernel2Ideal (nD τ sig)
open scoped BigOperators

section Math
open Cert.Kernel2Ideal (S4096x1024 S4096x2816 S1x2816x1024 S1024 S1x4096x1024)

variable {h : S4096x1024.Idx → EReal} {a : S4096x2816.Idx → EReal} {w : S1x2816x1024.Idx → EReal}
  {g : S1024.Idx → EReal} {t : S1x4096x1024.Idx → EReal}
  (fh : ∀ i, Fin' (h i)) (fa : ∀ i, Fin' (a i)) (fw : ∀ i, Fin' (w i)) (fg : ∀ i, Fin' (g i)) (ft : ∀ i, Fin' (t i))

include fh fa fw in
theorem fin_h2 (i : Fin 4096) (j : Fin 1024) : Fin' (h2 h a w i j) :=
  fin_add (fh _) (fin_sum _ _ fun _ => fin_mul (fa _) (fw _))

include fh fa fw fg ft in
theorem fin_diff (i : Fin 4096) (j : Fin 1024) : Fin' (diff h a w g t i j) :=
  fin_sub (fin_mul (fin_mul (fin_h2 fh fa fw i j) (fin_rs _ (fin_h2 fh fa fw i))) (fg _)) (ft _)

include fh fa fw fg ft in
theorem fin_ct (i : Fin 4096) (j : Fin 1024) : Fin' (ct h a w g t i j) :=
  fin_mul (fin_diff fh fa fw fg ft i j) ⟨_, per_width_eq⟩

end Math

/-- The loss: half the sum of the rows' means is the tiles' sums over twice the width, on finite terms. -/
theorem loss_eq (f : Fin 4096 → EReal) (hf : ∀ l, Fin' (f l)) :
    Ideal.ofBits .f32 0x3F000000#32 * ∑ l : Fin 4096, Ideal.div (f l) W
      = ∑ s : Fin 8, (∑ r : Fin 512, f (row s r)) * Ideal.ofBits .f32 0x3A000000#32 := by
  choose X hX using hf
  obtain rfl : f = fun k => (X k : EReal) := funext hX
  unfold W
  rw [half_eq, width_eq, per_two_widths_eq]
  simp only [div_coe_coe (show (1024 : ℝ) ≠ 0 by norm_num), coe_sum, ← EReal.coe_mul]
  congr 1
  have hs : ∑ s : Fin 8, ∑ r : Fin 512, X (row s r) = ∑ l : Fin 4096, X l := Fin.sum_mul_add_congr fun s r hl => rfl
  rw [← Finset.sum_mul, ← Finset.sum_div, hs]
  ring

/-- What the precondition says of the arguments. -/
theorem fin_args (m : (ℓ : Loc nD τ sig) → Buf (Elt Ideal) ℓ) (h : Cert.Pre_Kernel2Ideal_finite_args2 m) (c : Dev nD) :
    (∀ i, Fin' (aH m c i)) ∧ (∀ i, Fin' (aA m c i)) ∧ (∀ i, Fin' (aW m c i)) ∧ (∀ i, Fin' (aG m c i))
      ∧ ∀ i, Fin' (aT m c i) :=
  ⟨fun i => fin_of_abs_lt (congrFun (h c).1 i), fun i => fin_of_abs_lt (congrFun (h c).2.1 i),
    fun i => fin_of_abs_lt (congrFun (h c).2.2.1 i), fun i => fin_of_abs_lt (congrFun (h c).2.2.2.1 i),
    fun i => fin_of_abs_lt (congrFun (h c).2.2.2.2 i)⟩

/-- The memories agree on the arguments. -/
def Agree (m : (ℓ : Loc nD τ sig) → Buf (Elt Ideal) ℓ)
    (m' : (ℓ : Loc Cert.Reference2Ideal.nD Cert.Reference2Ideal.τ Cert.Reference2Ideal.sig) → Buf (Elt Ideal) ℓ) (c : Dev nD) : Prop :=
  rH m' c = aH m c ∧ rA m' c = aA m c ∧ rW m' c = aW m c ∧ rG m' c = aG m c ∧ rT m' c = aT m c

variable {m : (ℓ : Loc nD τ sig) → Buf (Elt Ideal) ℓ}
  {m' : (ℓ : Loc Cert.Reference2Ideal.nD Cert.Reference2Ideal.τ Cert.Reference2Ideal.sig) → Buf (Elt Ideal) ℓ}

theorem rH2_eq {c : Dev nD} (h : Agree m m' c) : rH2 m' c = kH2 m c := by
  unfold rH2; rw [h.1, h.2.1, h.2.2.1]
theorem rDiff_eq {c : Dev nD} (h : Agree m m' c) : rDiff m' c = kDiff m c := by
  unfold rDiff; rw [h.1, h.2.1, h.2.2.1, h.2.2.2.1, h.2.2.2.2]
theorem rCt_eq {c : Dev nD} (h : Agree m m' c) : rCt m' c = kCt m c := by
  unfold rCt; rw [h.1, h.2.1, h.2.2.1, h.2.2.2.1, h.2.2.2.2]

/-- The gradients with respect to the rows meet. -/
theorem meet_dh2 (hpre : Cert.Pre_Kernel2Ideal_finite_args2 m) (c : Dev nD) (h : Agree m m' c) :
    Cert.Reference2Ideal.Value.res_out0 m' c = (Cert.Kernel2Ideal.Gen.dats m 0 c).arrAt 5 Cert.Kernel2Ideal.cfg0.N := by
  obtain ⟨f0, f1, f2, f3, f4⟩ := fin_args m hpre c
  rw [final_dh2]
  funext i
  obtain ⟨p, q, rfl⟩ : ∃ (p : Fin 4096) (q : Fin 1024), i = ix2 p q := ⟨i 0, i 1, eq_ix2 i⟩
  refine (ref_dh2 m' c p q).trans ?_
  rw [rH2_eq h, rCt_eq h, h.2.2.2.1]
  exact (byHand_eq (kH2 m c p) (fun k => kCt m c p k * aG m c (ix1 k)) (fin_h2 f0 f1 f2 p)
    (fun k => fin_mul (fin_ct f0 f1 f2 f3 f4 p k) (f3 _)) q).symm

/-- Their narrow copies meet. -/
theorem meet_dh2b (hpre : Cert.Pre_Kernel2Ideal_finite_args2 m) (c : Dev nD) (h : Agree m m' c) :
    Cert.Reference2Ideal.Value.res_out1 m' c = (Cert.Kernel2Ideal.Gen.dats m 0 c).arrAt 6 Cert.Kernel2Ideal.cfg0.N :=
  (meet_dh2 hpre c h).trans ((final_dh2 m c).trans (final_dh2b m c).symm)

/-- The losses meet. -/
theorem meet_loss (hpre : Cert.Pre_Kernel2Ideal_finite_args2 m) (c : Dev nD) (h : Agree m m' c) :
    (fun _ => Ideal.ofBits .f32 0x3F000000#32
        * ∑ l : Fin 4096, Ideal.div (∑ k : Fin 1024, rDiff m' c l k * rDiff m' c l k) W : Cert.Kernel2Ideal.S1x128.Idx → EReal)
      = (Cert.Kernel2Ideal.Gen.dats m 0 c).arrAt 7 Cert.Kernel2Ideal.cfg0.N := by
  obtain ⟨f0, f1, f2, f3, f4⟩ := fin_args m hpre c
  rw [final_loss, rDiff_eq h]
  funext i
  exact loss_eq (fun l => ∑ k : Fin 1024, kDiff m c l k * kDiff m c l k) fun l =>
    fin_sum _ _ fun k => fin_mul (fin_diff f0 f1 f2 f3 f4 l k) (fin_diff f0 f1 f2 f3 f4 l k)

/-- The gradients with respect to the norm's weights meet. -/
theorem meet_dg (c : Dev nD) (h : Agree m m' c) :
    (fun i => ∑ l : Fin 4096, rCt m' c l (i 1) * (rH2 m' c l (i 1) * rs (rH2 m' c l)) :
      Cert.Kernel2Ideal.S1x1024.Idx → EReal)
      = (Cert.Kernel2Ideal.Gen.dats m 0 c).arrAt 8 Cert.Kernel2Ideal.cfg0.N := by
  rw [final_dg, rCt_eq h, rH2_eq h]
  rfl

/-- The claim: equal results from finite arguments. -/
theorem algebraic : Cert.algebraic_Kernel2Ideal_Reference2Ideal_pre_finite_args2 := by
  intro m ρ m' ρ' hpre hag
  refine ⟨fun c => (Cert.Kernel2Ideal.Gen.dats m 0 c).arrAt 5 Cert.Kernel2Ideal.cfg0.N,
    fun c => (Cert.Kernel2Ideal.Gen.dats m 0 c).arrAt 6 Cert.Kernel2Ideal.cfg0.N,
    fun c => (Cert.Kernel2Ideal.Gen.dats m 0 c).arrAt 7 Cert.Kernel2Ideal.cfg0.N,
    fun c => (Cert.Kernel2Ideal.Gen.dats m 0 c).arrAt 8 Cert.Kernel2Ideal.cfg0.N,
    Cert.Kernel2Ideal.Value.run_blocks m ρ, ?_⟩
  exact (θ_run _ _ _).mono (fun r h c => ⟨(h.1 c).1.trans (meet_dh2 hpre c (hag c)),
      (h.1 c).2.1.trans (meet_dh2b hpre c (hag c)), (h.1 c).2.2.1.trans (meet_loss hpre c (hag c)),
      (h.1 c).2.2.2.trans (meet_dg c (hag c)), (h.2 c).2.2.2.2⟩)
    (θ_run_and (ref_run m' ρ') (Cert.Reference2Ideal.Value.run m' ρ'))

end Cert.DownLoss

end
-- ==== Proof.FfnIn.lean ====
/-
  The gradient through the gate and up projections' inputs and the norm before them, and the cotangent of the mixer's
  output: what the kernel's four results hold, read at an index.
-/
module

public import proofs.«01_k».proof.Proof.Rms
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Tactic
public import Idealize.ShloMosaic.Lib.Tactic.CleanTypes

@[expose] public section

set_option maxRecDepth 16384

noncomputable section

namespace Cert.FfnIn

open Idealize.ShloMosaic Idealize.ShloMosaic.TcCoe Idealize.SL.Sem Cert.Rms
open scoped BigOperators

/-! ## The mathematics, over the arguments -/

section Math
open Cert.Kernel3Ideal (S4096x2816 S1x1024x2816 S4096x1024 S1x1024 S1x1024x1024)

variable (dg du : S4096x2816.Idx → EReal) (wg wu : S1x1024x2816.Idx → EReal) (x d : S4096x1024.Idx → EReal)
  (g : S1x1024.Idx → EReal) (wo : S1x1024x1024.Idx → EReal)

/-- The cotangent of the normed rows: through the gate projection and through the up projection. -/
def dN (i : Fin 4096) (j : Fin 1024) : EReal :=
  (∑ q : Fin 2816, dg (ix2 i q) * wg (ix3 0 j q)) + ∑ q : Fin 2816, du (ix2 i q) * wu (ix3 0 j q)
/-- A row. -/
def xr (i : Fin 4096) (j : Fin 1024) : EReal := x (ix2 i j)
/-- The norm's scaled cotangent. -/
def gy (i : Fin 4096) (j : Fin 1024) : EReal := dN dg du wg wu i j * g (ix2 0 j)
/-- The gradient with respect to the rows. -/
def dX (i : Fin 4096) (j : Fin 1024) : EReal := d (ix2 i j) + byHand (xr x i) (gy dg du wg wu g i) j

end Math

section Kernel
open Cert.Kernel3Ideal Cert.Kernel3Ideal.Gen

variable (m : (ℓ : Loc nD τ sig) → Buf (Elt Ideal) ℓ)

/-- The window index maps, decided over the eight grid points. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0]
    ∧ win0_7.index t = ![0, 0] ∧ win0_8.index t = ![t.val, 0] ∧ win0_9.index t = ![t.val, 0] ∧ win0_10.index t = ![t.val, 0]
    ∧ win0_11.index t = ![0, 0] :=
  (by decide +kernel : ∀ t : Fin grid0.N, _)

/-! ### The payloads at an index -/

variable (v0 : Vec Ideal S512x2816 .bf16) (v2 : Vec Ideal S2816x1024 .bf16) (v5 : Vec Ideal S512x2816 .bf16)
  (v7 : Vec Ideal S2816x1024 .bf16) (v11 : Vec Ideal S512x1024 .f32) (v12 : Vec Ideal S1x1024 .f32)
  (v36 : Vec Ideal S512x1024 .f32) (v35 v37 : FVec Ideal S512x1024 .f32) (v41 : Vec Ideal S1024x1024 .bf16)

theorem dn_at (r : Fin 512) (k : Fin 1024) : k0_pay5 v0 v2 v5 v7 (ix2 r k)
    = (∑ q : Fin 2816, v0 (ix2 r q) * v2 (ix2 q k)) + ∑ q : Fin 2816, v5 (ix2 r q) * v7 (ix2 q k) := by
  pointwise [k0_pay5]

theorem scale_at (r : Fin 512) (k : Fin 1) : k0_pay6 v11 (ix2 r k) = rs fun k => v11 (ix2 r k) := by
  pointwise! [k0_pay6, rs, ms, W, E]

theorem xh_at (r : Fin 512) (k : Fin 1024) : k0_pay7 v11 (ix2 r k) = v11 (ix2 r k) * rs fun k => v11 (ix2 r k) := by
  pointwise [k0_pay7, scale_at]

theorem dx_at (r : Fin 512) (k : Fin 1024) : k0_pay9 v0 v2 v5 v7 v11 v12 v36 (ix2 r k) = v36 (ix2 r k)
    + byHand (fun k => v11 (ix2 r k)) (fun k => k0_pay5 v0 v2 v5 v7 (ix2 r k) * v12 (ix2 0 k)) k := by
  pointwise [k0_pay9, scale_at, xh_at, byHand, W]

theorem rows_at (r : Fin 512) (k : Fin 1024) : k0_pay8 v0 v2 v5 v7 v11 (ix2 r k)
    = k0_pay5 v0 v2 v5 v7 (ix2 r k) * (v11 (ix2 r k) * rs fun k => v11 (ix2 r k)) := by
  pointwise [k0_pay8, xh_at]

theorem dg_at (u : Fin 1) (k : Fin 1024) : k0_pay3 v35 (ix2 u k) = ∑ r : Fin 512, v35 (ix2 r k) := by
  pointwise [k0_pay3]

theorem dy_at (r : Fin 512) (k : Fin 1024) :
    k0_pay2 v37 v41 (ix2 r k) = ∑ q : Fin 1024, v37 (ix2 r q) * v41 (ix2 k q) := by
  pointwise [k0_pay2, k0_pay1]

/-! ### The result arrays -/

variable (c : Dev nD)

/-- The arguments, named. -/
abbrev aDg : Vec Ideal S4096x2816 .f32 := m ((c : Thread nD τ).loc main_arg0)
abbrev aDu : Vec Ideal S4096x2816 .f32 := m ((c : Thread nD τ).loc main_arg1)
abbrev aWg : Vec Ideal S1x1024x2816 .f32 := m ((c : Thread nD τ).loc main_arg2)
abbrev aWu : Vec Ideal S1x1024x2816 .f32 := m ((c : Thread nD τ).loc main_arg3)
abbrev aX : Vec Ideal S4096x1024 .f32 := m ((c : Thread nD τ).loc main_arg4)
abbrev aD : Vec Ideal S4096x1024 .f32 := m ((c : Thread nD τ).loc main_arg5)
abbrev aG : Vec Ideal S1x1024 .f32 := m ((c : Thread nD τ).loc main_arg6)
abbrev aWo : Vec Ideal S1x1024x1024 .f32 := m ((c : Thread nD τ).loc main_arg7)
abbrev kN := dN (aDg m c) (aDu m c) (aWg m c) (aWu m c)
abbrev kX := dX (aDg m c) (aDu m c) (aWg m c) (aWu m c) (aX m c) (aD m c) (aG m c)

theorem V_dg (i : Fin 4096) (q : Fin 2816) : V m c main_v0 (ix2 i q) = aDg m c (ix2 i q) := by
  unfold_abbrev_sides; after_results; pointwise
theorem V_du (i : Fin 4096) (q : Fin 2816) : V m c main_v1 (ix2 i q) = aDu m c (ix2 i q) := by
  unfold_abbrev_sides; after_results; pointwise
theorem V_wg (q : Fin 2816) (j : Fin 1024) : V m c main_v4 (ix2 q j) = aWg m c (ix3 0 j q) := by
  unfold_abbrev_sides; after_results; pointwise
theorem V_wu (q : Fin 2816) (j : Fin 1024) : V m c main_v7 (ix2 q j) = aWu m c (ix3 0 j q) := by
  unfold_abbrev_sides; after_results; pointwise
theorem V_wo (j : Fin 1024) (q : Fin 1024) : V m c main_v9 (ix2 j q) = aWo m c (ix3 0 j q) := by
  unfold_abbrev_sides; after_results; pointwise

/-- Row `r` of tile `t`, as a row of the arrays. -/
def row (t : Fin cfg0.N) (r : Fin 512) : Fin 4096 :=
  ⟨t.val * 512 + r.val, by have := t.isLt; have : cfg0.N = 8 := N_0; omega⟩

theorem blk_dg (t : Fin cfg0.N) (r : Fin 512) (q : Fin 2816) : iblk m c 0 t (ix2 r q) = aDg m c (ix2 (row t r) q) := by
  rw [← V_dg]; blk_ext [iblk, idx t, row]
theorem blk_du (t : Fin cfg0.N) (r : Fin 512) (q : Fin 2816) : iblk m c 1 t (ix2 r q) = aDu m c (ix2 (row t r) q) := by
  rw [← V_du]; blk_ext [iblk, idx t, row]
theorem blk_wg (t : Fin cfg0.N) (q : Fin 2816) (j : Fin 1024) : iblk m c 2 t (ix2 q j) = aWg m c (ix3 0 j q) := by
  rw [← V_wg]; blk_ext [iblk, idx t, row]
theorem blk_wu (t : Fin cfg0.N) (q : Fin 2816) (j : Fin 1024) : iblk m c 3 t (ix2 q j) = aWu m c (ix3 0 j q) := by
  rw [← V_wu]; blk_ext [iblk, idx t, row]
theorem blk_x (t : Fin cfg0.N) (r : Fin 512) (j : Fin 1024) : iblk m c 4 t (ix2 r j) = aX m c (ix2 (row t r) j) := by
  blk_ext [iblk, V, idx t, row]
theorem blk_d (t : Fin cfg0.N) (r : Fin 512) (j : Fin 1024) : iblk m c 5 t (ix2 r j) = aD m c (ix2 (row t r) j) := by
  blk_ext [iblk, V, idx t, row]
theorem blk_g (t : Fin cfg0.N) (u : Fin 1) (j : Fin 1024) : iblk m c 6 t (ix2 u j) = aG m c (ix2 0 j) := by
  blk_ext [iblk, V, idx t, row]
theorem blk_wo (t : Fin cfg0.N) (j : Fin 1024) (q : Fin 1024) : iblk m c 7 t (ix2 j q) = aWo m c (ix3 0 j q) := by
  rw [← V_wo]; blk_ext [iblk, idx t, row]

/-- A tile's gradient with respect to the rows. -/
abbrev tX (t : Fin cfg0.N) : FVec Ideal S512x1024 .f32 :=
  k0_pay9 (iblk m c 0 t) (iblk m c 2 t) (iblk m c 1 t) (iblk m c 3 t) (iblk m c 4 t) (iblk m c 6 t) (iblk m c 5 t)

theorem tile_dn (t : Fin cfg0.N) (r : Fin 512) (k : Fin 1024) :
    k0_pay5 (iblk m c 0 t) (iblk m c 2 t) (iblk m c 1 t) (iblk m c 3 t) (ix2 r k) = kN m c (row t r) k := by
  rw [dn_at]
  simp only [blk_dg, blk_du, blk_wg, blk_wu, dN]

theorem tile_dx (t : Fin cfg0.N) (r : Fin 512) (k : Fin 1024) : tX m c t (ix2 r k) = kX m c (row t r) k := by
  refine (dx_at _ _ _ _ _ _ _ r k).trans ?_
  simp only [tile_dn, blk_x, blk_d, blk_g]
  rfl

theorem tile_dy (t : Fin cfg0.N) (r : Fin 512) (k : Fin 1024) : k0_pay2 (tX m c t) (iblk m c 7 t) (ix2 r k)
    = ∑ q : Fin 1024, kX m c (row t r) q * aWo m c (ix3 0 k q) := by
  rw [dy_at]
  simp only [tile_dx, blk_wo]

theorem tile_dg (t : Fin cfg0.N) (u : Fin 1) (k : Fin 1024) :
    k0_pay3 (k0_pay8 (iblk m c 0 t) (iblk m c 2 t) (iblk m c 1 t) (iblk m c 3 t) (iblk m c 4 t)) (ix2 u k)
      = ∑ r : Fin 512, kN m c (row t r) k * (aX m c (ix2 (row t r) k) * rs (xr (aX m c) (row t r))) := by
  rw [dg_at]
  simp only [rows_at, tile_dn, blk_x]
  rfl

/-- The gradient with respect to the rows, after the run. -/
theorem final_dx : (dats m 0 c).arrAt 8 cfg0.N = fun i => kX m c (i 0) (i 1) := by
  refine (dats m 0 c).arrAt_eq_of_covers 8 _ (by decide +kernel) fun t hf y => ?_
  blk_simp
  rw [after0_8]
  have hN : cfg0.N = 8 := N_0
  have he : ∀ (r : Fin 512) (k : Fin 1024),
      ((View.whole main_v10_0).slice (win0_8.rect t)).emb (ix2 r k) = ix2 (row t r) k := fun r k => by
    blk_ext [idx t, row]
  obtain ⟨r, k, rfl⟩ : ∃ (r : Fin 512) (k : Fin 1024), y = ix2 r k := ⟨y 0, y 1, eq_ix2 y⟩
  by_cases h : t.val = 0
  · rw [outsAt0_A m c t (by omega) (by omega)]
    frame_out
    rw [he]; exact tile_dx m c t r k
  · rw [outsAt0_B m c t (by omega) (by omega)]
    frame_out
    rw [he]; exact tile_dx m c t r k

/-- Its narrow copy. -/
theorem final_dxb : (dats m 0 c).arrAt 9 cfg0.N = fun i => kX m c (i 0) (i 1) := by
  refine (dats m 0 c).arrAt_eq_of_covers 9 _ (by decide +kernel) fun t hf y => ?_
  blk_simp
  rw [after0_9]
  have hN : cfg0.N = 8 := N_0
  have he : ∀ (r : Fin 512) (k : Fin 1024),
      ((View.whole main_v10_1).slice (win0_9.rect t)).emb (ix2 r k) = ix2 (row t r) k := fun r k => by
    blk_ext [idx t, row]
  obtain ⟨r, k, rfl⟩ : ∃ (r : Fin 512) (k : Fin 1024), y = ix2 r k := ⟨y 0, y 1, eq_ix2 y⟩
  by_cases h : t.val = 0
  · rw [outsAt0_A m c t (by omega) (by omega)]
    frame_out
    rw [he]; exact tile_dx m c t r k
  · rw [outsAt0_B m c t (by omega) (by omega)]
    frame_out
    rw [he]; exact tile_dx m c t r k

/-- The cotangent of the mixer's output, after the run. -/
theorem final_dy : (dats m 0 c).arrAt 10 cfg0.N = fun i => ∑ q : Fin 1024, kX m c (i 0) q * aWo m c (ix3 0 (i 1) q) := by
  refine (dats m 0 c).arrAt_eq_of_covers 10 _ (by decide +kernel) fun t hf y => ?_
  blk_simp
  rw [after0_10]
  have hN : cfg0.N = 8 := N_0
  have he : ∀ (r : Fin 512) (k : Fin 1024),
      ((View.whole main_v10_2).slice (win0_10.rect t)).emb (ix2 r k) = ix2 (row t r) k := fun r k => by
    blk_ext [idx t, row]
  obtain ⟨r, k, rfl⟩ : ∃ (r : Fin 512) (k : Fin 1024), y = ix2 r k := ⟨y 0, y 1, eq_ix2 y⟩
  by_cases h : t.val = 0
  · rw [outsAt0_A m c t (by omega) (by omega)]
    frame_out
    rw [he]; exact tile_dy m c t r k
  · rw [outsAt0_B m c t (by omega) (by omega)]
    frame_out
    rw [he]; exact tile_dy m c t r k

/-- The gradient with respect to the norm's weights, after the run. -/
theorem final_dg : (dats m 0 c).arrAt 11 cfg0.N = fun i => ∑ l : Fin 4096, kN m c l (i 1)
    * (aX m c (ix2 l (i 1)) * rs (xr (aX m c) l)) := by
  refine (dats m 0 c).arrAt_eq_of_after_last 11 t0_7 (by decide +kernel) _ fun j => ?_
  blk_simp
  rw [after0_11, Pipeline.eq_sum_fin_of_reset_step_apply_last (fun n h => (outsAt0 m c n h).2.2.2) 8 (fun _ => 0)
    (fun t j => ∑ r : Fin 512, kN m c (row t r) (j 1) * (aX m c (ix2 (row t r) (j 1)) * rs (xr (aX m c) (row t r))))
    (fun t h j => ?_) (fun t h j => ?_) (le_of_eq N_0) t0_7 rfl j, zero_add]
  · exact Fin.sum_mul_add_congr fun s k hl => rfl
  · have hN : cfg0.N = 8 := N_0
    have := t.isLt
    rw [outsAt0_A m c t h (by omega)]
    frame_out
    rw [zero_add, eq_ix2 j]
    exact tile_dg m c t (j 0) (j 1)
  · have hN : cfg0.N = 8 := N_0
    have := t.isLt
    rw [outsAt0_B m c t h (by omega)]
    frame_out
    rw [eq_ix2 j]
    pointwise [k0_pay4]
    exact congrArg _ (tile_dg m c t (j 0) (j 1))

end Kernel

/-! ## The reference -/

section Reference
open Cert.Reference3Ideal Cert.Reference3Ideal.Gen

variable (m : (ℓ : Loc nD τ sig) → Buf (Elt Ideal) ℓ) (ρ : Dev nD → PrngReg) (c : Dev nD)

abbrev rDg : Vec Ideal S4096x2816 .f32 := m ((c : Thread nD τ).loc main_arg0)
abbrev rDu : Vec Ideal S4096x2816 .f32 := m ((c : Thread nD τ).loc main_arg1)
abbrev rWg : Vec Ideal S1x1024x2816 .f32 := m ((c : Thread nD τ).loc main_arg2)
abbrev rWu : Vec Ideal S1x1024x2816 .f32 := m ((c : Thread nD τ).loc main_arg3)
abbrev rX : Vec Ideal S4096x1024 .f32 := m ((c : Thread nD τ).loc main_arg4)
abbrev rD : Vec Ideal S4096x1024 .f32 := m ((c : Thread nD τ).loc main_arg5)
abbrev rG : Vec Ideal S1x1024 .f32 := m ((c : Thread nD τ).loc main_arg6)
abbrev rWo : Vec Ideal S1x1024x1024 .f32 := m ((c : Thread nD τ).loc main_arg7)
/-- The cotangent of the normed rows, its two parts in the order differentiating gives. -/
def rN (i : Fin 4096) (j : Fin 1024) : EReal :=
  (∑ q : Fin 2816, rDu m c (ix2 i q) * rWu m c (ix3 0 j q)) + ∑ q : Fin 2816, rDg m c (ix2 i q) * rWg m c (ix3 0 j q)
/-- The gradient with respect to the rows, as differentiating gives it. -/
def rdX (i : Fin 4096) (j : Fin 1024) : EReal :=
  ((rD m c (ix2 i j) + rN m c i j * rG m c (ix2 0 j) * rs (xr (rX m c) i))
    + rX m c (ix2 i j) * pull (xr (rX m c) i) (fun k => rN m c i k * rG m c (ix2 0 k)))
    + pull (xr (rX m c) i) (fun k => rN m c i k * rG m c (ix2 0 k)) * rX m c (ix2 i j)

theorem ref_dx (i : Fin 4096) (j : Fin 1024) : Cert.Reference3Ideal.Value.res_out0 m c (ix2 i j) = rdX m c i j := by
  unfold Value.res_out0 Value.res_main_v44
  clean_types
  pointwise
  simp only [Fintype.sum_unique]
  rfl

theorem ref_dxb : Cert.Reference3Ideal.Value.res_out1 m c = Cert.Reference3Ideal.Value.res_out0 m c := rfl

theorem ref_dy (i : Fin 4096) (j : Fin 1024) : Cert.Reference3Ideal.Value.res_out2 m c (ix2 i j)
    = ∑ q : Fin 1024, rdX m c i q * rWo m c (ix3 0 j q) := by
  unfold Value.res_out2 Value.res_main_v49
  clean_types
  pointwise
  simp only [Fintype.sum_unique]
  rfl

/-- The reference's run, its last result read at an index. -/
theorem ref_run : θ_run defs (onTc (τ := τ) (main (F := Ideal))) ⟨m, fun _ => 0, ρ⟩ fun r => ∀ c : Dev nD,
      r.2.mem ((c : Thread nD τ).loc main_v44) = Cert.Reference3Ideal.Value.res_out0 m c
      ∧ r.2.mem ((c : Thread nD τ).loc main_v50) = Cert.Reference3Ideal.Value.res_out1 m c
      ∧ r.2.mem ((c : Thread nD τ).loc main_v49) = Cert.Reference3Ideal.Value.res_out2 m c
      ∧ r.2.mem ((c : Thread nD τ).loc main_v45) = fun i => ∑ l : Fin 4096, rN m c l (i 1)
          * (rX m c (ix2 l (i 1)) * rs (xr (rX m c) l)) :=
  (θ_run defs _ _).mono (fun r h c => ⟨(h c).1, (h c).2.1, (h c).2.2.1, (h c).2.2.2.1.trans (by
    funext j
    clean_types
    pointwise
    simp only [Fintype.sum_unique]
    exact Finset.sum_congr rfl fun l _ => mul_comm (_ : EReal) _)⟩) (Cert.Reference3Ideal.Value.run m ρ)

end Reference

end Cert.FfnIn

end
-- ==== Proof.FfnInClaim.lean ====
/-
  The two programs of the gradient through the feed-forward's inputs end with equal results, from finite arguments.
-/
module

public import proofs.«01_k».proof.Defs
public import proofs.«01_k».proof.Proof.FfnIn
public import proofs.«01_k».proof.Proof.Gen.Pre_finite_args3

@[expose] public section

set_option maxRecDepth 16384

noncomputable section

namespace Cert.FfnIn

open Idealize.ShloMosaic Idealize.ShloMosaic.TcCoe Idealize.SL.Sem Cert.Rms
open Cert.Kernel3Ideal (nD τ sig)
open scoped BigOperators

/-- What the precondition says of the arguments the claim needs finite. -/
theorem fin_args (m : (ℓ : Loc nD τ sig) → Buf (Elt Ideal) ℓ) (h : Cert.Pre_Kernel3Ideal_finite_args3 m) (c : Dev nD) :
    (∀ i, Fin' (aDg m c i)) ∧ (∀ i, Fin' (aDu m c i)) ∧ (∀ i, Fin' (aWg m c i)) ∧ (∀ i, Fin' (aWu m c i))
      ∧ (∀ i, Fin' (aX m c i)) ∧ ∀ i, Fin' (aG m c i) :=
  ⟨fun i => fin_of_abs_lt (congrFun (h c).1 i), fun i => fin_of_abs_lt (congrFun (h c).2.1 i),
    fun i => fin_of_abs_lt (congrFun (h c).2.2.1 i), fun i => fin_of_abs_lt (congrFun (h c).2.2.2.1 i),
    fun i => fin_of_abs_lt (congrFun (h c).2.2.2.2.1 i), fun i => fin_of_abs_lt (congrFun (h c).2.2.2.2.2 i)⟩

/-- The memories agree on the arguments. -/
def Agree (m : (ℓ : Loc nD τ sig) → Buf (Elt Ideal) ℓ)
    (m' : (ℓ : Loc Cert.Reference3Ideal.nD Cert.Reference3Ideal.τ Cert.Reference3Ideal.sig) → Buf (Elt Ideal) ℓ) (c : Dev nD) : Prop :=
  rDg m' c = aDg m c ∧ rDu m' c = aDu m c ∧ rWg m' c = aWg m c ∧ rWu m' c = aWu m c ∧ rX m' c = aX m c
    ∧ rD m' c = aD m c ∧ rG m' c = aG m c ∧ rWo m' c = aWo m c

variable {m : (ℓ : Loc nD τ sig) → Buf (Elt Ideal) ℓ}
  {m' : (ℓ : Loc Cert.Reference3Ideal.nD Cert.Reference3Ideal.τ Cert.Reference3Ideal.sig) → Buf (Elt Ideal) ℓ}

theorem rN_eq {c : Dev nD} (h : Agree m m' c) : rN m' c = kN m c := by
  funext i j
  unfold rN
  rw [h.1, h.2.1, h.2.2.1, h.2.2.2.1]
  exact add_comm (_ : EReal) _

/-- The gradient with respect to the rows: the two forms meet. -/
theorem rdX_eq (hpre : Cert.Pre_Kernel3Ideal_finite_args3 m) {c : Dev nD} (h : Agree m m' c) : rdX m' c = kX m c := by
  obtain ⟨f0, f1, f2, f3, f4, f6⟩ := fin_args m hpre c
  funext i j
  unfold rdX
  rw [rN_eq h, h.2.2.2.2.1, h.2.2.2.2.2.1, h.2.2.2.2.2.2.1]
  refine Eq.trans ?_ (congrArg (aD m c (ix2 i j) + ·) (byHand_eq (xr (aX m c) i)
    (gy (aDg m c) (aDu m c) (aWg m c) (aWu m c) (aG m c) i) (fun k => f4 _)
    (fun k => fin_mul (fin_add (fin_sum _ _ fun q => fin_mul (f0 _) (f2 _)) (fin_sum _ _ fun q => fin_mul (f1 _) (f3 _)))
      (f6 _)) j)).symm
  simp only [← add_assoc]
  rfl

theorem meet_dx (hpre : Cert.Pre_Kernel3Ideal_finite_args3 m) (c : Dev nD) (h : Agree m m' c) :
    Cert.Reference3Ideal.Value.res_out0 m' c = (Cert.Kernel3Ideal.Gen.dats m 0 c).arrAt 8 Cert.Kernel3Ideal.cfg0.N := by
  rw [final_dx, ← rdX_eq hpre h]
  funext i
  obtain ⟨p, q, rfl⟩ : ∃ (p : Fin 4096) (q : Fin 1024), i = ix2 p q := ⟨i 0, i 1, eq_ix2 i⟩
  exact ref_dx m' c p q

theorem meet_dxb (hpre : Cert.Pre_Kernel3Ideal_finite_args3 m) (c : Dev nD) (h : Agree m m' c) :
    Cert.Reference3Ideal.Value.res_out1 m' c = (Cert.Kernel3Ideal.Gen.dats m 0 c).arrAt 9 Cert.Kernel3Ideal.cfg0.N :=
  (meet_dx hpre c h).trans ((final_dx m c).trans (final_dxb m c).symm)

theorem meet_dy (hpre : Cert.Pre_Kernel3Ideal_finite_args3 m) (c : Dev nD) (h : Agree m m' c) :
    Cert.Reference3Ideal.Value.res_out2 m' c = (Cert.Kernel3Ideal.Gen.dats m 0 c).arrAt 10 Cert.Kernel3Ideal.cfg0.N := by
  rw [final_dy, ← rdX_eq hpre h, ← h.2.2.2.2.2.2.2]
  funext i
  obtain ⟨p, q, rfl⟩ : ∃ (p : Fin 4096) (q : Fin 1024), i = ix2 p q := ⟨i 0, i 1, eq_ix2 i⟩
  exact ref_dy m' c p q

theorem meet_dg (c : Dev nD) (h : Agree m m' c) :
    (fun i => ∑ l : Fin 4096, rN m' c l (i 1) * (rX m' c (ix2 l (i 1)) * rs (xr (rX m' c) l)) :
      Cert.Kernel3Ideal.S1x1024.Idx → EReal)
      = (Cert.Kernel3Ideal.Gen.dats m 0 c).arrAt 11 Cert.Kernel3Ideal.cfg0.N := by
  rw [final_dg, rN_eq h, h.2.2.2.2.1]
  rfl

/-- The claim: equal results from finite arguments. -/
theorem algebraic : Cert.algebraic_Kernel3Ideal_Reference3Ideal_pre_finite_args3 := by
  intro m ρ m' ρ' hpre hag
  refine ⟨fun c => (Cert.Kernel3Ideal.Gen.dats m 0 c).arrAt 8 Cert.Kernel3Ideal.cfg0.N,
    fun c => (Cert.Kernel3Ideal.Gen.dats m 0 c).arrAt 9 Cert.Kernel3Ideal.cfg0.N,
    fun c => (Cert.Kernel3Ideal.Gen.dats m 0 c).arrAt 10 Cert.Kernel3Ideal.cfg0.N,
    fun c => (Cert.Kernel3Ideal.Gen.dats m 0 c).arrAt 11 Cert.Kernel3Ideal.cfg0.N,
    Cert.Kernel3Ideal.Value.run_blocks m ρ, ?_⟩
  exact (θ_run _ _ _).mono (fun r h c => ⟨(h.1 c).1.trans (meet_dx hpre c (hag c)),
      (h.1 c).2.1.trans (meet_dxb hpre c (hag c)), (h.1 c).2.2.1.trans (meet_dy hpre c (hag c)),
      (h.1 c).2.2.2.trans (meet_dg c (hag c)), (h.2 c).2.2.2.2⟩)
    (θ_run_and (ref_run m' ρ') (Cert.Reference3Ideal.Value.run m' ρ'))

end Cert.FfnIn

end
-- ==== Proof.Logistic.lean ====
/-
  The logistic function, the gate built of it and the gate's derivative, over the extended reals: the derivative as it is
  written by hand and as differentiating the gate gives it are equal at finite arguments.
-/
module

public import proofs.«01_k».proof.Proof.Rms

@[expose] public section

noncomputable section

namespace Cert.Logistic

open Idealize.ShloMosaic Cert.Rms

/-- The logistic function. -/
def sg (x : EReal) : EReal := Ideal.div 1 (1 + Ideal.exp (-x))
/-- The gate. -/
def silu (x : EReal) : EReal := x * sg x
/-- The gate's derivative, as it is written by hand. -/
def dsilu (x : EReal) : EReal := sg x * (1 + x * (1 - sg x))

theorem sg_coe (r : ℝ) : sg (r : EReal) = ((1 / (1 + Real.exp (-r)) : ℝ) : EReal) := by
  have h : (1 + Real.exp (-r) : ℝ) ≠ 0 := by positivity
  unfold sg
  rw [← EReal.coe_neg, Ideal.exp_coe, ← EReal.coe_one, ← EReal.coe_add, div_coe_coe h]

theorem fin_one : Fin' (1 : EReal) := fin_coe 1
theorem fin_sg {x : EReal} : Fin' x → Fin' (sg x) := by
  rintro ⟨r, rfl⟩; exact ⟨_, sg_coe r⟩
theorem fin_silu {x : EReal} (h : Fin' x) : Fin' (silu x) := fin_mul h (fin_sg h)
theorem fin_dsilu {x : EReal} (h : Fin' x) : Fin' (dsilu x) :=
  fin_mul (fin_sg h) (fin_add fin_one (fin_mul h (fin_sub fin_one (fin_sg h))))

/-- A cotangent pulled back through the gate: differentiated, and by hand. -/
theorem pull_silu {x y : EReal} (hx : Fin' x) (hy : Fin' y) :
    y * sg x + x * y * (sg x * (1 - sg x)) = y * dsilu x := by
  have hs := fin_sg hx
  unfold dsilu
  generalize sg x = s at hs
  obtain ⟨a, rfl⟩ := hx; obtain ⟨b, rfl⟩ := hy; obtain ⟨e, rfl⟩ := hs
  rw [← EReal.coe_one]
  simp only [← EReal.coe_mul, ← EReal.coe_sub, ← EReal.coe_add]
  exact congrArg _ (by ring)

end Cert.Logistic

end
-- ==== Proof.Gate.lean ====
/-
  The gate's gradient: what the kernel's two results hold, read at an index.
-/
module

public import proofs.«01_k».proof.Proof.Logistic
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Tactic
public import Idealize.ShloMosaic.Lib.Tactic.CleanTypes

@[expose] public section

set_option maxRecDepth 16384

noncomputable section

namespace Cert.Gate

open Idealize.ShloMosaic Idealize.ShloMosaic.TcCoe Idealize.SL.Sem Cert.Rms Cert.Logistic
open scoped BigOperators

/-! ## The mathematics, over the arguments -/

section Math
open Cert.Kernel4Ideal (S4096x1024 S1x1024x2816 S1x2816x1024)

variable (x d : S4096x1024.Idx → EReal) (w : S1x1024x2816.Idx → EReal) (wd : S1x2816x1024.Idx → EReal)

/-- A projection of the rows. -/
def proj (i : Fin 4096) (j : Fin 2816) : EReal := ∑ q : Fin 1024, x (ix2 i q) * w (ix3 0 q j)
/-- The cotangent of the gated values, through the down projection. -/
def dA (i : Fin 4096) (j : Fin 2816) : EReal := ∑ q : Fin 1024, d (ix2 i q) * wd (ix3 0 j q)

end Math

section Kernel
open Cert.Kernel4Ideal Cert.Kernel4Ideal.Gen

variable (m : (ℓ : Loc nD τ sig) → Buf (Elt Ideal) ℓ)

/-- The window index maps, decided over the eight grid points. -/
theorem idx : ∀ t : Fin cfg0.N, win0_0.index t = ![t.val % 4, 0] ∧ win0_1.index t = ![t.val / 4, 0]
    ∧ win0_2.index t = ![t.val % 4, t.val / 4] ∧ win0_3.index t = ![t.val % 4, t.val / 4]
    ∧ win0_4.index t = ![t.val % 4, t.val / 4] ∧ win0_5.index t = ![t.val % 4, t.val / 4] :=
  (by decide +kernel : ∀ t : Fin grid0.N, _)

variable (c : Dev nD)

/-- The arguments, named. -/
abbrev aX : Vec Ideal S4096x1024 .f32 := m ((c : Thread nD τ).loc main_arg0)
abbrev aWg : Vec Ideal S1x1024x2816 .f32 := m ((c : Thread nD τ).loc main_arg1)
abbrev aWu : Vec Ideal S1x1024x2816 .f32 := m ((c : Thread nD τ).loc main_arg2)
abbrev aWd : Vec Ideal S1x2816x1024 .f32 := m ((c : Thread nD τ).loc main_arg3)
abbrev aD : Vec Ideal S4096x1024 .f32 := m ((c : Thread nD τ).loc main_arg4)
abbrev kg := proj (aX m c) (aWg m c)
abbrev ku := proj (aX m c) (aWu m c)
abbrev kA := dA (aD m c) (aWd m c)

theorem V_silu (i : Fin 4096) (j : Fin 2816) : V m c main_v16 (ix2 i j) = silu (kg m c i j) := by
  unfold_abbrev_sides; after_results; pointwise [silu, sg, proj]
theorem V_uds (i : Fin 4096) (j : Fin 2816) : V m c main_v24 (ix2 i j) = ku m c i j * dsilu (kg m c i j) := by
  unfold_abbrev_sides; after_results; pointwise [dsilu, sg, proj]
  rfl
theorem V_d (i : Fin 4096) (q : Fin 1024) : V m c main_v25 (ix2 i q) = aD m c (ix2 i q) := by
  unfold_abbrev_sides; after_results; pointwise
theorem V_wd (j : Fin 2816) (q : Fin 1024) : V m c main_v27 (ix2 j q) = aWd m c (ix3 0 j q) := by
  unfold_abbrev_sides; after_results; pointwise

/-- Row `r` of tile `t`, as a row of the arrays. -/
def row (t : Fin cfg0.N) (r : Fin 1024) : Fin 4096 := ⟨t.val % 4 * 1024 + r.val, by omega⟩
/-- Column `k` of tile `t`. -/
def col (t : Fin cfg0.N) (k : Fin 1408) : Fin 2816 :=
  ⟨t.val / 4 * 1408 + k.val, by have := t.isLt; have : cfg0.N = 8 := N_0; omega⟩

/-- The blocks a tile's products are of. -/
abbrev bD (t : Fin cfg0.N) : FVec Ideal S1024x1024 .bf16 := iblk m c 0 t
abbrev bWd (t : Fin cfg0.N) : FVec Ideal S1408x1024 .bf16 := iblk m c 1 t
abbrev bSilu (t : Fin cfg0.N) : FVec Ideal S1024x1408 .bf16 := iblk m c 2 t
abbrev bUds (t : Fin cfg0.N) : FVec Ideal S1024x1408 .bf16 := iblk m c 3 t

/-! A tile's blocks at an index. -/

theorem blk_dot (t : Fin cfg0.N) (r : Fin 1024) (k : Fin 1408) : (∑ q : Fin 1024, bD m c t (ix2 r q) * bWd m c t (ix2 k q)) = kA m c (row t r) (col t k) := by
  refine Finset.sum_congr rfl fun q _ => congrArg₂ (fun x y : EReal => x * y) ?_ ?_
  · rw [← V_d]; blk_ext [iblk, idx t, row]
  · rw [← V_wd]; blk_ext [iblk, idx t, col]

theorem blk_silu (t : Fin cfg0.N) (r : Fin 1024) (k : Fin 1408) : bSilu m c t (ix2 r k) = silu (kg m c (row t r) (col t k)) := by
  rw [← V_silu]; blk_ext [iblk, idx t, row, col]

theorem blk_uds (t : Fin cfg0.N) (r : Fin 1024) (k : Fin 1408) : bUds m c t (ix2 r k) = ku m c (row t r) (col t k) * dsilu (kg m c (row t r) (col t k)) := by
  rw [← V_uds]; blk_ext [iblk, idx t, row, col]

/-- The gradient with respect to the gate's argument, after the run. -/
theorem final_dg : (dats m 0 c).arrAt 4 cfg0.N = fun i => kA m c (i 0) (i 1) * (ku m c (i 0) (i 1) * dsilu (kg m c (i 0) (i 1))) := by
  refine (dats m 0 c).arrAt_eq_of_covers 4 _ (by decide +kernel) fun t hf y => ?_
  blk_simp
  rw [after0_4]
  have hN : cfg0.N = 8 := N_0
  have he : ∀ (r : Fin 1024) (k : Fin 1408),
      ((View.whole main_v28_0).slice (win0_4.rect t)).emb (ix2 r k) = ix2 (row t r) (col t k) := fun r k => by
    blk_ext [idx t, row, col]
  obtain ⟨r, k, rfl⟩ : ∃ (r : Fin 1024) (k : Fin 1408), y = ix2 r k := ⟨y 0, y 1, eq_ix2 y⟩
  rw [he]
  refine Eq.trans (b := (∑ q : Fin 1024, bD m c t (ix2 r q) * bWd m c t (ix2 k q)) * bUds m c t (ix2 r k)) ?_
    (congrArg₂ (fun x y : EReal => x * y) (blk_dot m c t r k) (blk_uds m c t r k))
  unfold outsAt0
  frame_out
  unfold bD bWd bUds
  generalize iblk m c 0 t = B0
  generalize iblk m c 1 t = B1
  generalize iblk m c 3 t = B2
  canon_tiles x h using View.cover_of_tiledBy _ ![1024, 128] (by sl_kernel_rfl) _
  all_goals
    open_payloads
    pointwise
    obtain ⟨r, hr⟩ := r
    obtain ⟨k, hk⟩ := k
    obtain rfl : r = _ := h0
    obtain rfl : k = _ := h1
    rfl

/-- The gradient with respect to the other factor, after the run. -/
theorem final_du : (dats m 0 c).arrAt 5 cfg0.N = fun i => kA m c (i 0) (i 1) * silu (kg m c (i 0) (i 1)) := by
  refine (dats m 0 c).arrAt_eq_of_covers 5 _ (by decide +kernel) fun t hf y => ?_
  blk_simp
  rw [after0_5]
  have hN : cfg0.N = 8 := N_0
  have he : ∀ (r : Fin 1024) (k : Fin 1408),
      ((View.whole main_v28_1).slice (win0_5.rect t)).emb (ix2 r k) = ix2 (row t r) (col t k) := fun r k => by
    blk_ext [idx t, row, col]
  obtain ⟨r, k, rfl⟩ : ∃ (r : Fin 1024) (k : Fin 1408), y = ix2 r k := ⟨y 0, y 1, eq_ix2 y⟩
  rw [he]
  refine Eq.trans (b := (∑ q : Fin 1024, bD m c t (ix2 r q) * bWd m c t (ix2 k q)) * bSilu m c t (ix2 r k)) ?_
    (congrArg₂ (fun x y : EReal => x * y) (blk_dot m c t r k) (blk_silu m c t r k))
  unfold outsAt0
  frame_out
  unfold bD bWd bSilu
  generalize iblk m c 0 t = B0
  generalize iblk m c 1 t = B1
  generalize iblk m c 2 t = B2
  canon_tiles x h using View.cover_of_tiledBy _ ![1024, 128] (by sl_kernel_rfl) _
  all_goals
    open_payloads
    pointwise
    obtain ⟨r, hr⟩ := r
    obtain ⟨k, hk⟩ := k
    obtain rfl : r = _ := h0
    obtain rfl : k = _ := h1
    rfl

end Kernel

section Reference
open Cert.Reference4Ideal Cert.Reference4Ideal.Gen

variable (m : (ℓ : Loc nD τ sig) → Buf (Elt Ideal) ℓ) (ρ : Dev nD → PrngReg) (c : Dev nD)

/-- The arguments, named. -/
abbrev rX : Vec Ideal S4096x1024 .f32 := m ((c : Thread nD τ).loc main_arg0)
abbrev rWg : Vec Ideal S1x1024x2816 .f32 := m ((c : Thread nD τ).loc main_arg1)
abbrev rWu : Vec Ideal S1x1024x2816 .f32 := m ((c : Thread nD τ).loc main_arg2)
abbrev rWd : Vec Ideal S1x2816x1024 .f32 := m ((c : Thread nD τ).loc main_arg3)
abbrev rD : Vec Ideal S4096x1024 .f32 := m ((c : Thread nD τ).loc main_arg4)
abbrev rg := proj (rX m c) (rWg m c)
abbrev ru := proj (rX m c) (rWu m c)
abbrev rA := dA (rD m c) (rWd m c)

/-- The reference's run, its results read at an index. -/
theorem ref_run : θ_run defs (onTc (τ := τ) (main (F := Ideal))) ⟨m, fun _ => 0, ρ⟩ fun r => ∀ c : Dev nD,
      (r.2.mem ((c : Thread nD τ).loc main_v12) = fun i =>
        rA m c (i 0) (i 1) * ru m c (i 0) (i 1) * sg (rg m c (i 0) (i 1))
          + rg m c (i 0) (i 1) * (rA m c (i 0) (i 1) * ru m c (i 0) (i 1))
            * (sg (rg m c (i 0) (i 1)) * (1 - sg (rg m c (i 0) (i 1)))))
      ∧ r.2.mem ((c : Thread nD τ).loc main_v13) = fun i => silu (rg m c (i 0) (i 1)) * rA m c (i 0) (i 1) :=
  (θ_run defs _ _).mono (fun r h c => ⟨(h c).1.trans (by
    funext j
    clean_types
    pointwise
    rfl), (h c).2.1.trans (by
    funext j
    clean_types
    pointwise
    rfl)⟩) (Cert.Reference4Ideal.Value.run m ρ)

end Reference

end Cert.Gate

end
-- ==== Proof.GateClaim.lean ====
/-
  The two programs of the gate's gradient end with equal results, from finite arguments.
-/
module

public import proofs.«01_k».proof.Defs
public import proofs.«01_k».proof.Proof.Gate
public import proofs.«01_k».proof.Proof.Gen.Pre_finite_args4

@[expose] public section

set_option maxRecDepth 16384

noncomputable section

namespace Cert.Gate

open Idealize.ShloMosaic Idealize.ShloMosaic.TcCoe Idealize.SL.Sem Cert.Rms Cert.Logistic
open Cert.Kernel4Ideal (nD τ sig)
open scoped BigOperators

/-- What the precondition says of the arguments. -/
theorem fin_args (m : (ℓ : Loc nD τ sig) → Buf (Elt Ideal) ℓ) (h : Cert.Pre_Kernel4Ideal_finite_args4 m) (c : Dev nD) :
    (∀ i, Fin' (aX m c i)) ∧ (∀ i, Fin' (aWg m c i)) ∧ (∀ i, Fin' (aWu m c i)) ∧ (∀ i, Fin' (aWd m c i)) ∧ (∀ i, Fin' (aD m c i)) :=
  ⟨fun i => fin_of_abs_lt (congrFun (h c).1 i),
    fun i => fin_of_abs_lt (congrFun (h c).2.1 i),
    fun i => fin_of_abs_lt (congrFun (h c).2.2.1 i),
    fun i => fin_of_abs_lt (congrFun (h c).2.2.2.1 i),
    fun i => fin_of_abs_lt (congrFun (h c).2.2.2.2 i)⟩

/-- The memories agree on the arguments. -/
def Agree (m : (ℓ : Loc nD τ sig) → Buf (Elt Ideal) ℓ)
    (m' : (ℓ : Loc Cert.Reference4Ideal.nD Cert.Reference4Ideal.τ Cert.Reference4Ideal.sig) → Buf (Elt Ideal) ℓ) (c : Dev nD) : Prop :=
  rX m' c = aX m c ∧ rWg m' c = aWg m c ∧ rWu m' c = aWu m c ∧ rWd m' c = aWd m c ∧ rD m' c = aD m c

variable {m : (ℓ : Loc nD τ sig) → Buf (Elt Ideal) ℓ}
  {m' : (ℓ : Loc Cert.Reference4Ideal.nD Cert.Reference4Ideal.τ Cert.Reference4Ideal.sig) → Buf (Elt Ideal) ℓ}

/-- The projections and the cotangent are finite. -/
theorem fin_proj {x : Cert.Kernel4Ideal.S4096x1024.Idx → EReal} {w : Cert.Kernel4Ideal.S1x1024x2816.Idx → EReal}
    (hx : ∀ i, Fin' (x i)) (hw : ∀ i, Fin' (w i)) (i : Fin 4096) (j : Fin 2816) : Fin' (proj x w i j) :=
  fin_sum _ _ fun _ => fin_mul (hx _) (hw _)

theorem fin_dA {d : Cert.Kernel4Ideal.S4096x1024.Idx → EReal} {wd : Cert.Kernel4Ideal.S1x2816x1024.Idx → EReal}
    (hd : ∀ i, Fin' (d i)) (hw : ∀ i, Fin' (wd i)) (i : Fin 4096) (j : Fin 2816) : Fin' (dA d wd i j) :=
  fin_sum _ _ fun _ => fin_mul (hd _) (hw _)

/-- The projections and the cotangent of the two programs agree. -/
theorem rg_eq {c : Dev Cert.Kernel4Ideal.nD} (h : Agree m m' c) : rg m' c = kg m c := congrArg₂ proj h.1 h.2.1
theorem ru_eq {c : Dev Cert.Kernel4Ideal.nD} (h : Agree m m' c) : ru m' c = ku m c := congrArg₂ proj h.1 h.2.2.1
theorem rA_eq {c : Dev Cert.Kernel4Ideal.nD} (h : Agree m m' c) : rA m' c = kA m c := congrArg₂ dA h.2.2.2.2 h.2.2.2.1

theorem meet_dg (hpre : Cert.Pre_Kernel4Ideal_finite_args4 m) (c : Dev Cert.Kernel4Ideal.nD) (h : Agree m m' c) :
    (fun i => rA m' c (i 0) (i 1) * ru m' c (i 0) (i 1) * sg (rg m' c (i 0) (i 1))
        + rg m' c (i 0) (i 1) * (rA m' c (i 0) (i 1) * ru m' c (i 0) (i 1)) * (sg (rg m' c (i 0) (i 1)) * (1 - sg (rg m' c (i 0) (i 1)))) : Cert.Kernel4Ideal.S4096x2816.Idx → EReal)
      = (Cert.Kernel4Ideal.Gen.dats m 0 c).arrAt 4 Cert.Kernel4Ideal.cfg0.N := by
  obtain ⟨fX, fg, fu, fw, fd⟩ := fin_args m hpre c
  rw [final_dg, rg_eq h, ru_eq h, rA_eq h]
  funext i
  exact (pull_silu (fin_proj fX fg _ _) (fin_mul (fin_dA fd fw _ _) (fin_proj fX fu _ _))).trans (mul_assoc (_ : EReal) _ _)

theorem meet_du (c : Dev Cert.Kernel4Ideal.nD) (h : Agree m m' c) :
    (fun i => silu (rg m' c (i 0) (i 1)) * rA m' c (i 0) (i 1) : Cert.Kernel4Ideal.S4096x2816.Idx → EReal)
      = (Cert.Kernel4Ideal.Gen.dats m 0 c).arrAt 5 Cert.Kernel4Ideal.cfg0.N := by
  rw [final_du, rg_eq h, rA_eq h]
  funext i
  exact mul_comm (_ : EReal) _

/-- The claim: equal results from finite arguments. -/
theorem algebraic : Cert.algebraic_Kernel4Ideal_Reference4Ideal_pre_finite_args4 := by
  intro m ρ m' ρ' hpre hag
  refine ⟨fun c => (Cert.Kernel4Ideal.Gen.dats m 0 c).arrAt 4 Cert.Kernel4Ideal.cfg0.N,
    fun c => (Cert.Kernel4Ideal.Gen.dats m 0 c).arrAt 5 Cert.Kernel4Ideal.cfg0.N,
    Cert.Kernel4Ideal.Value.run_blocks m ρ, ?_⟩
  exact (θ_run _ _ _).mono (fun r h c => ⟨(h.1 c).1.trans (meet_dg hpre c (hag c)),
      (h.1 c).2.trans (meet_du c (hag c)), (h.2 c).2.2⟩)
    (θ_run_and (ref_run m' ρ') (Cert.Reference4Ideal.Value.run m' ρ'))

end Cert.Gate

end
-- ==== Proof.GateUp.lean ====
/-
  The gate, with what its gradient keeps of it: what the kernel's three results hold, read at an index.
-/
module

public import proofs.«01_k».proof.Proof.Gate
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Tactic
public import Idealize.ShloMosaic.Lib.Tactic.CleanTypes

@[expose] public section

set_option maxRecDepth 16384

noncomputable section

namespace Cert.GateUp

open Idealize.ShloMosaic Idealize.ShloMosaic.TcCoe Idealize.SL.Sem Cert.Rms Cert.Logistic
open Cert.Gate (proj)
open scoped BigOperators

section Kernel
open Cert.Kernel5Ideal Cert.Kernel5Ideal.Gen

variable (m : (ℓ : Loc nD τ sig) → Buf (Elt Ideal) ℓ)

/-- The window index maps, decided over the eight grid points. -/
theorem idx : ∀ t : Fin cfg0.N, win0_0.index t = ![t.val % 4, 0] ∧ win0_1.index t = ![t.val / 4, 0]
    ∧ win0_2.index t = ![t.val / 4, 0] ∧ win0_3.index t = ![t.val % 4, t.val / 4]
    ∧ win0_4.index t = ![t.val % 4, t.val / 4] ∧ win0_5.index t = ![t.val % 4, t.val / 4] :=
  (by decide +kernel : ∀ t : Fin grid0.N, _)

variable (c : Dev nD)

/-- The arguments, named. -/
abbrev aX : Vec Ideal S4096x1024 .f32 := m ((c : Thread nD τ).loc main_arg0)
abbrev aWg : Vec Ideal S1x1024x2816 .f32 := m ((c : Thread nD τ).loc main_arg1)
abbrev aWu : Vec Ideal S1x1024x2816 .f32 := m ((c : Thread nD τ).loc main_arg2)
/-- The gate's argument and the other factor. -/
abbrev kg := proj (aX m c) (aWg m c)
abbrev ku := proj (aX m c) (aWu m c)

theorem V_x (i : Fin 4096) (q : Fin 1024) : V m c main_v0 (ix2 i q) = aX m c (ix2 i q) := by
  unfold_abbrev_sides; after_results; pointwise
theorem V_wg (j : Fin 2816) (q : Fin 1024) : V m c main_v3 (ix2 j q) = aWg m c (ix3 0 q j) := by
  unfold_abbrev_sides; after_results; pointwise
theorem V_wu (j : Fin 2816) (q : Fin 1024) : V m c main_v6 (ix2 j q) = aWu m c (ix3 0 q j) := by
  unfold_abbrev_sides; after_results; pointwise

/-- Row `r` of tile `t`, as a row of the arrays. -/
def row (t : Fin cfg0.N) (r : Fin 1024) : Fin 4096 := ⟨t.val % 4 * 1024 + r.val, by omega⟩
/-- Column `k` of tile `t`. -/
def col (t : Fin cfg0.N) (k : Fin 1408) : Fin 2816 :=
  ⟨t.val / 4 * 1408 + k.val, by have := t.isLt; have : cfg0.N = 8 := N_0; omega⟩

/-- The blocks a tile's products are of. -/
abbrev bX (t : Fin cfg0.N) : FVec Ideal S1024x1024 .bf16 := iblk m c 0 t
abbrev bWg (t : Fin cfg0.N) : FVec Ideal S1408x1024 .bf16 := iblk m c 1 t
abbrev bWu (t : Fin cfg0.N) : FVec Ideal S1408x1024 .bf16 := iblk m c 2 t

/-- The two products of a tile's blocks, at an index of the tile. -/
def tdot (X : FVec Ideal S1024x1024 .bf16) (W : FVec Ideal S1408x1024 .bf16) (r : Fin 1024) (k : Fin 1408) : EReal :=
  ∑ q : Fin 1024, X (ix2 r q) * W (ix2 k q)

theorem blk_g (t : Fin cfg0.N) (r : Fin 1024) (k : Fin 1408) :
    tdot (bX m c t) (bWg m c t) r k = kg m c (row t r) (col t k) := by
  refine Finset.sum_congr rfl fun q _ => congrArg₂ (fun x y : EReal => x * y) ?_ ?_
  · rw [← V_x]; blk_ext [iblk, idx t, row]
  · rw [← V_wg]; blk_ext [iblk, idx t, col]

theorem blk_u (t : Fin cfg0.N) (r : Fin 1024) (k : Fin 1408) :
    tdot (bX m c t) (bWu m c t) r k = ku m c (row t r) (col t k) := by
  refine Finset.sum_congr rfl fun q _ => congrArg₂ (fun x y : EReal => x * y) ?_ ?_
  · rw [← V_x]; blk_ext [iblk, idx t, row]
  · rw [← V_wu]; blk_ext [iblk, idx t, col]

/-- The gate, after the run. -/
theorem final_silu : (dats m 0 c).arrAt 3 cfg0.N = fun i => silu (kg m c (i 0) (i 1)) := by
  refine (dats m 0 c).arrAt_eq_of_covers 3 _ (by decide +kernel) fun t hf y => ?_
  blk_simp
  rw [after0_3]
  have hN : cfg0.N = 8 := N_0
  have he : ∀ (r : Fin 1024) (k : Fin 1408),
      ((View.whole main_v7_0).slice (win0_3.rect t)).emb (ix2 r k) = ix2 (row t r) (col t k) := fun r k => by
    blk_ext [idx t, row, col]
  obtain ⟨r, k, rfl⟩ : ∃ (r : Fin 1024) (k : Fin 1408), y = ix2 r k := ⟨y 0, y 1, eq_ix2 y⟩
  rw [he]
  show _ = silu (kg m c (row t r) (col t k))
  rw [← blk_g]
  unfold outsAt0
  frame_out
  unfold bX bWg tdot
  generalize iblk m c 0 t = B0
  generalize iblk m c 1 t = B1
  canon_tiles x h using View.cover_of_tiledBy _ ![1024, 128] (by sl_kernel_rfl) _
  all_goals
    open_payloads
    pointwise [silu, dsilu, sg]
    obtain ⟨r, hr⟩ := r
    obtain ⟨k, hk⟩ := k
    obtain rfl : r = _ := h0
    obtain rfl : k = _ := h1
    simp only [zero_sub]
    rfl

/-- What the gradient keeps: the other factor times the gate's derivative. -/
theorem final_uds : (dats m 0 c).arrAt 4 cfg0.N = fun i => ku m c (i 0) (i 1) * dsilu (kg m c (i 0) (i 1)) := by
  refine (dats m 0 c).arrAt_eq_of_covers 4 _ (by decide +kernel) fun t hf y => ?_
  blk_simp
  rw [after0_4]
  have hN : cfg0.N = 8 := N_0
  have he : ∀ (r : Fin 1024) (k : Fin 1408),
      ((View.whole main_v7_1).slice (win0_4.rect t)).emb (ix2 r k) = ix2 (row t r) (col t k) := fun r k => by
    blk_ext [idx t, row, col]
  obtain ⟨r, k, rfl⟩ : ∃ (r : Fin 1024) (k : Fin 1408), y = ix2 r k := ⟨y 0, y 1, eq_ix2 y⟩
  rw [he]
  show _ = ku m c (row t r) (col t k) * dsilu (kg m c (row t r) (col t k))
  rw [← blk_g, ← blk_u]
  unfold outsAt0
  frame_out
  unfold bX bWg bWu tdot
  generalize iblk m c 0 t = B0
  generalize iblk m c 1 t = B1
  generalize iblk m c 2 t = B2
  canon_tiles x h using View.cover_of_tiledBy _ ![1024, 128] (by sl_kernel_rfl) _
  all_goals
    open_payloads
    pointwise [silu, dsilu, sg]
    obtain ⟨r, hr⟩ := r
    obtain ⟨k, hk⟩ := k
    obtain rfl : r = _ := h0
    obtain rfl : k = _ := h1
    simp only [zero_sub]
    rfl

/-- The gated values, after the run. -/
theorem final_a : (dats m 0 c).arrAt 5 cfg0.N = fun i => silu (kg m c (i 0) (i 1)) * ku m c (i 0) (i 1) := by
  refine (dats m 0 c).arrAt_eq_of_covers 5 _ (by decide +kernel) fun t hf y => ?_
  blk_simp
  rw [after0_5]
  have hN : cfg0.N = 8 := N_0
  have he : ∀ (r : Fin 1024) (k : Fin 1408),
      ((View.whole main_v7_2).slice (win0_5.rect t)).emb (ix2 r k) = ix2 (row t r) (col t k) := fun r k => by
    blk_ext [idx t, row, col]
  obtain ⟨r, k, rfl⟩ : ∃ (r : Fin 1024) (k : Fin 1408), y = ix2 r k := ⟨y 0, y 1, eq_ix2 y⟩
  rw [he]
  show _ = silu (kg m c (row t r) (col t k)) * ku m c (row t r) (col t k)
  rw [← blk_g, ← blk_u]
  unfold outsAt0
  frame_out
  unfold bX bWg bWu tdot
  generalize iblk m c 0 t = B0
  generalize iblk m c 1 t = B1
  generalize iblk m c 2 t = B2
  canon_tiles x h using View.cover_of_tiledBy _ ![1024, 128] (by sl_kernel_rfl) _
  all_goals
    open_payloads
    pointwise [silu, dsilu, sg]
    obtain ⟨r, hr⟩ := r
    obtain ⟨k, hk⟩ := k
    obtain rfl : r = _ := h0
    obtain rfl : k = _ := h1
    simp only [zero_sub]
    rfl

end Kernel

section Reference
open Cert.Reference5Ideal Cert.Reference5Ideal.Gen

variable (m : (ℓ : Loc nD τ sig) → Buf (Elt Ideal) ℓ) (ρ : Dev nD → PrngReg) (c : Dev nD)

/-- The arguments, named. -/
abbrev rX : Vec Ideal S4096x1024 .f32 := m ((c : Thread nD τ).loc main_arg0)
abbrev rWg : Vec Ideal S1x1024x2816 .f32 := m ((c : Thread nD τ).loc main_arg1)
abbrev rWu : Vec Ideal S1x1024x2816 .f32 := m ((c : Thread nD τ).loc main_arg2)
abbrev rg := proj (rX m c) (rWg m c)
abbrev ru := proj (rX m c) (rWu m c)

/-- The reference's run, its results read at an index. -/
theorem ref_run : θ_run defs (onTc (τ := τ) (main (F := Ideal))) ⟨m, fun _ => 0, ρ⟩ fun r => ∀ c : Dev nD,
      (r.2.mem ((c : Thread nD τ).loc main_v6) = fun i => silu (rg m c (i 0) (i 1)))
      ∧ (r.2.mem ((c : Thread nD τ).loc main_v7) = fun i =>
        ru m c (i 0) (i 1) * sg (rg m c (i 0) (i 1))
          + rg m c (i 0) (i 1) * ru m c (i 0) (i 1) * (sg (rg m c (i 0) (i 1)) * (1 - sg (rg m c (i 0) (i 1)))))
      ∧ r.2.mem ((c : Thread nD τ).loc main_v9) = fun i => silu (rg m c (i 0) (i 1)) * ru m c (i 0) (i 1) :=
  (θ_run defs _ _).mono (fun r h c => ⟨(h c).1.trans (by
    funext j
    clean_types
    pointwise
    rfl), (h c).2.1.trans (by
    funext j
    clean_types
    pointwise
    rfl), (h c).2.2.1.trans (by
    funext j
    clean_types
    pointwise
    rfl)⟩) (Cert.Reference5Ideal.Value.run m ρ)

end Reference

end Cert.GateUp

end
-- ==== Proof.GateUpClaim.lean ====
/-
  The two programs of the gate end with equal results, from finite arguments.
-/
module

public import proofs.«01_k».proof.Defs
public import proofs.«01_k».proof.Proof.GateUp
public import proofs.«01_k».proof.Proof.Gen.Pre_finite_args5

@[expose] public section

set_option maxRecDepth 16384

noncomputable section

namespace Cert.GateUp

open Idealize.ShloMosaic Idealize.ShloMosaic.TcCoe Idealize.SL.Sem Cert.Rms Cert.Logistic
open Cert.Gate (proj)
open Cert.Kernel5Ideal (nD τ sig)
open scoped BigOperators

/-- What the precondition says of the arguments. -/
theorem fin_args (m : (ℓ : Loc nD τ sig) → Buf (Elt Ideal) ℓ) (h : Cert.Pre_Kernel5Ideal_finite_args5 m) (c : Dev nD) :
    (∀ i, Fin' (aX m c i)) ∧ (∀ i, Fin' (aWg m c i)) ∧ (∀ i, Fin' (aWu m c i)) :=
  ⟨fun i => fin_of_abs_lt (congrFun (h c).1 i),
    fun i => fin_of_abs_lt (congrFun (h c).2.1 i),
    fun i => fin_of_abs_lt (congrFun (h c).2.2 i)⟩

/-- The memories agree on the arguments. -/
def Agree (m : (ℓ : Loc nD τ sig) → Buf (Elt Ideal) ℓ)
    (m' : (ℓ : Loc Cert.Reference5Ideal.nD Cert.Reference5Ideal.τ Cert.Reference5Ideal.sig) → Buf (Elt Ideal) ℓ) (c : Dev nD) : Prop :=
  rX m' c = aX m c ∧ rWg m' c = aWg m c ∧ rWu m' c = aWu m c

variable {m : (ℓ : Loc nD τ sig) → Buf (Elt Ideal) ℓ}
  {m' : (ℓ : Loc Cert.Reference5Ideal.nD Cert.Reference5Ideal.τ Cert.Reference5Ideal.sig) → Buf (Elt Ideal) ℓ}

/-- The projections of the two programs agree. -/
theorem rg_eq {c : Dev Cert.Kernel5Ideal.nD} (h : Agree m m' c) : rg m' c = kg m c := congrArg₂ proj h.1 h.2.1
theorem ru_eq {c : Dev Cert.Kernel5Ideal.nD} (h : Agree m m' c) : ru m' c = ku m c := congrArg₂ proj h.1 h.2.2

theorem meet_silu (c : Dev Cert.Kernel5Ideal.nD) (h : Agree m m' c) :
    (fun i => silu (rg m' c (i 0) (i 1)) : Cert.Kernel5Ideal.S4096x2816.Idx → EReal)
      = (Cert.Kernel5Ideal.Gen.dats m 0 c).arrAt 3 Cert.Kernel5Ideal.cfg0.N := by
  rw [final_silu, rg_eq h]
  rfl

theorem meet_uds (hpre : Cert.Pre_Kernel5Ideal_finite_args5 m) (c : Dev Cert.Kernel5Ideal.nD) (h : Agree m m' c) :
    (fun i => ru m' c (i 0) (i 1) * sg (rg m' c (i 0) (i 1))
        + rg m' c (i 0) (i 1) * ru m' c (i 0) (i 1) * (sg (rg m' c (i 0) (i 1)) * (1 - sg (rg m' c (i 0) (i 1)))) : Cert.Kernel5Ideal.S4096x2816.Idx → EReal)
      = (Cert.Kernel5Ideal.Gen.dats m 0 c).arrAt 4 Cert.Kernel5Ideal.cfg0.N := by
  obtain ⟨fX, fg, fu⟩ := fin_args m hpre c
  rw [final_uds, rg_eq h, ru_eq h]
  funext i
  exact pull_silu (fin_sum _ _ fun _ => fin_mul (fX _) (fg _)) (fin_sum _ _ fun _ => fin_mul (fX _) (fu _))

theorem meet_a (c : Dev Cert.Kernel5Ideal.nD) (h : Agree m m' c) :
    (fun i => silu (rg m' c (i 0) (i 1)) * ru m' c (i 0) (i 1) : Cert.Kernel5Ideal.S4096x2816.Idx → EReal)
      = (Cert.Kernel5Ideal.Gen.dats m 0 c).arrAt 5 Cert.Kernel5Ideal.cfg0.N := by
  rw [final_a, rg_eq h, ru_eq h]
  rfl

/-- The claim: equal results from finite arguments. -/
theorem algebraic : Cert.algebraic_Kernel5Ideal_Reference5Ideal_pre_finite_args5 := by
  intro m ρ m' ρ' hpre hag
  refine ⟨fun c => (Cert.Kernel5Ideal.Gen.dats m 0 c).arrAt 3 Cert.Kernel5Ideal.cfg0.N,
    fun c => (Cert.Kernel5Ideal.Gen.dats m 0 c).arrAt 4 Cert.Kernel5Ideal.cfg0.N,
    fun c => (Cert.Kernel5Ideal.Gen.dats m 0 c).arrAt 5 Cert.Kernel5Ideal.cfg0.N,
    Cert.Kernel5Ideal.Value.run_blocks m ρ, ?_⟩
  exact (θ_run _ _ _).mono (fun r h c => ⟨(h.1 c).1.trans (meet_silu c (hag c)),
      (h.1 c).2.1.trans (meet_uds hpre c (hag c)), (h.1 c).2.2.trans (meet_a c (hag c)), (h.2 c).2.2.2⟩)
    (θ_run_and (ref_run m' ρ') (Cert.Reference5Ideal.Value.run m' ρ'))

end Cert.GateUp

end
-- ==== Proof.NormIn.lean ====
/-
  The first norm and the input projection: what the kernel's two results hold, and that the plain lines give the same.
-/
module

public import proofs.«01_k».proof.Defs
public import proofs.«01_k».proof.Proof.Rms
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Tactic
public import Idealize.ShloMosaic.Lib.Tactic.CleanTypes

@[expose] public section

set_option maxRecDepth 16384

noncomputable section

namespace Cert.NormIn

open Idealize.ShloMosaic Idealize.ShloMosaic.TcCoe Idealize.SL.Sem Cert.Rms

section Kernel
open Cert.Kernel6Ideal Cert.Kernel6Ideal.Gen

variable (m : (ℓ : Loc nD τ sig) → Buf (Elt Ideal) ℓ)

/-- The window index maps, decided over the eight grid points. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

/-- The normed rows of a tile. -/
theorem xn_at (v0 : Vec Ideal S512x1024 .f32) (v11 : Vec Ideal S1x1024 .f32) (r : Fin 512) (k : Fin 1024) :
    k0_pay1 v0 v11 (ix2 r k) = v0 (ix2 r k) * rs (fun k => v0 (ix2 r k)) * v11 (ix2 0 k) := by
  pointwise! [k0_pay1, rs, ms, W, E]

/-- Their product with the projection's weights, plus its bias. -/
theorem z_at (v0 : Vec Ideal S512x1024 .f32) (v11 : Vec Ideal S1x1024 .f32) (v16 : Vec Ideal S1536x1024 .bf16)
    (v19 : Vec Ideal S1x1536 .f32) (r : Fin 512) (q : Fin 1536) :
    k0_pay2 v0 v11 v16 v19 (ix2 r q) = (∑ k : Fin 1024, v0 (ix2 r k) * rs (fun k => v0 (ix2 r k)) * v11 (ix2 0 k)
      * v16 (ix2 q k)) + v19 (ix2 0 q) := by
  pointwise [k0_pay2, xn_at]

/-! ## The two result arrays -/

variable (c : Dev nD)

/-- The arguments, named. -/
abbrev aX : Vec Ideal S4096x1024 .f32 := m ((c : Thread nD τ).loc main_arg0)
abbrev aG : Vec Ideal S1x1024 .f32 := m ((c : Thread nD τ).loc main_arg1)
abbrev aW : Vec Ideal S1x1024x1536 .f32 := m ((c : Thread nD τ).loc main_arg2)
abbrev aB : Vec Ideal S1x1536 .f32 := m ((c : Thread nD τ).loc main_arg3)

theorem V_w (q : Fin 1536) (j : Fin 1024) : V m c main_v2 (ix2 q j) = aW m c (ix3 0 j q) := by
  unfold_abbrev_sides; after_results; pointwise

/-- Row `r` of tile `t`, as a row of the arrays. -/
def row (t : Fin cfg0.N) (r : Fin 512) : Fin 4096 :=
  ⟨t.val * 512 + r.val, by have := t.isLt; have : cfg0.N = 8 := N_0; omega⟩

theorem blk_x (t : Fin cfg0.N) (r : Fin 512) (j : Fin 1024) : iblk m c 0 t (ix2 r j) = aX m c (ix2 (row t r) j) := by
  blk_ext [iblk, V, idx t, row]
theorem blk_g (t : Fin cfg0.N) (u : Fin 1) (j : Fin 1024) : iblk m c 1 t (ix2 u j) = aG m c (ix2 0 j) := by
  blk_ext [iblk, V, idx t, row]
theorem blk_w (t : Fin cfg0.N) (q : Fin 1536) (j : Fin 1024) : iblk m c 2 t (ix2 q j) = aW m c (ix3 0 j q) := by
  rw [← V_w]; blk_ext [iblk, idx t, row]
theorem blk_b (t : Fin cfg0.N) (u : Fin 1) (q : Fin 1536) : iblk m c 3 t (ix2 u q) = aB m c (ix2 0 q) := by
  blk_ext [iblk, V, idx t, row]

/-- A normed row, in the arguments. -/
def xn (i : Fin 4096) (k : Fin 1024) : EReal :=
  aX m c (ix2 i k) * rs (fun k => aX m c (ix2 i k)) * aG m c (ix2 0 k)

/-- The first result array after the run. -/
theorem final_z : (dats m 0 c).arrAt 4 cfg0.N = fun i =>
    (∑ k : Fin 1024, xn m c (i 0) k * aW m c (ix3 0 k (i 1))) + aB m c (ix2 0 (i 1)) := by
  refine (dats m 0 c).arrAt_eq_of_covers 4 _ (by decide +kernel) fun t hf y => ?_
  blk_simp
  rw [after0_4]
  have he : ∀ (r : Fin 512) (q : Fin 1536),
      ((View.whole main_v3_0).slice (win0_4.rect t)).emb (ix2 r q) = ix2 (row t r) q := fun r q => by
    blk_ext [idx t, row]
  obtain ⟨r, q, rfl⟩ : ∃ (r : Fin 512) (q : Fin 1536), y = ix2 r q := ⟨y 0, y 1, eq_ix2 y⟩
  frame_out
  rw [z_at, he]
  simp only [blk_x, blk_g, blk_w, blk_b]
  rfl

/-- The second result array after the run. -/
theorem final_xn : (dats m 0 c).arrAt 5 cfg0.N = fun i => xn m c (i 0) (i 1) := by
  refine (dats m 0 c).arrAt_eq_of_covers 5 _ (by decide +kernel) fun t hf y => ?_
  blk_simp
  rw [after0_5]
  have he : ∀ (r : Fin 512) (k : Fin 1024),
      ((View.whole main_v3_1).slice (win0_5.rect t)).emb (ix2 r k) = ix2 (row t r) k := fun r k => by
    blk_ext [idx t, row]
  obtain ⟨r, k, rfl⟩ : ∃ (r : Fin 512) (k : Fin 1024), y = ix2 r k := ⟨y 0, y 1, eq_ix2 y⟩
  frame_out
  rw [xn_at, he]
  simp only [blk_x, blk_g]
  rfl

end Kernel

/-! ## The reference -/

section Reference
open Cert.Reference6Ideal Cert.Reference6Ideal.Gen

variable (m : (ℓ : Loc nD τ sig) → Buf (Elt Ideal) ℓ) (ρ : Dev nD → PrngReg) (c : Dev nD)

abbrev rX : Vec Ideal S4096x1024 .f32 := m ((c : Thread nD τ).loc main_arg0)
abbrev rG : Vec Ideal S1x1024 .f32 := m ((c : Thread nD τ).loc main_arg1)
abbrev rW : Vec Ideal S1x1024x1536 .f32 := m ((c : Thread nD τ).loc main_arg2)
abbrev rB : Vec Ideal S1x1536 .f32 := m ((c : Thread nD τ).loc main_arg3)

/-- A normed row, in the reference's arguments. -/
def rn (i : Fin 4096) (k : Fin 1024) : EReal :=
  rX m c (ix2 i k) * rs (fun k => rX m c (ix2 i k)) * rG m c (ix2 0 k)

/-- The reference's run, its results read at an index. -/
theorem ref_run : θ_run defs (onTc (τ := τ) (main (F := Ideal))) ⟨m, fun _ => 0, ρ⟩ fun r => ∀ c : Dev nD,
      (r.2.mem ((c : Thread nD τ).loc main_v19) = fun i =>
        (∑ k : Fin 1024, rn m c (i 0) k * rW m c (ix3 0 k (i 1))) + rB m c (ix2 0 (i 1)))
      ∧ r.2.mem ((c : Thread nD τ).loc main_v20) = fun i => rn m c (i 0) (i 1) :=
  (θ_run defs _ _).mono (fun r h c => ⟨(h c).1.trans (by
    funext j
    clean_types
    pointwise
    rfl), (h c).2.1.trans (by
    funext j
    obtain ⟨a, b, rfl⟩ : ∃ (a : Fin 4096) (b : Fin 1024), j = ix2 a b := ⟨j 0, j 1, eq_ix2 j⟩
    clean_types
    pointwise
    rfl)⟩) (Cert.Reference6Ideal.Value.run m ρ)

end Reference

/-! ## The claim -/

open Cert.Kernel6Ideal (nD τ sig)

/-- The memories agree on the arguments. -/
def Agree (m : (ℓ : Loc nD τ sig) → Buf (Elt Ideal) ℓ)
    (m' : (ℓ : Loc Cert.Reference6Ideal.nD Cert.Reference6Ideal.τ Cert.Reference6Ideal.sig) → Buf (Elt Ideal) ℓ) (c : Dev nD) : Prop :=
  rX m' c = aX m c ∧ rG m' c = aG m c ∧ rW m' c = aW m c ∧ rB m' c = aB m c

variable {m : (ℓ : Loc nD τ sig) → Buf (Elt Ideal) ℓ}
  {m' : (ℓ : Loc Cert.Reference6Ideal.nD Cert.Reference6Ideal.τ Cert.Reference6Ideal.sig) → Buf (Elt Ideal) ℓ}

theorem rn_eq {c : Dev nD} (h : Agree m m' c) (i : Fin 4096) (k : Fin 1024) : rn m' c i k = xn m c i k := by
  unfold rn xn
  rw [h.1, h.2.1]

/-- The first results meet. -/
theorem meet_z (c : Dev nD) (h : Agree m m' c) :
    (fun i => (∑ k : Fin 1024, rn m' c (i 0) k * rW m' c (ix3 0 k (i 1))) + rB m' c (ix2 0 (i 1)) :
      Cert.Kernel6Ideal.S4096x1536.Idx → EReal)
      = (Cert.Kernel6Ideal.Gen.dats m 0 c).arrAt 4 Cert.Kernel6Ideal.cfg0.N := by
  rw [final_z, h.2.2.1, h.2.2.2]
  funext i
  exact congrArg (· + _) (Finset.sum_congr rfl fun k _ => congrArg (· * _) (rn_eq h (i 0) k))

/-- The second results meet. -/
theorem meet_xn (c : Dev nD) (h : Agree m m' c) :
    (fun i => rn m' c (i 0) (i 1) : Cert.Kernel6Ideal.S4096x1024.Idx → EReal)
      = (Cert.Kernel6Ideal.Gen.dats m 0 c).arrAt 5 Cert.Kernel6Ideal.cfg0.N := by
  rw [final_xn]
  funext i
  exact rn_eq h (i 0) (i 1)

/-- The claim: equal results from any arguments. -/
theorem algebraic : Cert.algebraic_Kernel6Ideal_Reference6Ideal := by
  intro m ρ m' ρ' _ hag
  refine ⟨fun c => (Cert.Kernel6Ideal.Gen.dats m 0 c).arrAt 4 Cert.Kernel6Ideal.cfg0.N,
    fun c => (Cert.Kernel6Ideal.Gen.dats m 0 c).arrAt 5 Cert.Kernel6Ideal.cfg0.N,
    Cert.Kernel6Ideal.Value.run_blocks m ρ, ?_⟩
  exact (θ_run _ _ _).mono (fun r h c => ⟨(h.1 c).1.trans (meet_z c (hag c)),
      (h.1 c).2.trans (meet_xn c (hag c)), (h.2 c).2.2⟩)
    (θ_run_and (ref_run m' ρ') (Cert.Reference6Ideal.Value.run m' ρ'))

end Cert.NormIn

end
-- ==== Proof.NormOut.lean ====
/-
  The output projection, the residual sum and the second norm: what the kernel's two results hold, and that the plain lines
  give the same.
-/
module

public import proofs.«01_k».proof.Defs
public import proofs.«01_k».proof.Proof.Rms
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import Idealize.ShloMosaic.Lib.Tactic
public import Idealize.ShloMosaic.Lib.Tactic.CleanTypes

@[expose] public section

set_option maxRecDepth 16384

noncomputable section

namespace Cert.NormOut

open Idealize.ShloMosaic Idealize.ShloMosaic.TcCoe Idealize.SL.Sem Cert.Rms

section Kernel
open Cert.Kernel7Ideal Cert.Kernel7Ideal.Gen

variable (m : (ℓ : Loc nD τ sig) → Buf (Elt Ideal) ℓ)

/-- The window index maps, decided over the eight grid points. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

/-- The residual sum on a tile. -/
theorem h_at (v0 : Vec Ideal S512x1024 .f32) (v1 : Vec Ideal S512x1024 .bf16) (v3 : Vec Ideal S1024x1024 .bf16)
    (r : Fin 512) (k : Fin 1024) :
    k0_pay1 v0 v1 v3 (ix2 r k) = v0 (ix2 r k) + ∑ q : Fin 1024, v1 (ix2 r q) * v3 (ix2 q k) := by
  pointwise! [k0_pay1]

/-- Its normed rows. -/
theorem hn_at (v0 : Vec Ideal S512x1024 .f32) (v1 : Vec Ideal S512x1024 .bf16) (v3 : Vec Ideal S1024x1024 .bf16)
    (v18 : Vec Ideal S1x1024 .f32) (r : Fin 512) (k : Fin 1024) :
    k0_pay2 v0 v1 v3 v18 (ix2 r k) = k0_pay1 v0 v1 v3 (ix2 r k) * rs (fun k => k0_pay1 v0 v1 v3 (ix2 r k))
      * v18 (ix2 0 k) := by
  unfold k0_pay2
  generalize k0_pay1 v0 v1 v3 = h
  pointwise! [rs, ms, W, E]

/-! ## The two result arrays -/

variable (c : Dev nD)

/-- The arguments, named. -/
abbrev aY : Vec Ideal S4096x1024 .f32 := m ((c : Thread nD τ).loc main_arg0)
abbrev aX : Vec Ideal S4096x1024 .f32 := m ((c : Thread nD τ).loc main_arg1)
abbrev aW : Vec Ideal S1x1024x1024 .f32 := m ((c : Thread nD τ).loc main_arg2)
abbrev aG : Vec Ideal S1x1024 .f32 := m ((c : Thread nD τ).loc main_arg3)

theorem V_y (i : Fin 4096) (j : Fin 1024) : V m c main_v0 (ix2 i j) = aY m c (ix2 i j) := by
  unfold_abbrev_sides; after_results; pointwise
theorem V_w (q : Fin 1024) (j : Fin 1024) : V m c main_v2 (ix2 q j) = aW m c (ix3 0 q j) := by
  unfold_abbrev_sides; after_results; pointwise

/-- Row `r` of tile `t`, as a row of the arrays. -/
def row (t : Fin cfg0.N) (r : Fin 512) : Fin 4096 :=
  ⟨t.val * 512 + r.val, by have := t.isLt; have : cfg0.N = 8 := N_0; omega⟩

theorem blk_y (t : Fin cfg0.N) (r : Fin 512) (j : Fin 1024) : iblk m c 0 t (ix2 r j) = aY m c (ix2 (row t r) j) := by
  rw [← V_y]; blk_ext [iblk, idx t, row]
theorem blk_x (t : Fin cfg0.N) (r : Fin 512) (j : Fin 1024) : iblk m c 1 t (ix2 r j) = aX m c (ix2 (row t r) j) := by
  blk_ext [iblk, V, idx t, row]
theorem blk_w (t : Fin cfg0.N) (q j : Fin 1024) : iblk m c 2 t (ix2 q j) = aW m c (ix3 0 q j) := by
  rw [← V_w]; blk_ext [iblk, idx t, row]
theorem blk_g (t : Fin cfg0.N) (u : Fin 1) (j : Fin 1024) : iblk m c 3 t (ix2 u j) = aG m c (ix2 0 j) := by
  blk_ext [iblk, V, idx t, row]

/-- The residual sum, in the arguments. -/
def hs (i : Fin 4096) (k : Fin 1024) : EReal := aX m c (ix2 i k) + ∑ q : Fin 1024, aY m c (ix2 i q) * aW m c (ix3 0 q k)

theorem tile_h (t : Fin cfg0.N) (r : Fin 512) (k : Fin 1024) :
    k0_pay1 (iblk m c 1 t) (iblk m c 0 t) (iblk m c 2 t) (ix2 r k) = hs m c (row t r) k := by
  rw [h_at]
  simp only [blk_y, blk_x, blk_w, hs]

/-- The first result array after the run. -/
theorem final_h : (dats m 0 c).arrAt 4 cfg0.N = fun i => hs m c (i 0) (i 1) := by
  refine (dats m 0 c).arrAt_eq_of_covers 4 _ (by decide +kernel) fun t hf y => ?_
  blk_simp
  rw [after0_4]
  have he : ∀ (r : Fin 512) (k : Fin 1024),
      ((View.whole main_v3_0).slice (win0_4.rect t)).emb (ix2 r k) = ix2 (row t r) k := fun r k => by
    blk_ext [idx t, row]
  obtain ⟨r, k, rfl⟩ : ∃ (r : Fin 512) (k : Fin 1024), y = ix2 r k := ⟨y 0, y 1, eq_ix2 y⟩
  frame_out
  rw [tile_h, he]
  rfl

/-- The second result array after the run. -/
theorem final_hn : (dats m 0 c).arrAt 5 cfg0.N = fun i =>
    hs m c (i 0) (i 1) * rs (fun k => hs m c (i 0) k) * aG m c (ix2 0 (i 1)) := by
  refine (dats m 0 c).arrAt_eq_of_covers 5 _ (by decide +kernel) fun t hf y => ?_
  blk_simp
  rw [after0_5]
  have he : ∀ (r : Fin 512) (k : Fin 1024),
      ((View.whole main_v3_1).slice (win0_5.rect t)).emb (ix2 r k) = ix2 (row t r) k := fun r k => by
    blk_ext [idx t, row]
  obtain ⟨r, k, rfl⟩ : ∃ (r : Fin 512) (k : Fin 1024), y = ix2 r k := ⟨y 0, y 1, eq_ix2 y⟩
  frame_out
  rw [hn_at, he]
  simp only [tile_h, blk_g]
  rfl

end Kernel

/-! ## The reference -/

section Reference
open Cert.Reference7Ideal Cert.Reference7Ideal.Gen

variable (m : (ℓ : Loc nD τ sig) → Buf (Elt Ideal) ℓ) (ρ : Dev nD → PrngReg) (c : Dev nD)

abbrev rY : Vec Ideal S4096x1024 .f32 := m ((c : Thread nD τ).loc main_arg0)
abbrev rX : Vec Ideal S4096x1024 .f32 := m ((c : Thread nD τ).loc main_arg1)
abbrev rW : Vec Ideal S1x1024x1024 .f32 := m ((c : Thread nD τ).loc main_arg2)
abbrev rG : Vec Ideal S1x1024 .f32 := m ((c : Thread nD τ).loc main_arg3)

/-- The residual sum, in the reference's arguments. -/
def rh (i : Fin 4096) (k : Fin 1024) : EReal := rX m c (ix2 i k) + ∑ q : Fin 1024, rY m c (ix2 i q) * rW m c (ix3 0 q k)

/-- The reference's run, its results read at an index. -/
theorem ref_run : θ_run defs (onTc (τ := τ) (main (F := Ideal))) ⟨m, fun _ => 0, ρ⟩ fun r => ∀ c : Dev nD,
      (r.2.mem ((c : Thread nD τ).loc main_v2) = fun i => rh m c (i 0) (i 1))
      ∧ r.2.mem ((c : Thread nD τ).loc main_v17) = fun i =>
        rh m c (i 0) (i 1) * rs (fun k => rh m c (i 0) k) * rG m c (ix2 0 (i 1)) :=
  (θ_run defs _ _).mono (fun r h c => ⟨(h c).1.trans (by
    funext j
    obtain ⟨a, b, rfl⟩ : ∃ (a : Fin 4096) (b : Fin 1024), j = ix2 a b := ⟨j 0, j 1, eq_ix2 j⟩
    clean_types
    pointwise
    rfl), (h c).2.1.trans (by
    funext j
    obtain ⟨a, b, rfl⟩ : ∃ (a : Fin 4096) (b : Fin 1024), j = ix2 a b := ⟨j 0, j 1, eq_ix2 j⟩
    clean_types
    pointwise
    rfl)⟩) (Cert.Reference7Ideal.Value.run m ρ)

end Reference

/-! ## The claim -/

open Cert.Kernel7Ideal (nD τ sig)

/-- The memories agree on the arguments. -/
def Agree (m : (ℓ : Loc nD τ sig) → Buf (Elt Ideal) ℓ)
    (m' : (ℓ : Loc Cert.Reference7Ideal.nD Cert.Reference7Ideal.τ Cert.Reference7Ideal.sig) → Buf (Elt Ideal) ℓ) (c : Dev nD) : Prop :=
  rY m' c = aY m c ∧ rX m' c = aX m c ∧ rW m' c = aW m c ∧ rG m' c = aG m c

variable {m : (ℓ : Loc nD τ sig) → Buf (Elt Ideal) ℓ}
  {m' : (ℓ : Loc Cert.Reference7Ideal.nD Cert.Reference7Ideal.τ Cert.Reference7Ideal.sig) → Buf (Elt Ideal) ℓ}

theorem rh_eq {c : Dev nD} (h : Agree m m' c) : rh m' c = hs m c := by
  unfold rh hs
  rw [h.1, h.2.1, h.2.2.1]

/-- The first results meet. -/
theorem meet_h (c : Dev nD) (h : Agree m m' c) :
    (fun i => rh m' c (i 0) (i 1) : Cert.Kernel7Ideal.S4096x1024.Idx → EReal)
      = (Cert.Kernel7Ideal.Gen.dats m 0 c).arrAt 4 Cert.Kernel7Ideal.cfg0.N := by
  rw [final_h, rh_eq h]
  rfl

/-- The second results meet. -/
theorem meet_hn (c : Dev nD) (h : Agree m m' c) :
    (fun i => rh m' c (i 0) (i 1) * rs (fun k => rh m' c (i 0) k) * rG m' c (ix2 0 (i 1)) :
      Cert.Kernel7Ideal.S4096x1024.Idx → EReal)
      = (Cert.Kernel7Ideal.Gen.dats m 0 c).arrAt 5 Cert.Kernel7Ideal.cfg0.N := by
  rw [final_hn, rh_eq h, h.2.2.2]
  rfl

/-- The claim: equal results from any arguments. -/
theorem algebraic : Cert.algebraic_Kernel7Ideal_Reference7Ideal := by
  intro m ρ m' ρ' _ hag
  refine ⟨fun c => (Cert.Kernel7Ideal.Gen.dats m 0 c).arrAt 4 Cert.Kernel7Ideal.cfg0.N,
    fun c => (Cert.Kernel7Ideal.Gen.dats m 0 c).arrAt 5 Cert.Kernel7Ideal.cfg0.N,
    Cert.Kernel7Ideal.Value.run_blocks m ρ, ?_⟩
  exact (θ_run _ _ _).mono (fun r h c => ⟨(h.1 c).1.trans (meet_h c (hag c)),
      (h.1 c).2.trans (meet_hn c (hag c)), (h.2 c).2.2⟩)
    (θ_run_and (ref_run m' ρ') (Cert.Reference7Ideal.Value.run m' ρ'))

end Cert.NormOut

end
-- ==== Proof.Halo.lean ====
/-
  Two blocks of rows stored one above the other in a scratch, read back as one run of rows.
-/
module

public import Idealize.ShloMosaic.Lib.Pipeline.ValueKit
public import Idealize.ShloMosaic.Lib.Pipeline.ReadBack
public import Idealize.ShloMosaic.Lib.Pointwise

@[expose] public section
noncomputable section
namespace Cert.Halo
open Idealize.ShloMosaic Idealize.ShloMosaic.ValueKit

/-! Rows stored on top of each other: a block of `h` rows, the halo, and the `l` rows after it. -/

/-- Row `n` of the two blocks. -/
def two {h l w : ℕ} (H : Fin h → Fin w → EReal) (B : Fin l → Fin w → EReal) (n : ℕ) (b : Fin w) : EReal :=
  if p : n < h then H ⟨n, p⟩ b else if p : n - h < l then B ⟨n - h, p⟩ b else 0

/-- Rows of the upper block. -/
theorem two_lo {h l w : ℕ} (H : Fin h → Fin w → EReal) (B : Fin l → Fin w → EReal) (a : Fin h) (b : Fin w) :
    two H B a.val b = H a b := by
  rw [two, dif_pos a.isLt]

/-- Rows of the lower block. -/
theorem two_hi {h l w : ℕ} (H : Fin h → Fin w → EReal) (B : Fin l → Fin w → EReal) (a : Fin l) (b : Fin w) :
    two H B (h + a.val) b = B a b := by
  have e : h + a.val - h = a.val := Nat.add_sub_cancel_left _ _
  rw [two, dif_neg (by omega), dif_pos (by rw [e]; exact a.isLt)]
  congr 1
  exact Fin.ext e

/-- What the two stores leave in the first slab of a scratch of three axes. -/
theorem canon3 {g n w h l : ℕ} [NeZero g] (H : (⟨3, ![1, h, w]⟩ : Shape).Idx → EReal) (B : (⟨3, ![1, l, w]⟩ : Shape).Idx → EReal)
    (hb : ∀ a, (![0, h, 0] : Fin 3 → ℕ) a + (![1, l, w] : Fin 3 → ℕ) a ≤ (⟨3, ![g, n, w]⟩ : Shape).size a)
    (hh : ∀ a, (![0, 0, 0] : Fin 3 → ℕ) a + (![1, h, w] : Fin 3 → ℕ) a ≤ (⟨3, ![g, n, w]⟩ : Shape).size a) (hn : n = h + l)
    (y : (⟨3, ![g, n, w]⟩ : Shape).Idx) (hy : (y 0).val = 0) :
    View.canon (Val := Elt Ideal) (e := .f32)
      [⟨Rect.unit (s := ⟨3, ![g, n, w]⟩) ![0, h, 0] ![1, l, w] hb, B⟩, ⟨Rect.unit (s := ⟨3, ![g, n, w]⟩) ![0, 0, 0] ![1, h, w] hh, H⟩] y
      = two (fun a b => H (ix3 0 a b)) (fun a b => B (ix3 0 a b)) (y 1).val (y 2) := by
  have h1 : (y 1).val < n := (y 1).isLt
  unfold two
  by_cases p : (y 1).val < h
  · rw [dif_pos p, View.canon_cons_of_not_mem]
    · have e : y = (Rect.unit (s := ⟨3, ![g, n, w]⟩) ![0, 0, 0] ![1, h, w] hh).emb (ix3 0 ⟨(y 1).val, p⟩ (y 2)) := by
        funext a
        refine Fin.ext ?_
        rw [rect_emb_unit_val]
        fin_cases a
        · exact hy.trans rfl
        · exact (Nat.zero_add _).symm
        · exact (Nat.zero_add _).symm
      exact (congrArg _ e).trans (View.canon_cons_emb _ _ _ _)
    · intro hm
      have := (Rect.mem_set_unit (inb := hb).mp hm 1).1
      exact absurd p (not_lt.mpr this)
  · have q : (y 1).val - h < l := by omega
    rw [dif_neg p, dif_pos q]
    have e : y = (Rect.unit (s := ⟨3, ![g, n, w]⟩) ![0, h, 0] ![1, l, w] hb).emb (ix3 0 ⟨(y 1).val - h, q⟩ (y 2)) := by
      funext a
      refine Fin.ext ?_
      rw [rect_emb_unit_val]
      fin_cases a
      · exact hy.trans rfl
      · exact (Nat.add_sub_of_le (not_lt.mp p)).symm
      · exact (Nat.zero_add _).symm
    exact (congrArg _ e).trans (View.canon_cons_emb _ _ _ _)

/-- What the two stores leave in a scratch of two axes. -/
theorem canon2 {n w h l : ℕ} (H : (⟨2, ![h, w]⟩ : Shape).Idx → EReal) (B : (⟨2, ![l, w]⟩ : Shape).Idx → EReal)
    (hb : ∀ a, (![h, 0] : Fin 2 → ℕ) a + (![l, w] : Fin 2 → ℕ) a ≤ (⟨2, ![n, w]⟩ : Shape).size a)
    (hh : ∀ a, (![0, 0] : Fin 2 → ℕ) a + (![h, w] : Fin 2 → ℕ) a ≤ (⟨2, ![n, w]⟩ : Shape).size a) (hn : n = h + l)
    (y : (⟨2, ![n, w]⟩ : Shape).Idx) :
    View.canon (Val := Elt Ideal) (e := .f32)
      [⟨Rect.unit (s := ⟨2, ![n, w]⟩) ![h, 0] ![l, w] hb, B⟩, ⟨Rect.unit (s := ⟨2, ![n, w]⟩) ![0, 0] ![h, w] hh, H⟩] y
      = two (fun a b => H (ix2 a b)) (fun a b => B (ix2 a b)) (y 0).val (y 1) := by
  have h1 : (y 0).val < n := (y 0).isLt
  unfold two
  by_cases p : (y 0).val < h
  · rw [dif_pos p, View.canon_cons_of_not_mem]
    · have e : y = (Rect.unit (s := ⟨2, ![n, w]⟩) ![0, 0] ![h, w] hh).emb (ix2 ⟨(y 0).val, p⟩ (y 1)) := by
        funext a
        refine Fin.ext ?_
        rw [rect_emb_unit_val]
        fin_cases a
        · exact (Nat.zero_add _).symm
        · exact (Nat.zero_add _).symm
      exact (congrArg _ e).trans (View.canon_cons_emb _ _ _ _)
    · intro hm
      have := (Rect.mem_set_unit (inb := hb).mp hm 0).1
      exact absurd p (not_lt.mpr this)
  · have q : (y 0).val - h < l := by omega
    rw [dif_neg p, dif_pos q]
    have e : y = (Rect.unit (s := ⟨2, ![n, w]⟩) ![h, 0] ![l, w] hb).emb (ix2 ⟨(y 0).val - h, q⟩ (y 1)) := by
      funext a
      refine Fin.ext ?_
      rw [rect_emb_unit_val]
      fin_cases a
      · exact (Nat.add_sub_of_le (not_lt.mp p)).symm
      · exact (Nat.zero_add _).symm
    exact (congrArg _ e).trans (View.canon_cons_emb _ _ _ _)

end Cert.Halo
end
-- ==== Proof.SeqFwdRows.lean ====
/-
  The rows the kernel keeps in its two scratches at a grid point: the gated rows, in eight shifted copies, and the pooled rows.
-/
module

public import proofs.«01_k».proof.Proof.Gen.Kernel8Ideal.Value
public import proofs.«01_k».proof.Proof.Halo
public import Idealize.ShloMosaic.Lib.Pipeline.ValueKit
public import Idealize.ShloMosaic.Lib.Pipeline.ReadBack
public import Idealize.ShloMosaic.Lib.Pointwise
public import Idealize.ShloMosaic.Lib.Tactic
public import Idealize.ShloMosaic.Lib.Tactic.CleanTypes

@[expose] public section
set_option maxRecDepth 16384
set_option maxHeartbeats 1000000
noncomputable section
namespace Cert.SeqFwd
open Idealize.ShloMosaic Idealize.ShloMosaic.TcCoe Idealize.SL.Sem
open Cert.Halo Idealize.ShloMosaic.ValueKit Cert.Kernel8Ideal Cert.Kernel8Ideal.Gen
variable (m : (ℓ : Loc nD τ sig) → Buf (Elt Ideal) ℓ)

/-- The pieces the point leaves in the scratches. -/
abbrev LU (c : Dev nD) (t : Fin cfg0.N) := (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)).2.2.1

/-- The pieces the point leaves in the scratch of the pooled rows. -/
abbrev LP (c : Dev nD) (t : Fin cfg0.N) := (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)).2.2.2.1

/-- What they leave in the first scratch. -/
def U (c : Dev nD) (t : Fin cfg0.N) : S8x544x512.Idx → EReal := View.canon (LU m c t)

/-- What they leave in the second scratch. -/
def Pp (c : Dev nD) (t : Fin cfg0.N) : S544x512.Idx → EReal := View.canon (LP m c t)

/-- Row `n` of the gated rows of a tile, the last rows of the tile before it above them. -/
def ur (c : Dev nD) (t : Fin cfg0.N) : ℕ → Fin 512 → EReal :=
  two (fun a b => k0_pay2 (grid0.coords t) (View.ld (iblk m c 1 t) (Rect.unit ![0, 0] ![32, 512] inb_S32x1536_S32x512_0_0)) (View.ld (iblk m c 1 t) (Rect.unit ![0, 512] ![32, 512] inb_S32x1536_S32x512_0_512)) (ix3 0 a b))
    (fun a b => k0_pay4 (View.ld (iblk m c 0 t) (Rect.unit ![0, 0] ![512, 512] inb_S512x1536_S512x512_0_0)) (View.ld (iblk m c 0 t) (Rect.unit ![0, 512] ![512, 512] inb_S512x1536_S512x512_0_512)) (ix2 a b))

/-- Rows of equal numbers are equal. -/
theorem ur_congr (c : Dev nD) (t : Fin cfg0.N) {n n' : ℕ} {b b' : Fin 512} (h : n = n') (h' : b.val = b'.val) :
    ur m c t n b = ur m c t n' b' := by
  rw [h, Fin.ext h']

/-- The first of the eight copies is the gated rows themselves. -/
theorem base (c : Dev nD) (t : Fin cfg0.N) (y : S8x544x512.Idx) (hy : (y 0).val = 0) :
    View.canon (Val := Elt Ideal) (e := .f32) [⟨Rect.unit ![0, 32, 0] ![1, 512, 512] inb_S8x544x512_S1x512x512_0_32_0,
        shapeCast S1x512x512 (k0_pay4 (View.ld (iblk m c 0 t) (Rect.unit ![0, 0] ![512, 512] inb_S512x1536_S512x512_0_0)) (View.ld (iblk m c 0 t) (Rect.unit ![0, 512] ![512, 512] inb_S512x1536_S512x512_0_512))) shapeCasts_S512x512_S1x512x512⟩,
      ⟨Rect.unit ![0, 0, 0] ![1, 32, 512] inb_S8x544x512_S1x32x512_0_0_0,
        k0_pay2 (grid0.coords t) (View.ld (iblk m c 1 t) (Rect.unit ![0, 0] ![32, 512] inb_S32x1536_S32x512_0_0)) (View.ld (iblk m c 1 t) (Rect.unit ![0, 512] ![32, 512] inb_S32x1536_S32x512_0_512))⟩] y
      = ur m c t (y 1).val (y 2) := by
  refine (canon3 (g := 8) (n := 544) (w := 512) (h := 32) (l := 512) _ _ _ _ rfl y hy).trans ?_
  unfold ur
  congr 1
  funext a b
  pointwise

/-- Every piece is a shifted copy of the rows: the kernel makes each copy by one load of the first and one store. -/
theorem pieces (c : Dev nD) (t : Fin cfg0.N) : View.PiecesOf (fun y => ur m c t ((y 0).val + (y 1).val) (y 2)) (LU m c t)  := by
  unfold LU
  frame_open
  simp (disch := decide) only [↓ View.readCov_skip]
  simp only [Memref.IsWhole.read_unread, View.readAt_eq_ld, View.readCov_eq_canon']
  refine ⟨?_, ?_, ?_, ?_, ?_, ?_, ?_, ?_, ?_, trivial⟩
  all_goals
    intro x
    obtain ⟨u, a, b, rfl⟩ : ∃ u a b, x = ix3 u a b := ⟨x 0, x 1, x 2, eq_ix3 x⟩
    obtain rfl : u = 0 := Fin.fin_one_eq_zero u
  iterate 7
    · pointwise [k0_pay14, k0_pay13, k0_pay12, k0_pay11, k0_pay10, k0_pay9, k0_pay8]
      exact (base m c t _ rfl).trans (ur_congr m c t
        (by rw [rect_emb_unit_val, rect_emb_unit_val]; dsimp; omega)
        (by rw [rect_emb_unit_val]; exact (Nat.zero_add _).symm))
  · refine Eq.trans (Eq.trans ?_ (two_hi _ _ a b).symm) (ur_congr m c t (n := 32 + a.val) (b := b)
      (by rw [rect_emb_unit_val, rect_emb_unit_val]; dsimp; omega) (by rw [rect_emb_unit_val]; exact (Nat.zero_add _).symm))
    pointwise
    rfl
  · refine Eq.trans (Eq.trans ?_ (two_lo (fun a b => k0_pay2 (grid0.coords t) (View.ld (iblk m c 1 t) (Rect.unit ![0, 0] ![32, 512] inb_S32x1536_S32x512_0_0)) (View.ld (iblk m c 1 t) (Rect.unit ![0, 512] ![32, 512] inb_S32x1536_S32x512_0_512)) (ix3 0 a b)) _ a b).symm) (ur_congr m c t (n := a.val) (b := b)
      (by rw [rect_emb_unit_val, rect_emb_unit_val]; dsimp; omega) (by rw [rect_emb_unit_val]; exact (Nat.zero_add _).symm))
    rfl

/-- The scratch read back: copy `s` is the rows moved up by `s`. -/
theorem U_at (c : Dev nD) (t : Fin cfg0.N) (s : Fin 8) (a : Fin 544) (b : Fin 512) (h : s.val = 0 ∨ a.val < 536) :
    U m c t (ix3 s a b) = ur m c t (s.val + a.val) b := by
  refine View.canon_apply_of_pieces (Val := Elt Ideal) (e := .f32) (S := S8x544x512) (fun y => ur m c t ((y 0).val + (y 1).val) (y 2)) (LU m c t) (pieces m c t).mem (ix3 s a b) ?_
  unfold LU
  frame_open
  simp only [List.exists_mem_cons_iff, Rect.mem_set_unit, Fin.forall_fin_succ, IsEmpty.forall_iff, and_true, Fin.succ_zero_eq_one, Fin.succ_one_eq_two,
    ix3_0, ix3_1, ix3_2, Matrix.cons_val_zero, Matrix.cons_val_one, Matrix.cons_val_two, Matrix.cons_val, Matrix.tail_cons, Matrix.head_cons]
  have := s.isLt
  have := a.isLt
  have := b.isLt
  omega
end Cert.SeqFwd
end
-- ==== Proof.SeqFwdTap.lean ====
/-
  One tap of the convolution as the kernel takes it, and the sum of the thirty-one of them with the bias.
-/
module

public import proofs.«01_k».proof.Proof.Gen.Kernel8Ideal.Value
public import proofs.«01_k».proof.Proof.SeqFwdRows
public import Idealize.ShloMosaic.Lib.Pipeline.ValueKit
public import Idealize.ShloMosaic.Lib.Pipeline.ReadBack
public import Idealize.ShloMosaic.Lib.Pointwise
public import Idealize.ShloMosaic.Lib.Tactic
public import Idealize.ShloMosaic.Lib.Tactic.CleanTypes

@[expose] public section
set_option maxRecDepth 16384
set_option maxHeartbeats 1000000
noncomputable section
namespace Cert.SeqFwd
open Idealize.ShloMosaic Idealize.ShloMosaic.TcCoe Idealize.SL.Sem
open Cert.Halo Idealize.ShloMosaic.ValueKit Cert.Kernel8Ideal Cert.Kernel8Ideal.Gen
variable (m : (ℓ : Loc nD τ sig) → Buf (Elt Ideal) ℓ)

/-- Row `n` of the convolution, of rows `u` that begin thirty rows before it, two of the halo's unused. -/
def cv (u : ℕ → Fin 512 → EReal) (w : S4x31x1x128.Idx → EReal) (b : S1x512.Idx → EReal) (n : ℕ) (q : Fin 512) : EReal :=
  (∑ k : Fin 31, u (n + (2 + k.val)) q * w (ix4 ⟨q.val / 128, by omega⟩ k 0 ⟨q.val % 128, by omega⟩)) + b (ix2 0 q)

/-- A sum over thirty-one taps, written out. -/
theorem sum31 (f : Fin 31 → EReal) : ∑ k, f k = 0 + f 0 + f 1 + f 2 + f 3 + f 4 + f 5 + f 6 + f 7 + f 8 + f 9 + f 10 + f 11 + f 12 + f 13 + f 14
    + f 15 + f 16 + f 17 + f 18 + f 19 + f 20 + f 21 + f 22 + f 23 + f 24 + f 25 + f 26 + f 27 + f 28 + f 29 + f 30 := by
  simp only [Fin.sum_univ_castSucc, Fin.sum_univ_zero]
  rfl

/-- A product of a load and a row of weights, at a place. -/
theorem tap0 (x : S1x64x128.Idx → EReal) (y : S1x1x1x128.Idx → EReal) (h1 : S1x64x128.ShapeCasts S64x128) (h2 : S1x1x1x128.ShapeCasts S1x128)
    (h3 : S1x128.Broadcasts S64x128) (r : Fin 64) (q : Fin 128) :
    mulf (F := Ideal) (φ := .f32) (shapeCast S64x128 x h1) (broadcastTo S64x128 (shapeCast S1x128 y h2) h3) (ix2 r q)
      = x (ix3 0 r q) * y (ix4 0 0 0 q) := by
  pointwise

/-- A tap: the load from a shifted copy is the row that the tap wants. -/
theorem tap {X : S8x544x512.Idx → EReal} {u : ℕ → Fin 512 → EReal}
    (hX : ∀ s a b, (s.val = 0 ∨ a.val < 536) → X (ix3 s a b) = u (s.val + a.val) b) (w : S4x31x1x128.Idx → EReal)
    (s a c j k : ℕ) (hi : ∀ i, (![s, a, c] : Fin 3 → ℕ) i + (![1, 64, 128] : Fin 3 → ℕ) i ≤ S8x544x512.size i)
    (hj : ∀ i, (![j, k, 0, 0] : Fin 4 → ℕ) i + (![1, 1, 1, 128] : Fin 4 → ℕ) i ≤ S4x31x1x128.size i)
    (h1 : S1x64x128.ShapeCasts S64x128) (h2 : S1x1x1x128.ShapeCasts S1x128) (h3 : S1x128.Broadcasts S64x128)
    (hs : s = 0 ∨ a ≤ 472) (r : Fin 64) (q : Fin 128) (hq : c + q.val < 512) (hj' : j < 4) (hk : k < 31) :
    mulf (F := Ideal) (φ := .f32) (shapeCast S64x128 (fun i => X ((Rect.unit (s := S8x544x512) ![s, a, c] ![1, 64, 128] hi).idx i)) h1)
      (broadcastTo S64x128 (shapeCast S1x128 (View.ld (Val := Elt Ideal) (e' := .f32) w (Rect.unit (s := S4x31x1x128) ![j, k, 0, 0] ![1, 1, 1, 128] hj)) h2) h3) (ix2 r q)
      = u (r.val + (s + a)) ⟨c + q.val, hq⟩ * w (ix4 ⟨j, hj'⟩ ⟨k, hk⟩ 0 q) := by
  rw [tap0]
  refine congrArg₂ (fun x y : EReal => x * y) ?_ ?_
  · have ha : a + 64 ≤ 544 := hi 1
    have hs' : s + 1 ≤ 8 := hi 0
    have e : (Rect.unit (s := S8x544x512) ![s, a, c] ![1, 64, 128] hi).idx (ix3 0 r q) = ix3 ⟨s, by omega⟩ ⟨a + r.val, by omega⟩ ⟨c + q.val, hq⟩ := by
      funext i
      refine Fin.ext ?_
      rw [Rect.idx_unit_val]
      fin_cases i <;> rfl
    refine (congrArg X e).trans ((hX _ _ _ ?_).trans ?_)
    · dsimp only
      omega
    · dsimp only
      rw [show s + (a + r.val) = r.val + (s + a) by omega]
  · have e : (Rect.unit (s := S4x31x1x128) ![j, k, 0, 0] ![1, 1, 1, 128] hj).idx (ix4 0 0 0 q) = ix4 ⟨j, hj'⟩ ⟨k, hk⟩ 0 q := by
      funext i
      refine Fin.ext ?_
      rw [Rect.idx_unit_val]
      fin_cases i
      · rfl
      · rfl
      · rfl
      · exact Nat.zero_add _
    exact congrArg w e

/-- A sum of two arrays at a place. -/
theorem addf_at (x y : S64x128.Idx → EReal) (i : S64x128.Idx) : addf (F := Ideal) (φ := .f32) x y i = x i + y i := rfl

/-- The zero the sum begins from. -/
theorem zero_at (i : S64x128.Idx) : broadcast S64x128 (FloatOps.ofBits (F := Ideal) .f32 0#32) i = 0 := by
  pointwise

/-- A row broadcast down the rows. -/
theorem bcast_at (x : S1x128.Idx → EReal) (h : S1x128.Broadcasts S64x128) (r : Fin 64) (q : Fin 128) :
    broadcastTo S64x128 x h (ix2 r q) = x (ix2 0 q) := by
  pointwise

/-- The bias, loaded and broadcast. -/
theorem bias_at (b : S1x512.Idx → EReal) (c : ℕ) (hc : ∀ i, (![0, c] : Fin 2 → ℕ) i + (![1, 128] : Fin 2 → ℕ) i ≤ S1x512.size i)
    (h : S1x128.Broadcasts S64x128) (r : Fin 64) (q : Fin 128) (hq : c + q.val < 512) :
    broadcastTo S64x128 (View.ld (Val := Elt Ideal) (e' := .f32) b (Rect.unit (s := S1x512) ![0, c] ![1, 128] hc)) h (ix2 r q) = b (ix2 0 ⟨c + q.val, hq⟩) := by
  have e : (Rect.unit (s := S1x512) ![0, c] ![1, 128] hc).idx (ix2 0 q) = ix2 0 ⟨c + q.val, hq⟩ := by
    funext i
    refine Fin.ext ?_
    rw [Rect.idx_unit_val]
    fin_cases i <;> rfl
  exact (bcast_at _ h r q).trans (congrArg b e)

/-- The convolution at a place of a piece. -/
theorem cv_row (u : ℕ → Fin 512 → EReal) (w : S4x31x1x128.Idx → EReal) (b : S1x512.Idx → EReal) (p q : Fin 512) (r : Fin 64) (k : Fin 128) {R C : ℕ}
    (hp : p.val = R + r.val) (hq : q.val = C + k.val) (hC : C % 128 = 0) (hC' : C < 512) :
    cv u w b p q = (∑ j : Fin 31, u (r.val + (R + (2 + j.val))) ⟨C + k.val, by omega⟩ * w (ix4 ⟨C / 128, by omega⟩ j 0 k)) + b (ix2 0 ⟨C + k.val, by omega⟩) := by
  have e1 : q = ⟨C + k.val, by omega⟩ := Fin.ext hq
  have e2 : (⟨q.val / 128, by omega⟩ : Fin 4) = ⟨C / 128, by omega⟩ := Fin.ext (by dsimp only; omega)
  have e3 : (⟨q.val % 128, by omega⟩ : Fin 128) = k := Fin.ext (by dsimp only; omega)
  unfold cv
  rw [e2, e3, ← e1]
  refine congrArg₂ (fun x y : EReal => x + y) (Finset.sum_congr rfl fun j _ => ?_) rfl
  rw [show p.val + (2 + j.val) = r.val + (R + (2 + j.val)) by omega]

end Cert.SeqFwd
end
-- ==== Proof.SeqFwdConv.lean ====
/-
  The second result of the kernel at a grid point: all its thirty-two pieces are the convolution.
-/
module

public import proofs.«01_k».proof.Proof.Gen.Kernel8Ideal.Value
public import proofs.«01_k».proof.Proof.SeqFwdTap
public import Idealize.ShloMosaic.Lib.Pipeline.ValueKit
public import Idealize.ShloMosaic.Lib.Pipeline.ReadBack
public import Idealize.ShloMosaic.Lib.Pointwise
public import Idealize.ShloMosaic.Lib.Tactic
public import Idealize.ShloMosaic.Lib.Tactic.CleanTypes

@[expose] public section
set_option maxRecDepth 16384
set_option maxHeartbeats 1000000
noncomputable section
namespace Cert.SeqFwd
open Idealize.ShloMosaic Idealize.ShloMosaic.TcCoe Idealize.SL.Sem
open Cert.Halo Idealize.ShloMosaic.ValueKit Cert.Kernel8Ideal Cert.Kernel8Ideal.Gen
variable (m : (ℓ : Loc nD τ sig) → Buf (Elt Ideal) ℓ)

set_option maxHeartbeats 16000000 in

/-- The convolution's rows, as a tile keeps them. -/
theorem v_at (c : Dev nD) (t : Fin cfg0.N) (p : Fin 512) (q : Fin 512) : (outsAt0 m c t).2 (ix2 p q) = cv (ur m c t) (iblk m c 2 t) (iblk m c 3 t) p q := by
  have hU : View.canon (LU m c t) = U m c t := rfl
  unfold LU at hU
  frame_open at hU
  dsimp only [outsAt0]
  frame_open
  simp only [↓ View.readCov_eq_canon', ↓ hU]
  frame_out
  clear hU
  have hX : ∀ s a b h, View.canon (LU m c t) (ix3 s a b) = _ := U_at m c t
  generalize View.canon (LU m c t) = X at *
  generalize ur m c t = u at *
  generalize iblk m c 2 t = w at *
  generalize iblk m c 3 t = b at *
  canon_tiles p q using View.cover_of_tiledBy _ ![64, 128] (by sl_kernel_rfl) _
  all_goals
    open_payloads
    obtain ⟨r, k, rfl⟩ : ∃ r k, p = ix2 r k := ⟨p 0, p 1, eq_ix2 p⟩
    simp (disch := omega) only [addf_at, tap hX, zero_at]
    first
      | refine Eq.trans ?_ (cv_row u w b p q r k q0 q1 (by decide) (by decide)).symm
      | refine Eq.trans ?_ (cv_row u w b p q r k (q0.trans (Nat.zero_add _).symm) q1 (by decide) (by decide)).symm
      | refine Eq.trans ?_ (cv_row u w b p q r k q0 (q1.trans (Nat.zero_add _).symm) (by decide) (by decide)).symm
      | refine Eq.trans ?_ (cv_row u w b p q r k (q0.trans (Nat.zero_add _).symm) (q1.trans (Nat.zero_add _).symm) (by decide) (by decide)).symm
    rw [sum31]
    exact congrArg₂ (fun x y : EReal => x + y) rfl (bias_at b _ _ _ r k _)
end Cert.SeqFwd
end
-- ==== Proof.LayerNorm.lean ====
/-
  The layer norm on one row of 512, over the extended reals, and its gradient: the form the kernel writes out by hand and the
  form that differentiating the norm's forward lines gives are equal when the row and its cotangent are finite.
-/
module

public import proofs.«01_k».proof.Proof.Logistic

@[expose] public section

noncomputable section

namespace Cert.LayerNorm

open Idealize.ShloMosaic Cert.Rms Cert.Logistic
open scoped BigOperators

/-- The number of columns, 512, as the literal the programs divide by. -/
theorem width_eq : Ideal.ofBits .f32 0x44000000#32 = ((512 : ℝ) : EReal) := by
  simp [Ideal.ofBits, Ideal.ieee]; norm_num [← EReal.coe_mul]
/-- The norm's small constant is a positive real. -/
theorem eps_pos : ∃ e : ℝ, 0 < e ∧ Ideal.ofBits .f32 0x3727C5AC#32 = (e : EReal) := by
  refine ⟨(10995116 : ℝ) * 2 ^ (-40 : ℤ), by positivity, ?_⟩
  simp [Ideal.ofBits, Ideal.ieee]

abbrev W : EReal := Ideal.ofBits .f32 0x44000000#32
abbrev E : EReal := Ideal.ofBits .f32 0x3727C5AC#32
abbrev TWO : EReal := Ideal.ofBits .f32 0x40000000#32

abbrev Row := Fin 512 → EReal

/-- The mean of a row. -/
def mean (x : Row) : EReal := Ideal.div (∑ k, x k) W
/-- The row with its mean taken off. -/
def cen (v : Row) (k : Fin 512) : EReal := v k - mean v
/-- The variance plus the small constant. -/
def vr (v : Row) : EReal := mean (fun k => cen v k * cen v k) + E
/-- The row's scale. -/
def sc (v : Row) : EReal := Ideal.rsqrt (vr v)
/-- The normed row, before its weights. -/
def xh (v : Row) (k : Fin 512) : EReal := cen v k * sc v
/-- The layer norm. -/
def ln (v g b : Row) (k : Fin 512) : EReal := xh v k * g k + b k
/-- The cotangent of the layer norm under the gate that follows it. -/
def dln (v g b dy : Row) (k : Fin 512) : EReal := dy k * dsilu (ln v g b k)

/-- The gradient with respect to the row, as the kernel writes it. -/
def byHand (v gy : Row) (k : Fin 512) : EReal :=
  sc v * (gy k - mean gy - xh v k * mean fun k => gy k * xh v k)
/-- The part that differentiating the variance gives. -/
def ofVar (v gy : Row) (k : Fin 512) : EReal :=
  Ideal.div ((∑ k, cen v k * gy k) * (NH * Ideal.div (sc v) (vr v))) W * (TWO * cen v k)
/-- The gradient with respect to the row, as differentiating the forward lines gives it. -/
def pulled (v gy : Row) (k : Fin 512) : EReal :=
  gy k * sc v + ofVar v gy k + Ideal.div ((∑ k, -(gy k * sc v)) + ∑ k, -ofVar v gy k) W

theorem mean_coe (X : Fin 512 → ℝ) : mean (fun k => (X k : EReal)) = (((∑ k, X k) / 512 : ℝ) : EReal) := by
  unfold mean W
  rw [coe_sum, width_eq, div_coe_coe (by norm_num)]

theorem fin_mean {x : Row} (h : ∀ k, Fin' (x k)) : Fin' (mean x) := by
  choose X hX using h
  obtain rfl : x = fun k => (X k : EReal) := funext hX
  exact ⟨_, mean_coe X⟩
theorem fin_cen {v : Row} (h : ∀ k, Fin' (v k)) (k : Fin 512) : Fin' (cen v k) := fin_sub (h k) (fin_mean h)

/-- On a finite row the variance plus the constant is a positive real, and the row's scale is one over its root. -/
theorem vr_sc {v : Row} (h : ∀ k, Fin' (v k)) : ∃ w : ℝ, 0 < w ∧ vr v = (w : EReal)
    ∧ sc v = (((Real.sqrt w)⁻¹ : ℝ) : EReal) := by
  obtain ⟨e, he, hE⟩ := eps_pos
  choose D hD using fin_cen h
  have hm : vr v = (((∑ k, D k * D k) / 512 + e : ℝ) : EReal) := by
    unfold vr E
    simp only [hD, ← EReal.coe_mul]
    rw [hE, mean_coe, ← EReal.coe_add]
  have hv : 0 < (∑ k, D k * D k) / 512 + e := by
    have : 0 ≤ ∑ k, D k * D k := Finset.sum_nonneg fun k _ => mul_self_nonneg _
    positivity
  refine ⟨_, hv, hm, ?_⟩
  unfold sc
  rw [hm, Ideal.rsqrt_coe, if_neg (not_lt.mpr hv.le), if_neg hv.ne']

theorem fin_sc {v : Row} (h : ∀ k, Fin' (v k)) : Fin' (sc v) := by
  obtain ⟨w, _, _, h⟩ := vr_sc h
  exact ⟨_, h⟩
theorem fin_xh {v : Row} (h : ∀ k, Fin' (v k)) (k : Fin 512) : Fin' (xh v k) := fin_mul (fin_cen h k) (fin_sc h)
theorem fin_ln {v g b : Row} (h : ∀ k, Fin' (v k)) (hg : ∀ k, Fin' (g k)) (hb : ∀ k, Fin' (b k)) (k : Fin 512) :
    Fin' (ln v g b k) := fin_add (fin_mul (fin_xh h k) (hg k)) (hb k)
theorem fin_dln {v g b dy : Row} (h : ∀ k, Fin' (v k)) (hg : ∀ k, Fin' (g k)) (hb : ∀ k, Fin' (b k))
    (hy : ∀ k, Fin' (dy k)) (k : Fin 512) : Fin' (dln v g b dy k) := fin_mul (hy k) (fin_dsilu (fin_ln h hg hb k))

/-- The entries of a finite row with its mean taken off add up to nothing. -/
theorem sum_cen {V D : Fin 512 → ℝ} (h : ∀ k, cen (fun k => (V k : EReal)) k = (D k : EReal)) : ∑ k, D k = 0 := by
  have hD : ∀ k, D k = V k - (∑ k, V k) / 512 := fun k => by
    have := h k
    unfold cen at this
    rw [mean_coe, ← EReal.coe_sub] at this
    exact (EReal.coe_injective this).symm
  simp only [hD, Finset.sum_sub_distrib, Finset.sum_const, Finset.card_univ, Fintype.card_fin, nsmul_eq_mul]
  norm_num
  ring

/-- The two forms of the gradient agree on finite rows. -/
theorem byHand_eq {v gy : Row} (hv : ∀ k, Fin' (v k)) (hg : ∀ k, Fin' (gy k)) (j : Fin 512) :
    byHand v gy j = pulled v gy j := by
  obtain ⟨w, hw, hm, hr⟩ := vr_sc hv
  choose D hD using fin_cen hv
  choose V hV using hv
  choose G hG using hg
  obtain rfl : v = fun k => (V k : EReal) := funext hV
  obtain rfl : gy = fun k => (G k : EReal) := funext hG
  have h0 := sum_cen hD
  unfold byHand pulled ofVar xh
  rw [hr, hm]
  simp only [hD]
  unfold NH TWO W
  rw [LayerNorm.width_eq, neg_half_eq, two_eq]
  simp only [← EReal.coe_mul, ← EReal.coe_neg]
  rw [mean_coe, mean_coe, div_coe_coe hw.ne']
  simp only [coe_sum, ← EReal.coe_mul]
  rw [div_coe_coe (by norm_num)]
  simp only [← EReal.coe_mul, ← EReal.coe_neg, coe_sum, ← EReal.coe_add]
  rw [div_coe_coe (by norm_num)]
  simp only [← EReal.coe_mul, ← EReal.coe_sub, ← EReal.coe_add]
  congr 1
  have hs : (Real.sqrt w)⁻¹ / w = (Real.sqrt w)⁻¹ * ((Real.sqrt w)⁻¹ * (Real.sqrt w)⁻¹) := by
    rw [← mul_inv, Real.mul_self_sqrt hw.le, div_eq_mul_inv]
  rw [hs]
  generalize (Real.sqrt w)⁻¹ = s
  have h1 : ∑ k, G k * (D k * s) = (∑ k, D k * G k) * s := by
    rw [Finset.sum_mul]; exact Finset.sum_congr rfl fun k _ => by ring
  have h2 : ∑ k, -(G k * s) = -((∑ k, G k) * s) := by
    rw [Finset.sum_neg_distrib, Finset.sum_mul]
  have h3 : ∀ c : ℝ, ∑ k, -(c * (2 * D k)) = 0 := fun c => by
    have : ∀ k, -(c * (2 * D k)) = (-(2 * c)) * D k := fun k => by ring
    simp only [this]
    rw [← Finset.mul_sum, h0, mul_zero]
  rw [h1, h2, h3]
  ring

end Cert.LayerNorm

end
-- ==== Proof.SeqFwdPool.lean ====
/-
  The first result of the kernel at a grid point: the gated layer norm of the convolution beside the four pooled groups.
-/
module

public import proofs.«01_k».proof.Proof.SeqFwdRows
public import proofs.«01_k».proof.Proof.LayerNorm

@[expose] public section
set_option maxRecDepth 16384
set_option maxHeartbeats 1000000
noncomputable section
namespace Cert.SeqFwd
open Idealize.ShloMosaic Idealize.ShloMosaic.TcCoe Idealize.SL.Sem
open Cert.Halo Idealize.ShloMosaic.ValueKit Cert.Kernel8Ideal Cert.Kernel8Ideal.Gen Cert.LayerNorm Cert.Logistic
variable (m : (ℓ : Loc nD τ sig) → Buf (Elt Ideal) ℓ)

/-- Row `n` of the pooled columns of a tile, the last rows of the tile before it above them. -/
def pr (c : Dev nD) (t : Fin cfg0.N) : ℕ → Fin 512 → EReal :=
  two (fun a b => k0_pay3 (grid0.coords t) (View.ld (iblk m c 1 t) (Rect.unit ![0, 1024] ![32, 512] inb_S32x1536_S32x512_0_1024)) (ix2 a b))
    (fun a b => k0_pay6 (View.ld (iblk m c 0 t) (Rect.unit ![0, 1024] ![512, 512] inb_S512x1536_S512x512_0_1024)) (ix2 a b))

/-- The scratch of the pooled rows, read back. -/
theorem Pp_at (c : Dev nD) (t : Fin cfg0.N) (a : Fin 544) (b : Fin 512) : Pp m c t (ix2 a b) = pr m c t a.val b := by
  unfold Pp LP
  frame_open
  simp only [Memref.IsWhole.read_unread, View.readAt_eq_ld]
  exact canon2 (n := 544) (w := 512) (h := 32) (l := 512) _ _ _ _ rfl (ix2 a b)

/-- The layer norm and its gate. -/
theorem ln_at (V : Vec Ideal S512x512 .f32) (g b : Vec Ideal S1x512 .f32) (r q : Fin 512) :
    k0_pay457 V g b (ix2 r q) = silu (ln (fun q => V (ix2 r q)) (fun q => g (ix2 0 q)) (fun q => b (ix2 0 q)) q) := by
  pointwise [k0_pay457, ln, xh, cen, sc, vr, mean, silu, sg]
  simp only [zero_sub]

/-- How many rows a window of `w` rows holds at row `I`. -/
def cnt (I w : ℕ) : EReal := FloatOps.sitofp (F := Ideal) .f32 (IntOp.minsi (IntOp.addi (BitVec.ofNat 32 I) 1#32) (BitVec.ofNat 32 w))

/-- The row number of a tile's row, as the kernel counts it. -/
theorem word (t r : ℕ) : IntOp.addi (Scalar.muli (BitVec.ofNat 32 t) 512#32) (BitVec.ofNat 32 r) = BitVec.ofNat 32 (t * 512 + r) := by
  simp [IntOp.addi, Scalar.muli, IntOp.muli, BitVec.ofNat_add, BitVec.ofNat_mul]

section Pools
variable (t : ℕ) (w : Vec Ideal S1x128x128 .f32) (s : Vec Ideal S1x128 .f32) (r : Fin 512) (k : Fin 128)

/-- A pooled row, less the row, through the group's weights and scale. -/
def pool (S tok : Fin 128 → EReal) (n : EReal) (w : Fin 128 → Fin 128 → EReal) (s : Fin 128 → EReal) (k : Fin 128) : EReal :=
  (∑ x : Fin 128, (Ideal.div (S x) n - tok x) * w x k) * s k

/-- The four groups as the kernel computes them: windows of two, four, eight and sixteen rows. -/
theorem pool2 (p0 p1 : Vec Ideal S512x128 .f32) :
    k0_pay461 (k0_pay459 (BitVec.ofNat 32 t)) (k0_pay460) p0 p1 w s (ix2 r k)
      = pool (fun x => p0 (ix2 r x) + p1 (ix2 r x)) (fun x => p0 (ix2 r x)) (cnt (t * 512 + r.val) 2) (fun x k => w (ix3 0 x k)) (fun k => s (ix2 0 k)) k := by
  unfold cnt; rw [← word]; pointwise [k0_pay461, k0_pay459, k0_pay458, k0_pay460, pool]

theorem pool4 (p0 p1 p2 p3 : Vec Ideal S512x128 .f32) :
    k0_pay463 (k0_pay462 (k0_pay458 (BitVec.ofNat 32 t)) p0 p1 p2 p3) w s (ix2 r k)
      = pool (fun x => p0 (ix2 r x) + p1 (ix2 r x) + p2 (ix2 r x) + p3 (ix2 r x)) (fun x => p0 (ix2 r x)) (cnt (t * 512 + r.val) 4)
        (fun x k => w (ix3 0 x k)) (fun k => s (ix2 0 k)) k := by
  unfold cnt; rw [← word]; pointwise [k0_pay463, k0_pay462, k0_pay458, pool]

theorem pool8 (p0 p1 p2 p3 p4 p5 p6 p7 : Vec Ideal S512x128 .f32) :
    k0_pay465 (k0_pay464 (k0_pay458 (BitVec.ofNat 32 t)) p0 p1 p2 p3 p4 p5 p6 p7) w s (ix2 r k)
      = pool (fun x => p0 (ix2 r x) + p1 (ix2 r x) + p2 (ix2 r x) + p3 (ix2 r x) + p4 (ix2 r x) + p5 (ix2 r x) + p6 (ix2 r x) + p7 (ix2 r x))
        (fun x => p0 (ix2 r x)) (cnt (t * 512 + r.val) 8) (fun x k => w (ix3 0 x k)) (fun k => s (ix2 0 k)) k := by
  unfold cnt; rw [← word]; pointwise [k0_pay465, k0_pay464, k0_pay458, pool]

theorem pool16 (p0 p1 p2 p3 p4 p5 p6 p7 p8 p9 p10 p11 p12 p13 p14 p15 : Vec Ideal S512x128 .f32) :
    k0_pay1 (k0_pay466 (k0_pay458 (BitVec.ofNat 32 t))) p0 (k0_pay467 p0 p1 p2 p3 p4 p5 p6 p7 p8) p9 p10 p11 p12 p13 p14 p15 w s (ix2 r k)
      = pool (fun x => p0 (ix2 r x) + p1 (ix2 r x) + p2 (ix2 r x) + p3 (ix2 r x) + p4 (ix2 r x) + p5 (ix2 r x) + p6 (ix2 r x) + p7 (ix2 r x)
          + p8 (ix2 r x) + p9 (ix2 r x) + p10 (ix2 r x) + p11 (ix2 r x) + p12 (ix2 r x) + p13 (ix2 r x) + p14 (ix2 r x) + p15 (ix2 r x))
        (fun x => p0 (ix2 r x)) (cnt (t * 512 + r.val) 16) (fun x k => w (ix3 0 x k)) (fun k => s (ix2 0 k)) k := by
  unfold cnt; rw [← word]; pointwise [k0_pay1, k0_pay466, k0_pay467, k0_pay458, pool]
end Pools

/-- Equal rows, weights and scales pool equally. -/
theorem pool_congr {S S' tok tok' : Fin 128 → EReal} {n : EReal} {w w' : Fin 128 → Fin 128 → EReal} {s s' : Fin 128 → EReal} {k : Fin 128}
    (hS : ∀ x, S x = S' x) (ht : ∀ x, tok x = tok' x) (hw : ∀ x k, w x k = w' x k) (hs : ∀ k, s k = s' k) :
    pool S tok n w s k = pool S' tok' n w' s' k := by
  rw [funext hS, funext ht, funext fun x => funext (hw x), funext hs]

/-- The windows of the four groups. -/
def win (g : Fin 4) : ℕ := 2 * 2 ^ g.val

/-- Column `x` of group `g`. -/
def col (g : Fin 4) (x : Fin 128) : Fin 512 := ⟨128 * g.val + x.val, by omega⟩

/-- Row `p` of a tile's group `g`, its rows `P` having the halo above them. -/
def grp (P : ℕ → Fin 512 → EReal) (w : S4x128x128.Idx → EReal) (s : S1x512.Idx → EReal) (t : ℕ) (g : Fin 4) (p : Fin 512) (k : Fin 128) : EReal :=
  pool (fun x => ∑ d ∈ Finset.range (win g), P (32 - d + p.val) (col g x)) (fun x => P (32 + p.val) (col g x)) (cnt (t * 512 + p.val) (win g))
    (fun x k => w (ix3 g x k)) (fun k => s (ix2 0 (col g k))) k

/-- A place in a group's columns. -/
theorem place {p : Fin 512} {q : Fin 1024} (g : Fin 4) (r : Fin 512) (k : Fin 128) {C : ℕ} (q0 : p.val = r.val) (q1 : q.val = C + k.val)
    (hC : C = 512 + 128 * g.val) : (ix2 r ⟨512 + 128 * g.val + k.val, by omega⟩ : S512x1024.Idx) = ix2 p q :=
  congrArg₂ ix2 (Fin.ext q0.symm) (Fin.ext (by dsimp only; omega))

/-- A load from the scratch of the pooled rows. -/
theorem row_at {Q : S544x512.Idx → EReal} {P : ℕ → Fin 512 → EReal} (hQ : ∀ a b, Q (ix2 a b) = P a.val b) (a c : ℕ)
    (hi : ∀ i, (![a, c] : Fin 2 → ℕ) i + (![512, 128] : Fin 2 → ℕ) i ≤ S544x512.size i) (r : Fin 512) (x : Fin 128) (hx : c + x.val < 512) :
    Q ((Rect.unit (s := S544x512) ![a, c] ![512, 128] hi).idx (ix2 r x)) = P (a + r.val) ⟨c + x.val, hx⟩ := by
  have ha : a + 512 ≤ 544 := hi 0
  have e : (Rect.unit (s := S544x512) ![a, c] ![512, 128] hi).idx (ix2 r x) = ix2 ⟨a + r.val, by omega⟩ ⟨c + x.val, hx⟩ := by
    funext i
    refine Fin.ext ?_
    rw [Rect.idx_unit_val]
    fin_cases i <;> rfl
  exact (congrArg Q e).trans (hQ _ _)

/-- The load of a group's weights. -/
theorem ld_w (w : S4x128x128.Idx → EReal) (g : ℕ) (hi : ∀ i, (![g, 0, 0] : Fin 3 → ℕ) i + (![1, 128, 128] : Fin 3 → ℕ) i ≤ S4x128x128.size i)
    (x k : Fin 128) (hg : g < 4) :
    View.ld (Val := Elt Ideal) (e' := .f32) w (Rect.unit (s := S4x128x128) ![g, 0, 0] ![1, 128, 128] hi) (ix3 0 x k) = w (ix3 ⟨g, hg⟩ x k) := by
  refine congrArg w (funext fun i => Fin.ext ?_)
  rw [Rect.idx_unit_val]
  fin_cases i
  · rfl
  · exact Nat.zero_add _
  · exact Nat.zero_add _

/-- The load of a group's scale. -/
theorem ld_s (s : S1x512.Idx → EReal) (c : ℕ) (hi : ∀ i, (![0, c] : Fin 2 → ℕ) i + (![1, 128] : Fin 2 → ℕ) i ≤ S1x512.size i)
    (k : Fin 128) (hk : c + k.val < 512) :
    View.ld (Val := Elt Ideal) (e' := .f32) s (Rect.unit (s := S1x512) ![0, c] ![1, 128] hi) (ix2 0 k) = s (ix2 0 ⟨c + k.val, hk⟩) := by
  refine congrArg s (funext fun i => Fin.ext ?_)
  rw [Rect.idx_unit_val]
  fin_cases i <;> rfl

/-- Sums over the windows, written out. -/
theorem sum_two (f : ℕ → EReal) : ∑ d ∈ Finset.range 2, f d = f 0 + f 1 := by
  simp only [Finset.sum_range_succ, Finset.sum_range_zero, zero_add]
theorem sum_four (f : ℕ → EReal) : ∑ d ∈ Finset.range 4, f d = f 0 + f 1 + f 2 + f 3 := by
  simp only [Finset.sum_range_succ, Finset.sum_range_zero, zero_add]
theorem sum_eight (f : ℕ → EReal) : ∑ d ∈ Finset.range 8, f d = f 0 + f 1 + f 2 + f 3 + f 4 + f 5 + f 6 + f 7 := by
  simp only [Finset.sum_range_succ, Finset.sum_range_zero, zero_add]
theorem sum_sixteen (f : ℕ → EReal) : ∑ d ∈ Finset.range 16, f d = f 0 + f 1 + f 2 + f 3 + f 4 + f 5 + f 6 + f 7
    + f 8 + f 9 + f 10 + f 11 + f 12 + f 13 + f 14 + f 15 := by
  simp only [Finset.sum_range_succ, Finset.sum_range_zero, zero_add]

/-- The pieces the point leaves in the second result's block. -/
abbrev LV (c : Dev nD) (t : Fin cfg0.N) := (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)).2.1

/-- What they leave there. -/
def Vv (c : Dev nD) (t : Fin cfg0.N) : S512x512.Idx → EReal := View.canon (LV m c t)

/-- The second result's block is what its pieces leave. -/
theorem Vv_eq (c : Dev nD) (t : Fin cfg0.N) : Vv m c t = (outsAt0 m c t).2 := by
  unfold Vv LV
  dsimp only [outsAt0]
  unfold out0_A_9
  frame_out

/-- The load of that block, whole. -/
theorem ld_v (V : S512x512.Idx → EReal) (hi : ∀ i, (![0, 0] : Fin 2 → ℕ) i + (![512, 512] : Fin 2 → ℕ) i ≤ S512x512.size i) :
    (fun j => V ((Rect.unit (s := S512x512) ![0, 0] ![512, 512] hi).idx j)) = V := by
  funext j
  refine congrArg V (funext fun i => Fin.ext ?_)
  rw [Rect.idx_unit_val]
  fin_cases i <;> exact Nat.zero_add _

set_option maxHeartbeats 4000000 in

/-- The first result's rows, as a tile keeps them: anything that is the gated norm on the first half of the columns and the
    pooled groups on the second. -/
theorem y_at (c : Dev nD) (t : Fin cfg0.N) (X : S512x1024.Idx → EReal) (p : Fin 512) (q : Fin 1024)
    (h0 : ∀ p q : Fin 512, X (ix2 p ⟨q.val, by omega⟩)
      = silu (ln (fun q => Vv m c t (ix2 p q)) (fun q => iblk m c 4 t (ix2 0 q)) (fun q => iblk m c 5 t (ix2 0 q)) q))
    (h1 : ∀ (g : Fin 4) (p : Fin 512) (k : Fin 128), X (ix2 p ⟨512 + 128 * g.val + k.val, by omega⟩)
      = grp (pr m c t) (iblk m c 6 t) (iblk m c 7 t) (grid0.coords t 0).val g p k) :
    (outsAt0 m c t).1 (ix2 p q) = X (ix2 p q) := by
  have hV : View.canon (LV m c t) = Vv m c t := rfl
  unfold LV at hV
  frame_open at hV
  have hP : View.canon (LP m c t) = Pp m c t := rfl
  unfold LP at hP
  frame_open at hP
  dsimp only [outsAt0]
  frame_open
  simp only [↓ View.readCov_eq_canon', ↓ hV, ↓ hP]
  frame_out
  clear hV hP
  have hQ : ∀ a b, View.canon (LP m c t) (ix2 a b) = _ := Pp_at m c t
  have hV : View.canon (LV m c t) = Vv m c t := rfl
  generalize View.canon (LP m c t) = Q at *
  generalize View.canon (LV m c t) = V at *
  obtain rfl := hV
  generalize pr m c t = P at *
  generalize iblk m c 6 t = w at *
  generalize iblk m c 7 t = s at *
  generalize iblk m c 4 t = g at *
  generalize iblk m c 5 t = b at *
  canon_tiles p q using View.cover_of_tiledBy _ ![512, 128] (by sl_kernel_rfl) _
  all_goals obtain ⟨r, k, rfl⟩ : ∃ r k, p = ix2 r k := ⟨p 0, p 1, eq_ix2 p⟩
  · refine Eq.trans ?_ ((h1 3 r k).symm.trans (congrArg X (place 3 r k q0 q1 rfl)))
    refine (pool16 _ _ _ _ _ _ _ _ _ _ _ _ _ _ _ _ _ _ _ _ _).trans (pool_congr (fun x => ?_) (fun x => ?_) (fun x k => ?_) (fun k => ?_))
    · refine Eq.trans ?_ (sum_sixteen _).symm
      simp (disch := omega) only [row_at hQ]
      rfl
    · exact row_at hQ _ _ _ _ _ (by omega)
    · exact ld_w _ _ _ _ _ (by decide)
    · exact ld_s _ _ _ _ (by omega)
  · refine Eq.trans ?_ ((h1 2 r k).symm.trans (congrArg X (place 2 r k q0 q1 rfl)))
    refine (pool8 _ _ _ _ _ _ _ _ _ _ _ _ _).trans (pool_congr (fun x => ?_) (fun x => ?_) (fun x k => ?_) (fun k => ?_))
    · refine Eq.trans ?_ (sum_eight _).symm
      simp (disch := omega) only [row_at hQ]
      rfl
    · exact row_at hQ _ _ _ _ _ (by omega)
    · exact ld_w _ _ _ _ _ (by decide)
    · exact ld_s _ _ _ _ (by omega)
  · refine Eq.trans ?_ ((h1 1 r k).symm.trans (congrArg X (place 1 r k q0 q1 rfl)))
    refine (pool4 _ _ _ _ _ _ _ _ _).trans (pool_congr (fun x => ?_) (fun x => ?_) (fun x k => ?_) (fun k => ?_))
    · refine Eq.trans ?_ (sum_four _).symm
      simp (disch := omega) only [row_at hQ]
      rfl
    · exact row_at hQ _ _ _ _ _ (by omega)
    · exact ld_w _ _ _ _ _ (by decide)
    · exact ld_s _ _ _ _ (by omega)
  · refine Eq.trans ?_ ((h1 0 r k).symm.trans (congrArg X (place 0 r k q0 q1 rfl)))
    refine (pool2 _ _ _ _ _ _ _).trans (pool_congr (fun x => ?_) (fun x => ?_) (fun x k => ?_) (fun k => ?_))
    · refine Eq.trans ?_ (sum_two _).symm
      simp (disch := omega) only [row_at hQ]
      rfl
    · exact row_at hQ _ _ _ _ _ (by omega)
    · exact ld_w _ _ _ _ _ (by decide)
    · exact ld_s _ _ _ _ (by omega)
  · refine (ln_at _ _ _ _ _).trans ((congrArg (fun V : S512x512.Idx → EReal => silu (ln (fun q => V (ix2 r q)) _ _ k)) (ld_v (Vv m c t) _)).trans ?_)
    exact (h0 r k).symm.trans (congrArg X (congrArg₂ ix2 (Fin.ext q0.symm) (Fin.ext q1.symm)))
end Cert.SeqFwd
end
-- ==== Proof.Window.lean ====
/-
  Sums over a window of the rows before a row: the host's running sum read at an index, and the difference of two running sums.
-/
module

public import proofs.«01_k».proof.Proof.Rms
public import Idealize.ShloMosaic.Lib.Routing.OpsOne

@[expose] public section

noncomputable section

namespace Cert.Window

open Idealize.ShloMosaic Idealize.ShloMosaic.Routing Cert.Rms
open scoped BigOperators

/-- Row `n` of a column with `h` rows of zeros above it. -/
def ext {T : ℕ} (x : Fin T → EReal) (h n : ℕ) : EReal :=
  if n < h then 0 else if p : n - h < T then x ⟨n - h, p⟩ else 0

theorem ext_shift {T : ℕ} (x : Fin T → EReal) (h n d : ℕ) : ext x (h + d) (n + d) = ext x h n := by
  unfold ext
  by_cases p : n < h
  · rw [if_pos p, if_pos (by omega)]
  · have e : n + d - (h + d) = n - h := by omega
    rw [if_neg p, if_neg (by omega)]
    simp only [e]

/-- A left fold of sums is the sum. -/
theorem foldl_sum {N : ℕ} (g : Fin N → EReal) : List.foldl (fun r n => r + g n) 0 (List.finRange N) = ∑ n, g n := by
  rw [Fin.sum_univ_def, List.sum_eq_foldl, List.foldl_map]

/-- The rows of a window that reaches `m` rows above the first one. -/
theorem sum_reach (f : ℕ → EReal) (m j : ℕ) (h : j ≤ m) :
    ∑ n ∈ Finset.range (m + 1), (if m ≤ j + n then f (j + n - m) else 0) = ∑ i ∈ Finset.range (j + 1), f i := by
  obtain ⟨d, rfl⟩ : ∃ d, m = d + j := ⟨m - j, by omega⟩
  rw [show d + j + 1 = d + (j + 1) from by omega, Finset.sum_range_add, Finset.sum_eq_zero, zero_add]
  · refine Finset.sum_congr rfl fun i _ => ?_
    rw [if_pos (by omega)]
    congr 1
    omega
  · intro n hn
    have := Finset.mem_range.mp hn
    rw [if_neg (by omega)]

/-- The host's running sum down a column. -/
theorem cumsum_at {R Rm1 C : ℕ} (hR : Rm1 + 1 = R) (x : (shape2 R C).Idx → EReal) (init : EReal) (hi : init = 0)
    (h : (shape2 R C).ReduceWindows (![R, 1] : Fin 2 → ℕ) ![1, 1] ![Rm1, 0] ![0, 0] (shape2 R C)) (j : Fin R) (c : Fin C) :
    Ideal.hostReduceWindowAdd ![R, 1] ![1, 1] ![Rm1, 0] ![0, 0] h x init (ix2 j c)
      = ∑ i ∈ Finset.range (j.val + 1), ext (fun i => x (ix2 i c)) 0 i := by
  subst hR
  have hj := j.isLt
  have hc := c.isLt
  unfold Ideal.hostReduceWindowAdd Host.reduceWindow
  dsimp only
  rw [hi]
  refine (foldl_sum _).trans ?_
  rw [← sum_reach _ Rm1 j.val (by omega)]
  refine Eq.trans (b := ∑ n : Fin (shape2 (Rm1 + 1) 1).numel,
    if Rm1 ≤ j.val + n.val then ext (fun i => x (ix2 i c)) 0 (j.val + n.val - Rm1) else 0) (Finset.sum_congr rfl fun n _ => ?_) ?_
  swap
  · rw [Fin.sum_univ_eq_sum_range (fun n => if Rm1 ≤ j.val + n then ext (fun i => x (ix2 i c)) 0 (j.val + n - Rm1) else 0), numel_col]
  have hw0 : ((shape2 (Rm1 + 1) 1).rowMajor.symm n 0).val = n.val := by rw [symm_col]; rfl
  have hw1 : ((shape2 (Rm1 + 1) 1).rowMajor.symm n 1).val = 0 := by rw [symm_col]; rfl
  have hn : n.val < Rm1 + 1 := (n.cast (numel_col _)).isLt
  split
  · next hin =>
    have h0 := hin 0
    change Rm1 ≤ j.val * 1 + ((shape2 (Rm1 + 1) 1).rowMajor.symm n 0).val
      ∧ j.val * 1 + ((shape2 (Rm1 + 1) 1).rowMajor.symm n 0).val - Rm1 < Rm1 + 1 at h0
    rw [hw0] at h0
    rw [if_pos (by omega), ext, if_neg (Nat.not_lt_zero _), dif_pos (by omega)]
    refine congrArg x (funext fun a => Fin.ext ?_)
    match a with
    | ⟨0, _⟩ =>
      show j.val * 1 + ((shape2 (Rm1 + 1) 1).rowMajor.symm n 0).val - Rm1 = j.val + n.val - Rm1 - 0
      rw [hw0]
      omega
    | ⟨1, _⟩ =>
      show c.val * 1 + ((shape2 (Rm1 + 1) 1).rowMajor.symm n 1).val - 0 = c.val
      rw [hw1]
      omega
  · next hin =>
    rw [if_neg fun hle => hin fun a => by
      match a with
      | ⟨0, _⟩ =>
        show Rm1 ≤ j.val * 1 + ((shape2 (Rm1 + 1) 1).rowMajor.symm n 0).val
          ∧ j.val * 1 + ((shape2 (Rm1 + 1) 1).rowMajor.symm n 0).val - Rm1 < Rm1 + 1
        rw [hw0]
        omega
      | ⟨1, _⟩ =>
        show 0 ≤ c.val * 1 + ((shape2 (Rm1 + 1) 1).rowMajor.symm n 1).val ∧ c.val * 1 + ((shape2 (Rm1 + 1) 1).rowMajor.symm n 1).val - 0 < C
        rw [hw1]
        omega]

/-- The sum of the last `w` rows is the difference of the running sums, over the reals. -/
theorem real_window (E : ℕ → ℝ) (I w : ℕ) :
    ∑ d ∈ Finset.range w, (if I < d then 0 else E (I - d))
      = ∑ i ∈ Finset.range (I + 1), E i - if I < w then 0 else ∑ i ∈ Finset.range (I + 1 - w), E i := by
  induction w with
  | zero => simp
  | succ w ih =>
    rw [Finset.sum_range_succ, ih]
    rcases lt_trichotomy I w with h | h | h
    · rw [if_pos h, if_pos h, if_pos (by omega)]; ring
    · subst h
      rw [if_neg (lt_irrefl _), if_neg (lt_irrefl _), if_pos (by omega)]
      simp
    · have e : I + 1 - w = (I - w) + 1 := by omega
      have e' : I + 1 - (w + 1) = I - w := by omega
      rw [if_neg (by omega), if_neg (by omega), if_neg (by omega), e', Finset.sum_range_succ (fun i => E i) I, e, Finset.sum_range_succ (fun i => E i) (I - w)]
      ring

/-- The sum of the last `w` rows of a finite column is the difference of its running sums. -/
theorem window {T : ℕ} {x : Fin T → EReal} (hx : ∀ i, Fin' (x i)) (I w : ℕ) (hw : w ≤ 32) :
    ∑ d ∈ Finset.range w, ext x 32 (I + 32 - d)
      = ∑ i ∈ Finset.range (I + 1), ext x 0 i - if I < w then 0 else ∑ i ∈ Finset.range (I + 1 - w), ext x 0 i := by
  choose X hX using hx
  let E : ℕ → ℝ := fun n => if p : n < T then X ⟨n, p⟩ else 0
  have h0 : ∀ n, ext x 0 n = (E n : EReal) := by
    intro n
    unfold ext
    rw [if_neg (Nat.not_lt_zero n)]
    simp only [Nat.sub_zero, E]
    by_cases p : n < T
    · rw [dif_pos p, dif_pos p, hX]
    · rw [dif_neg p, dif_neg p]; rfl
  have h1 : ∀ d, d ∈ Finset.range w → ext x 32 (I + 32 - d) = ((if I < d then 0 else E (I - d) : ℝ) : EReal) := by
    intro d hd
    have hd := Finset.mem_range.mp hd
    by_cases p : I < d
    · rw [if_pos p, ext, if_pos (by omega)]; rfl
    · rw [if_neg p, ← h0, ← ext_shift x 0 (I - d) 32]
      congr 1 <;> omega
  rw [Finset.sum_congr rfl h1]
  simp only [h0]
  have hs : ∀ (s : Finset ℕ) (f : ℕ → ℝ), (∑ i ∈ s, (f i : EReal)) = ((∑ i ∈ s, f i : ℝ) : EReal) := by
    intro s f
    exact (map_sum (⟨⟨Real.toEReal, rfl⟩, EReal.coe_add⟩ : ℝ →+ EReal) f s).symm
  rw [hs, hs, hs, real_window]
  by_cases p : I < w
  · rw [if_pos p, if_pos p]; simp
  · rw [if_neg p, if_neg p, EReal.coe_sub]

end Cert.Window
end
-- ==== Proof.SeqFwdMath.lean ====
/-
  The blocks of the arguments at a grid point, the two results as functions of whole arrays, and the tile's values as theirs.
-/
module

public import proofs.«01_k».proof.Proof.SeqFwdTap
public import proofs.«01_k».proof.Proof.SeqFwdPool
public import proofs.«01_k».proof.Proof.Window

@[expose] public section
set_option maxRecDepth 16384
set_option maxHeartbeats 1000000
noncomputable section
namespace Cert.SeqFwd
open Idealize.ShloMosaic Idealize.ShloMosaic.TcCoe Idealize.SL.Sem
open Cert.Halo Idealize.ShloMosaic.ValueKit Cert.Kernel8Ideal Cert.Kernel8Ideal.Gen Cert.LayerNorm Cert.Logistic Cert.Window
variable (m : (ℓ : Loc nD τ sig) → Buf (Elt Ideal) ℓ)

/-- The window index maps, decided over the eight grid points. -/
theorem idx : ∀ t : Fin cfg0.N, win0_0.index t = ![t.val, 0] ∧ win0_1.index t = ![t.val * 16 - 1, 0] ∧ win0_2.index t = ![0, 0, 0, 0]
    ∧ win0_3.index t = ![0, 0] ∧ win0_4.index t = ![0, 0] ∧ win0_5.index t = ![0, 0] ∧ win0_6.index t = ![0, 0, 0]
    ∧ win0_7.index t = ![0, 0] ∧ win0_8.index t = ![t.val, 0] ∧ win0_9.index t = ![t.val, 0] :=
  (by decide +kernel : ∀ t : Fin grid0.N, _)

/-- The grid coordinate is the tile's number. -/
theorem coord : ∀ t : Fin cfg0.N, (grid0.coords t 0).val = t.val :=
  (by decide +kernel : ∀ t : Fin grid0.N, _)

variable (c : Dev nD)

/-- The arguments, named. -/
abbrev aZ : Vec Ideal S4096x1536 .f32 := m ((c : Thread nD τ).loc main_arg0)
abbrev aW : Vec Ideal S1x31x512 .f32 := m ((c : Thread nD τ).loc main_arg1)
abbrev aB : Vec Ideal S1x512 .f32 := m ((c : Thread nD τ).loc main_arg2)
abbrev aG : Vec Ideal S1x512 .f32 := m ((c : Thread nD τ).loc main_arg3)
abbrev aL : Vec Ideal S1x512 .f32 := m ((c : Thread nD τ).loc main_arg4)
abbrev aP : Vec Ideal S1x4x128x128 .f32 := m ((c : Thread nD τ).loc main_arg5)
abbrev aS : Vec Ideal S1x512 .f32 := m ((c : Thread nD τ).loc main_arg6)

/-- The weights that the host lays out by groups of columns. -/
theorem V_w (j : Fin 4) (k : Fin 31) (l : Fin 128) : V m c main_v2 (ix4 j k 0 l) = aW m c (ix3 0 k ⟨j.val * 128 + l.val, by omega⟩) := by
  unfold_abbrev_sides; after_results; pointwise

/-- The pooling weights, their first axis dropped. -/
theorem V_p (g : Fin 4) (x k : Fin 128) : V m c main_v3 (ix3 g x k) = aP m c (ix4 0 g x k) := by
  unfold_abbrev_sides; after_results; pointwise

/-- Row `r` of tile `t`, as a row of the arrays. -/
def row (t : Fin cfg0.N) (r : Fin 512) : Fin 4096 :=
  ⟨t.val * 512 + r.val, by have := t.isLt; have : cfg0.N = 8 := N_0; omega⟩

/-- Row `r` of the halo above tile `t`. -/
def above (t : Fin cfg0.N) (r : Fin 32) : Fin 4096 :=
  ⟨(t.val * 16 - 1) * 32 + r.val, by have := t.isLt; have : cfg0.N = 8 := N_0; omega⟩

/-- The blocks that the grid point reads. -/
theorem blk_z (t : Fin cfg0.N) (r : Fin 512) (j : Fin 1536) : iblk m c 0 t (ix2 r j) = aZ m c (ix2 (row t r) j) := by
  blk_ext [iblk, V, idx t, row]
theorem blk_h (t : Fin cfg0.N) (r : Fin 32) (j : Fin 1536) : iblk m c 1 t (ix2 r j) = aZ m c (ix2 (above t r) j) := by
  blk_ext [iblk, V, idx t, above]
theorem blk_w (t : Fin cfg0.N) (j : Fin 4) (k : Fin 31) (l : Fin 128) :
    iblk m c 2 t (ix4 j k 0 l) = aW m c (ix3 0 k ⟨j.val * 128 + l.val, by omega⟩) := by
  rw [← V_w]; blk_ext [iblk, idx t]
theorem blk_b (t : Fin cfg0.N) (q : Fin 512) : iblk m c 3 t (ix2 0 q) = aB m c (ix2 0 q) := by
  blk_ext [iblk, V, idx t]
theorem blk_g (t : Fin cfg0.N) (q : Fin 512) : iblk m c 4 t (ix2 0 q) = aG m c (ix2 0 q) := by
  blk_ext [iblk, V, idx t]
theorem blk_l (t : Fin cfg0.N) (q : Fin 512) : iblk m c 5 t (ix2 0 q) = aL m c (ix2 0 q) := by
  blk_ext [iblk, V, idx t]
theorem blk_p (t : Fin cfg0.N) (g : Fin 4) (x k : Fin 128) : iblk m c 6 t (ix3 g x k) = aP m c (ix4 0 g x k) := by
  rw [← V_p]; blk_ext [iblk, idx t]
theorem blk_s (t : Fin cfg0.N) (q : Fin 512) : iblk m c 7 t (ix2 0 q) = aS m c (ix2 0 q) := by
  blk_ext [iblk, V, idx t]

/-- The halo and the tile's rows are the array's rows, with zeros above its first. -/
theorem two_ext (x : Fin 4096 → EReal) (t : Fin cfg0.N) {H : Fin 32 → Fin 512 → EReal} {B : Fin 512 → Fin 512 → EReal} (q : Fin 512)
    (hH : ∀ a, H a q = if t.val = 0 then 0 else x (above t a)) (hB : ∀ a, B a q = x (row t a)) (n : ℕ) (hn : n < 544) :
    two H B n q = ext x 32 (t.val * 512 + n) := by
  have ht : t.val < 8 := N_0 ▸ t.isLt
  unfold two ext
  by_cases p : n < 32
  · rw [dif_pos p, hH]
    by_cases h : t.val = 0
    · rw [if_pos h, if_pos (by omega)]
    · rw [if_neg h, if_neg (by omega), dif_pos (by omega)]
      refine congrArg x (Fin.ext ?_)
      unfold above
      dsimp only
      omega
  · rw [dif_neg p, dif_pos (by omega), if_neg (by omega), dif_pos (by omega), hB]
    refine congrArg x (Fin.ext ?_)
    unfold row
    dsimp only
    omega

/-- The first tile has zeros above it, any other the rows it loads. -/
theorem first_at (t : Fin 8) (x y : EReal) :
    Scalar.select (Scalar.cmpi .eq (BitVec.ofNat 32 t.val) 0#32) x y = if t.val = 0 then x else y := by
  fin_cases t <;> rfl

/-- The gated halo at a place. -/
theorem pay2_at (t : Fin 8) (x y : Vec Ideal S32x512 .f32) (i : grid0.Coords) (hi : (i 0).val = t.val) (a : Fin 32) (q : Fin 512) :
    k0_pay2 i x y (ix3 0 a q) = if t.val = 0 then 0 else x (ix2 a q) * sg (y (ix2 a q)) := by
  pointwise [k0_pay2, sg]
  rw [hi, first_at, zero_sub]

/-- The gated rows at a place. -/
theorem pay4_at (x y : Vec Ideal S512x512 .f32) (a : Fin 512) (q : Fin 512) :
    k0_pay4 x y (ix2 a q) = x (ix2 a q) * sg (y (ix2 a q)) := by
  pointwise [k0_pay4, sg]
  simp only [zero_sub]

/-- The pooled halo at a place. -/
theorem pay3_at (t : Fin 8) (x : Vec Ideal S32x512 .f32) (i : grid0.Coords) (hi : (i 0).val = t.val) (a : Fin 32) (q : Fin 512) :
    k0_pay3 i x (ix2 a q) = if t.val = 0 then 0 else x (ix2 a q) := by
  pointwise [k0_pay3]
  rw [hi, first_at]

/-- The load of a third of the columns. -/
theorem ld_z (x : S512x1536.Idx → EReal) (o : ℕ) (hi : ∀ i, (![0, o] : Fin 2 → ℕ) i + (![512, 512] : Fin 2 → ℕ) i ≤ S512x1536.size i)
    (a q : Fin 512) (h : o + q.val < 1536) :
    View.ld (Val := Elt Ideal) (e' := .f32) x (Rect.unit (s := S512x1536) ![0, o] ![512, 512] hi) (ix2 a q) = x (ix2 a ⟨o + q.val, h⟩) := by
  refine congrArg x (funext fun i => Fin.ext ?_)
  rw [Rect.idx_unit_val]
  fin_cases i
  · exact Nat.zero_add _
  · rfl

/-- The same of the halo. -/
theorem ld_h (x : S32x1536.Idx → EReal) (o : ℕ) (hi : ∀ i, (![0, o] : Fin 2 → ℕ) i + (![32, 512] : Fin 2 → ℕ) i ≤ S32x1536.size i)
    (a : Fin 32) (q : Fin 512) (h : o + q.val < 1536) :
    View.ld (Val := Elt Ideal) (e' := .f32) x (Rect.unit (s := S32x1536) ![0, o] ![32, 512] hi) (ix2 a q) = x (ix2 a ⟨o + q.val, h⟩) := by
  refine congrArg x (funext fun i => Fin.ext ?_)
  rw [Rect.idx_unit_val]
  fin_cases i
  · exact Nat.zero_add _
  · rfl

/-! ## The results, as functions of the arguments -/

section Results
variable (Z : S4096x1536.Idx → EReal) (W : S1x31x512.Idx → EReal) (B G L : S1x512.Idx → EReal) (P : S1x4x128x128.Idx → EReal) (S : S1x512.Idx → EReal)

/-- The gated rows. -/
def up (q : Fin 512) (i : Fin 4096) : EReal := Z (ix2 i ⟨0 + q.val, by omega⟩) * sg (Z (ix2 i ⟨512 + q.val, by omega⟩))

/-- The pooled columns. -/
def pc (q : Fin 512) (i : Fin 4096) : EReal := Z (ix2 i ⟨1024 + q.val, by omega⟩)

/-- Their convolution. -/
def conv (i : Fin 4096) (q : Fin 512) : EReal := (∑ k : Fin 31, ext (up Z q) 30 (i.val + k.val) * W (ix3 0 k q)) + B (ix2 0 q)

/-- Its layer norm, gated. -/
def gated (i : Fin 4096) (q : Fin 512) : EReal :=
  silu (ln (fun q => conv Z W B i q) (fun q => G (ix2 0 q)) (fun q => L (ix2 0 q)) q)

/-- The pooled rows, through their weights and scale. -/
def pooled (i : Fin 4096) (g : Fin 4) (k : Fin 128) : EReal :=
  pool (fun x => ∑ d ∈ Finset.range (win g), ext (pc Z (col g x)) 32 (i.val + 32 - d)) (fun x => pc Z (col g x) i) (cnt i.val (win g))
    (fun x k => P (ix4 0 g x k)) (fun k => S (ix2 0 (col g k))) k

/-- The first result. -/
def first (j : S4096x1024.Idx) : EReal :=
  if h : (j 1).val < 512 then gated Z W B G L (j 0) ⟨(j 1).val, h⟩
  else pooled Z P S (j 0) ⟨((j 1).val - 512) / 128, by have : (j 1).val < 1024 := (j 1).isLt; omega⟩ ⟨((j 1).val - 512) % 128, by omega⟩

/-- Its gated columns. -/
theorem first_lo (i : Fin 4096) (q : Fin 512) : first Z W B G L P S (ix2 i ⟨q.val, by omega⟩) = gated Z W B G L i q :=
  dif_pos q.isLt

/-- Its pooled columns. -/
theorem first_hi (i : Fin 4096) (g : Fin 4) (k : Fin 128) :
    first Z W B G L P S (ix2 i ⟨512 + 128 * g.val + k.val, by omega⟩) = pooled Z P S i g k := by
  refine (dif_neg (by show ¬(512 + 128 * g.val + k.val < 512); omega)).trans ?_
  refine congrArg₂ (pooled Z P S i) (Fin.ext ?_) (Fin.ext ?_)
  · show (512 + 128 * g.val + k.val - 512) / 128 = g.val
    omega
  · show (512 + 128 * g.val + k.val - 512) % 128 = k.val
    omega
end Results

/-- The tile's gated rows are the array's. -/
theorem ur_at (t : Fin cfg0.N) (n : ℕ) (hn : n < 544) (q : Fin 512) : ur m c t n q = ext (up (aZ m c) q) 32 (t.val * 512 + n) := by
  have ht : t.val < 8 := N_0 ▸ t.isLt
  refine two_ext (up (aZ m c) q) t q (fun a => ?_) (fun a => ?_) n hn
  · refine (pay2_at ⟨t.val, ht⟩ _ _ _ (coord t) a q).trans ?_
    rw [ld_h _ _ _ _ _ (by omega), ld_h _ _ _ _ _ (by omega), blk_h, blk_h]
    rfl
  · refine (pay4_at _ _ a q).trans ?_
    rw [ld_z _ _ _ _ _ (by omega), ld_z _ _ _ _ _ (by omega), blk_z, blk_z]
    rfl

/-- The tile's pooled rows are the array's. -/
theorem pr_at (t : Fin cfg0.N) (n : ℕ) (hn : n < 544) (q : Fin 512) : pr m c t n q = ext (pc (aZ m c) q) 32 (t.val * 512 + n) := by
  have ht : t.val < 8 := N_0 ▸ t.isLt
  refine two_ext (pc (aZ m c) q) t q (fun a => ?_) (fun a => ?_) n hn
  · refine (pay3_at ⟨t.val, ht⟩ _ _ (coord t) a q).trans ?_
    rw [ld_h _ _ _ _ _ (by omega), blk_h]
    rfl
  · refine Eq.trans (b := View.ld (iblk m c 0 t) (Rect.unit ![0, 1024] ![512, 512] inb_S512x1536_S512x512_0_1024) (ix2 a q)) (by pointwise [k0_pay6]) ?_
    rw [ld_z _ _ _ _ _ (by omega), blk_z]
    rfl

/-- A tile's convolution is the array's. -/
theorem cv_eq (t : Fin cfg0.N) (r q : Fin 512) : cv (ur m c t) (iblk m c 2 t) (iblk m c 3 t) r q = conv (aZ m c) (aW m c) (aB m c) (row t r) q := by
  unfold cv conv
  refine congrArg₂ (fun x y : EReal => x + y) (Finset.sum_congr rfl fun k _ => congrArg₂ (fun x y : EReal => x * y) ?_ ?_) (blk_b m c t q)
  · rw [ur_at m c t _ (by omega)]
    refine Eq.trans (congrArg (ext _ 32) ?_) (ext_shift _ 30 ((row t r).val + k.val) 2)
    unfold row
    dsimp only
    omega
  · refine (blk_w m c t _ k _).trans (congrArg (aW m c) (congrArg (ix3 0 k) (Fin.ext ?_)))
    dsimp only
    omega

/-- A tile's pooled rows are the array's. -/
theorem grp_eq (t : Fin cfg0.N) (g : Fin 4) (r : Fin 512) (k : Fin 128) :
    grp (pr m c t) (iblk m c 6 t) (iblk m c 7 t) (grid0.coords t 0).val g r k = pooled (aZ m c) (aP m c) (aS m c) (row t r) g k := by
  have hw : win g ≤ 16 := by fin_cases g <;> decide
  have hx : (row t r).val = t.val * 512 + r.val := rfl
  rw [coord]
  refine pool_congr (fun x => Finset.sum_congr rfl fun d hd => ?_) (fun x => ?_) (fun x k => blk_p m c t g x k) (fun k => blk_s m c t _)
  · have := Finset.mem_range.mp hd
    rw [pr_at m c t _ (by omega)]
    exact congrArg (ext _ 32) (by omega)
  · rw [pr_at m c t _ (by omega), ext, if_neg (by omega), dif_pos (by omega)]
    exact congrArg (pc _ _) (Fin.ext (by dsimp only; omega))

end Cert.SeqFwd
end
-- ==== Proof.SeqFwdFinal.lean ====
/-
  The two result arrays of the kernel after the run.
-/
module

public import proofs.«01_k».proof.Proof.SeqFwdConv
public import proofs.«01_k».proof.Proof.SeqFwdMath

@[expose] public section
set_option maxRecDepth 16384
set_option maxHeartbeats 1000000
noncomputable section
namespace Cert.SeqFwd
open Idealize.ShloMosaic Idealize.ShloMosaic.TcCoe Idealize.SL.Sem
open Cert.Halo Idealize.ShloMosaic.ValueKit Cert.Kernel8Ideal Cert.Kernel8Ideal.Gen Cert.LayerNorm Cert.Logistic Cert.Window
variable (m : (ℓ : Loc nD τ sig) → Buf (Elt Ideal) ℓ) (c : Dev nD)

/-- The second result array after the run: the convolution. -/
theorem final_v : (dats m 0 c).arrAt 9 cfg0.N = fun i => conv (aZ m c) (aW m c) (aB m c) (i 0) (i 1) := by
  refine (dats m 0 c).arrAt_eq_of_covers 9 _ (by decide +kernel) fun t hf y => ?_
  blk_simp
  rw [after0_9]
  have he : ∀ (r : Fin 512) (q : Fin 512),
      ((View.whole main_v4_1).slice (win0_9.rect t)).emb (ix2 r q) = ix2 (row t r) q := fun r q => by
    blk_ext [idx t, row]
  obtain ⟨r, q, rfl⟩ : ∃ (r : Fin 512) (q : Fin 512), y = ix2 r q := ⟨y 0, y 1, eq_ix2 y⟩
  rw [he]
  exact (v_at m c t r q).trans (cv_eq m c t r q)

/-- The first result array after the run: the gated norm beside the pooled groups. -/
theorem final_y : (dats m 0 c).arrAt 8 cfg0.N = first (aZ m c) (aW m c) (aB m c) (aG m c) (aL m c) (aP m c) (aS m c) := by
  refine (dats m 0 c).arrAt_eq_of_covers 8 _ (by decide +kernel) fun t hf y => ?_
  blk_simp
  rw [after0_8]
  have he : ∀ (r : Fin 512) (q : Fin 1024),
      ((View.whole main_v4_0).slice (win0_8.rect t)).emb (ix2 r q) = ix2 (row t r) q := fun r q => by
    blk_ext [idx t, row]
  obtain ⟨r, q, rfl⟩ : ∃ (r : Fin 512) (q : Fin 1024), y = ix2 r q := ⟨y 0, y 1, eq_ix2 y⟩
  rw [he]
  refine y_at m c t (fun j => first (aZ m c) (aW m c) (aB m c) (aG m c) (aL m c) (aP m c) (aS m c) (ix2 (row t (j 0)) (j 1))) r q
    (fun p q => ?_) (fun g p k => ?_)
  · refine (first_lo _ _ _ _ _ _ _ (row t p) q).trans ?_
    rw [gated, Vv_eq]
    refine congrArg silu ?_
    rw [funext fun q => (v_at m c t p q).trans (cv_eq m c t p q), funext fun q => blk_g m c t q, funext fun q => blk_l m c t q]
  · exact (first_hi _ _ _ _ _ _ _ (row t p) g k).trans (grp_eq m c t g p k).symm
end Cert.SeqFwd
end
-- ==== Proof.SeqFwdRef.lean ====
/-
  The two results of the reference: the same functions of the arguments, the windows there being differences of running sums.
-/
module

public import proofs.«01_k».proof.Proof.SeqFwdMath
public import proofs.«01_k».proof.Proof.SeqFwdTap
public import proofs.«01_k».proof.Proof.Gen.Reference8Ideal.Run

@[expose] public section
set_option maxRecDepth 16384
set_option maxHeartbeats 1000000
noncomputable section
namespace Cert.SeqFwd
open Idealize.ShloMosaic Idealize.ShloMosaic.TcCoe Idealize.SL.Sem
open Cert.Halo Idealize.ShloMosaic.StableHlo Idealize.ShloMosaic.ValueKit Cert.Reference8Ideal Cert.Reference8Ideal.Gen Cert.Reference8Ideal.Value Cert.LayerNorm Cert.Logistic Cert.Window
variable (m : (ℓ : Loc nD τ sig) → Buf (Elt Ideal) ℓ) (ρ : Dev nD → PrngReg) (c : Dev nD)

/-- The arguments, named. -/
abbrev rZ : Vec Ideal S4096x1536 .f32 := m ((c : Thread nD τ).loc main_arg0)
abbrev rW : Vec Ideal S1x31x512 .f32 := m ((c : Thread nD τ).loc main_arg1)
abbrev rB : Vec Ideal S1x512 .f32 := m ((c : Thread nD τ).loc main_arg2)
abbrev rG : Vec Ideal S1x512 .f32 := m ((c : Thread nD τ).loc main_arg3)
abbrev rL : Vec Ideal S1x512 .f32 := m ((c : Thread nD τ).loc main_arg4)
abbrev rP : Vec Ideal S1x4x128x128 .f32 := m ((c : Thread nD τ).loc main_arg5)
abbrev rS : Vec Ideal S1x512 .f32 := m ((c : Thread nD τ).loc main_arg6)

/-- The gated rows with thirty rows of zeros above them. -/
theorem v14_at (n : Fin 4126) (q : Fin 512) : res_main_v14 (launchContents m c) (ix2 n q) = ext (up (rZ m c) q) 30 n.val := by
  unfold res_main_v14
  clean_types
  pointwise
  unfold ext
  by_cases h : n.val < 30
  · rw [dif_pos h, if_pos h]
  · rw [dif_neg h, if_neg h, dif_pos (by omega : n.val - 30 < 4096)]
    simp only [up, sg, Nat.zero_add]

/-- The weights, their first axis dropped. -/
theorem v2_at (k : Fin 31) (q : Fin 512) : res_main_v2 (launchContents m c) (ix2 k q) = rW m c (ix3 0 k q) := by
  unfold res_main_v2
  clean_types
  pointwise

/-- The thirty-one shifted products and the bias. -/
theorem v233_at (i : Fin 4096) (q : Fin 512) : res_main_v233 (launchContents m c) (ix2 i q) = conv (rZ m c) (rW m c) (rB m c) i q := by
  unfold res_main_v233 res_main_v188 res_main_v104
  clean_types
  have h2 := v2_at m c
  have h14 := v14_at m c
  generalize res_main_v2 (launchContents m c) = w at *
  generalize res_main_v14 (launchContents m c) = x at *
  pointwise
  simp only [h2, h14]
  have e : conv (rZ m c) (rW m c) (rB m c) i q
      = (∑ k : Fin 31, ext (up (rZ m c) q) 30 (k.val + i.val) * rW m c (ix3 0 k q)) + rB m c (ix2 0 q) := by
    simp only [conv, Nat.add_comm]
  rw [e, sum31, zero_add, show ext (up (rZ m c) q) 30 i.val = ext (up (rZ m c) q) 30 ((0 : Fin 31).val + i.val) from congrArg _ (Nat.zero_add _).symm]
  rfl

/-- The sum of a column's rows up to one of them. -/
def cs (f : Fin 4096 → EReal) (n : ℕ) : EReal := ∑ i ∈ Finset.range (n + 1), ext f 0 i

/-- The running sum of a group. -/
theorem sums (s : Vec Ideal S4096x128 .f32) (f : Fin 128 → Fin 4096 → EReal) (hs : ∀ i x, s (ix2 i x) = f x i)
    (h : S4096x128.ReduceWindows ![4096, 1] ![1, 1] ![4095, 0] ![0, 0] S4096x128) (i : Fin 4096) (x : Fin 128) :
    Host.reduceWindowAdd (F := Ideal) ![4096, 1] ![1, 1] ![4095, 0] ![0, 0] s (broadcastInDim S_ ![] bcast_S_S_ (constant S_ .f32 0x00000000#32)) h h_S_ (ix2 i x)
      = cs (f x) i.val := by
  have e : (fun i => s (ix2 i x)) = f x := funext fun i => hs i x
  have z : (broadcastInDim S_ ![] bcast_S_S_ (constant (F := Ideal) S_ .f32 0x00000000#32)) = fun _ => (0 : EReal) := by
    funext j
    pointwise
  rw [z, cs, ← e]
  have k := cumsum_at (R := 4096) (Rm1 := 4095) (C := 128) (by norm_num) s 0 rfl h i x
  generalize (fun i => s (ix2 i x)) = f' at k ⊢
  refine Eq.trans ?_ k
  unfold Host.reduceWindowAdd
  rfl

/-- The padding value of the running sum. -/
theorem pad_zero : FloatOps.sitofp (F := Ideal) FTy.f32 (0#32) = (0 : EReal) := by
  show ((((0#32 : BitVec 32).toInt : ℝ)) : EReal) = 0
  simp

/-- A running sum less the one a window earlier, padded above, is the sum over the window: true of finite rows. -/
theorem lag {f : Fin 4096 → EReal} (hf : ∀ i, Cert.Rms.Fin' (f i)) (i : Fin 4096) (w : ℕ) (hw : w ≤ 32) :
    (cs f i.val - if h : w ≤ i.val ∧ i.val - w < 4096 then cs f (i.val - w) else FloatOps.sitofp (F := Ideal) FTy.f32 (0#32))
      = ∑ d ∈ Finset.range w, ext f 32 (i.val + 32 - d) := by
  rw [window hf i.val w hw, pad_zero]
  by_cases h : i.val < w
  · rw [dif_neg (by omega), if_pos h, cs]
  · rw [dif_pos (by omega), if_neg h, cs, cs, show i.val - w + 1 = i.val + 1 - w by omega]

/-- The pooled group by running sums. -/
theorem pooled_eq (Z : S4096x1536.Idx → EReal) (hZ : ∀ i, Cert.Rms.Fin' (Z i)) (P : S1x4x128x128.Idx → EReal) (S : S1x512.Idx → EReal)
    (i : Fin 4096) (g : Fin 4) (k : Fin 128) (w : ℕ) (hw : w = win g) (h : w ≤ 32) :
    pooled Z P S i g k
      = (∑ x : Fin 128, (Ideal.div (cs (pc Z (col g x)) i.val - if h : w ≤ i.val ∧ i.val - w < 4096 then
          cs (pc Z (col g x)) (i.val - w) else FloatOps.sitofp (F := Ideal) FTy.f32 (0#32)) (cnt i.val w)
          - pc Z (col g x) i) * P (ix4 0 g x k)) * S (ix2 0 (col g k)) := by
  subst hw
  have e : ∀ x, _ := fun x => lag (f := pc Z (col g x)) (fun i => hZ _) i (win g) h
  simp only [e]
  rfl

/-- The columns of the four groups. -/
theorem seg_at : (∀ i x, res_main_v263 (launchContents m c) (ix2 i x) = pc (rZ m c) (col 0 x) i)
    ∧ (∀ i x, res_main_v280 (launchContents m c) (ix2 i x) = pc (rZ m c) (col 1 x) i)
    ∧ (∀ i x, res_main_v297 (launchContents m c) (ix2 i x) = pc (rZ m c) (col 2 x) i)
    ∧ (∀ i x, res_main_v314 (launchContents m c) (ix2 i x) = pc (rZ m c) (col 3 x) i) := by
  unfold res_main_v263 res_main_v280 res_main_v297 res_main_v314 res_main_v259
  clean_types
  refine ⟨fun i x => ?_, fun i x => ?_, fun i x => ?_, fun i x => ?_⟩
  · pointwise
    exact congrArg (fun n => rZ m c (ix2 i n)) (Fin.ext (by show 1024 + x.val = 1024 + (128 * 0 + x.val); omega))
  · pointwise
    exact congrArg (fun n => rZ m c (ix2 i n)) (Fin.ext (by show 1024 + (128 + x.val) = 1024 + (128 * 1 + x.val); omega))
  · pointwise
    exact congrArg (fun n => rZ m c (ix2 i n)) (Fin.ext (by show 1024 + (256 + x.val) = 1024 + (128 * 2 + x.val); omega))
  · pointwise
    exact congrArg (fun n => rZ m c (ix2 i n)) (Fin.ext (by show 1024 + (384 + x.val) = 1024 + (128 * 3 + x.val); omega))

/-- The gated half of the first result. -/
theorem gated_at (i : Fin 4096) (q : Fin 512) : res_main_v335 (launchContents m c) (ix2 i ⟨q.val, by omega⟩) = gated (rZ m c) (rW m c) (rB m c) (rG m c) (rL m c) i q := by
  unfold res_main_v335 res_main_v257 res_main_v239 res_main_v237
  clean_types
  have h := v233_at m c
  generalize res_main_v233 (launchContents m c) = v at *
  pointwise
  simp only [h]
  rfl

/-- The four pooled groups of the first result. -/
theorem pool0_at (i : Fin 4096) (k : Fin 128) (hZ : ∀ i, Cert.Rms.Fin' (rZ m c i)) :
    res_main_v335 (launchContents m c) (ix2 i ⟨512 + 128 * 0 + k.val, by omega⟩) = pooled (rZ m c) (rP m c) (rS m c) i 0 k := by
  rw [pooled_eq _ hZ _ _ _ _ _ 2 rfl (by omega), show col 0 k = ⟨k.val, by omega⟩ from Fin.ext (by show 128 * 0 + k.val = k.val; omega)]
  unfold res_main_v335 res_main_v260 res_main_v262
  clean_types
  have h := (seg_at m c).1
  have hc := sums _ _ h reduceWindows_S4096x128_S4096x128_w4096s1p4095_0_w1s1p0_0
  change ∀ i x, res_main_v264 (launchContents m c) (ix2 i x) = _ at hc
  generalize res_main_v264 (launchContents m c) = C at *
  generalize res_main_v263 (launchContents m c) = T at *
  pointwise
  simp only [h, hc]
  rfl

theorem pool1_at (i : Fin 4096) (k : Fin 128) (hZ : ∀ i, Cert.Rms.Fin' (rZ m c i)) :
    res_main_v335 (launchContents m c) (ix2 i ⟨512 + 128 * 1 + k.val, by omega⟩) = pooled (rZ m c) (rP m c) (rS m c) i 1 k := by
  rw [pooled_eq _ hZ _ _ _ _ _ 4 rfl (by omega), show col 1 k = ⟨128 + k.val, by omega⟩ from Fin.ext (by show 128 * 1 + k.val = 128 + k.val; omega)]
  unfold res_main_v335 res_main_v260 res_main_v262
  clean_types
  have h := (seg_at m c).2.1
  have hc := sums _ _ h reduceWindows_S4096x128_S4096x128_w4096s1p4095_0_w1s1p0_0
  change ∀ i x, res_main_v281 (launchContents m c) (ix2 i x) = _ at hc
  generalize res_main_v281 (launchContents m c) = C at *
  generalize res_main_v280 (launchContents m c) = T at *
  pointwise
  rw [dif_neg (by omega : ¬640 + k.val < 512), dif_neg (by omega : ¬640 + k.val - 512 < 128), dif_pos (by omega : 640 + k.val - 512 - 128 < 128)]
  simp only [show 640 + k.val - 512 - 128 = k.val by omega, show 640 + k.val - 512 = 128 + k.val by omega, show 128 + k.val - 128 = k.val by omega]
  simp only [h, hc]
  rfl

theorem pool2_at (i : Fin 4096) (k : Fin 128) (hZ : ∀ i, Cert.Rms.Fin' (rZ m c i)) :
    res_main_v335 (launchContents m c) (ix2 i ⟨512 + 128 * 2 + k.val, by omega⟩) = pooled (rZ m c) (rP m c) (rS m c) i 2 k := by
  rw [pooled_eq _ hZ _ _ _ _ _ 8 rfl (by omega), show col 2 k = ⟨256 + k.val, by omega⟩ from Fin.ext (by show 128 * 2 + k.val = 256 + k.val; omega)]
  unfold res_main_v335 res_main_v260 res_main_v262
  clean_types
  have h := (seg_at m c).2.2.1
  have hc := sums _ _ h reduceWindows_S4096x128_S4096x128_w4096s1p4095_0_w1s1p0_0
  change ∀ i x, res_main_v298 (launchContents m c) (ix2 i x) = _ at hc
  generalize res_main_v298 (launchContents m c) = C at *
  generalize res_main_v297 (launchContents m c) = T at *
  pointwise
  rw [dif_neg (by omega : ¬768 + k.val < 512), dif_neg (by omega : ¬768 + k.val - 512 < 128), dif_neg (by omega : ¬768 + k.val - 512 - 128 < 128), dif_pos (by omega : 768 + k.val - 512 - 128 - 128 < 128)]
  simp only [show 768 + k.val - 512 - 128 - 128 = k.val by omega, show 768 + k.val - 512 = 256 + k.val by omega, show 256 + k.val - 128 - 128 = k.val by omega]
  simp only [h, hc]
  rfl

theorem pool3_at (i : Fin 4096) (k : Fin 128) (hZ : ∀ i, Cert.Rms.Fin' (rZ m c i)) :
    res_main_v335 (launchContents m c) (ix2 i ⟨512 + 128 * 3 + k.val, by omega⟩) = pooled (rZ m c) (rP m c) (rS m c) i 3 k := by
  rw [pooled_eq _ hZ _ _ _ _ _ 16 rfl (by omega), show col 3 k = ⟨384 + k.val, by omega⟩ from Fin.ext (by show 128 * 3 + k.val = 384 + k.val; omega)]
  unfold res_main_v335 res_main_v260 res_main_v262
  clean_types
  have h := (seg_at m c).2.2.2
  have hc := sums _ _ h reduceWindows_S4096x128_S4096x128_w4096s1p4095_0_w1s1p0_0
  change ∀ i x, res_main_v315 (launchContents m c) (ix2 i x) = _ at hc
  generalize res_main_v315 (launchContents m c) = C at *
  generalize res_main_v314 (launchContents m c) = T at *
  pointwise
  rw [dif_neg (by omega : ¬896 + k.val < 512), dif_neg (by omega : ¬896 + k.val - 512 < 128), dif_neg (by omega : ¬896 + k.val - 512 - 128 < 128), dif_neg (by omega : ¬896 + k.val - 512 - 128 - 128 < 128)]
  simp only [show 896 + k.val - 512 - 128 - 128 - 128 = k.val by omega, show 896 + k.val - 512 = 384 + k.val by omega, show 384 + k.val - 128 - 128 - 128 = k.val by omega]
  simp only [h, hc]
  rfl

/-- The first result of the reference. -/
theorem ref_first (hZ : ∀ i, Cert.Rms.Fin' (rZ m c i)) :
    res_main_v335 (launchContents m c) = first (rZ m c) (rW m c) (rB m c) (rG m c) (rL m c) (rP m c) (rS m c) := by
  funext j
  obtain ⟨i, q, rfl⟩ : ∃ (i : Fin 4096) (q : Fin 1024), j = ix2 i q := ⟨j 0, j 1, eq_ix2 j⟩
  by_cases h : q.val < 512
  · exact (gated_at m c i ⟨q.val, h⟩).trans (first_lo _ _ _ _ _ _ _ i ⟨q.val, h⟩).symm
  · have hi : ∀ (g : Fin 4) (k : Fin 128), q.val = 512 + 128 * g.val + k.val → ix2 i q = ix2 i ⟨512 + 128 * g.val + k.val, by omega⟩ :=
      fun g k e => congrArg (ix2 i) (Fin.ext e)
    have hq := q.isLt
    obtain ⟨g, k, e⟩ : ∃ (g : Fin 4) (k : Fin 128), q.val = 512 + 128 * g.val + k.val :=
      ⟨⟨(q.val - 512) / 128, by omega⟩, ⟨(q.val - 512) % 128, by omega⟩, by show q.val = 512 + 128 * ((q.val - 512) / 128) + (q.val - 512) % 128; omega⟩
    rw [hi g k e]
    refine Eq.trans ?_ (first_hi _ _ _ _ _ _ _ i g k).symm
    match g with
    | 0 => exact pool0_at m c i k hZ
    | 1 => exact pool1_at m c i k hZ
    | 2 => exact pool2_at m c i k hZ
    | 3 => exact pool3_at m c i k hZ

/-- The second result of the reference. -/
theorem ref_conv : res_main_v233 (launchContents m c) = fun i => conv (rZ m c) (rW m c) (rB m c) (i 0) (i 1) := by
  funext j
  obtain ⟨i, q, rfl⟩ : ∃ (i : Fin 4096) (q : Fin 512), j = ix2 i q := ⟨j 0, j 1, eq_ix2 j⟩
  exact v233_at m c i q

end Cert.SeqFwd
end
-- ==== Proof.SeqFwdClaim.lean ====
/-
  The two programs of the forward pass along the rows end with equal results, from finite rows.
-/
module

public import proofs.«01_k».proof.Defs
public import proofs.«01_k».proof.Proof.SeqFwdFinal
public import proofs.«01_k».proof.Proof.SeqFwdRef
public import proofs.«01_k».proof.Proof.Gen.Pre_finite_args8

@[expose] public section

set_option maxRecDepth 16384

noncomputable section

namespace Cert.SeqFwd

open Idealize.ShloMosaic Idealize.ShloMosaic.TcCoe Idealize.SL.Sem Cert.Rms
open Cert.Kernel8Ideal (nD τ sig)

/-- What the precondition says of the rows. -/
theorem fin_args (m : (ℓ : Loc nD τ sig) → Buf (Elt Ideal) ℓ) (h : Cert.Pre_Kernel8Ideal_finite_args8 m) (c : Dev nD) :
    ∀ i, Fin' (aZ m c i) :=
  fun i => fin_of_abs_lt (congrFun (h c) i)

/-- The memories agree on the arguments. -/
def Agree (m : (ℓ : Loc nD τ sig) → Buf (Elt Ideal) ℓ)
    (m' : (ℓ : Loc Cert.Reference8Ideal.nD Cert.Reference8Ideal.τ Cert.Reference8Ideal.sig) → Buf (Elt Ideal) ℓ) (c : Dev nD) : Prop :=
  rZ m' c = aZ m c ∧ rW m' c = aW m c ∧ rB m' c = aB m c ∧ rG m' c = aG m c ∧ rL m' c = aL m c ∧ rP m' c = aP m c ∧ rS m' c = aS m c

variable {m : (ℓ : Loc nD τ sig) → Buf (Elt Ideal) ℓ}
  {m' : (ℓ : Loc Cert.Reference8Ideal.nD Cert.Reference8Ideal.τ Cert.Reference8Ideal.sig) → Buf (Elt Ideal) ℓ}

/-- The first results agree. -/
theorem meet_y (hpre : Cert.Pre_Kernel8Ideal_finite_args8 m) (c : Dev Cert.Kernel8Ideal.nD) (h : Agree m m' c) :
    Cert.Reference8Ideal.Value.res_main_v335 (StableHlo.launchContents m' c) = (Cert.Kernel8Ideal.Gen.dats m 0 c).arrAt 8 Cert.Kernel8Ideal.cfg0.N := by
  obtain ⟨hZ, hW, hB, hG, hL, hP, hS⟩ := h
  have hf := fin_args m hpre c
  rw [← hZ] at hf
  refine (ref_first m' c hf).trans (Eq.trans ?_ (final_y m c).symm)
  rw [hZ, hW, hB, hG, hL, hP, hS]

/-- The second results agree. -/
theorem meet_v (c : Dev Cert.Kernel8Ideal.nD) (h : Agree m m' c) :
    Cert.Reference8Ideal.Value.res_main_v233 (StableHlo.launchContents m' c) = (Cert.Kernel8Ideal.Gen.dats m 0 c).arrAt 9 Cert.Kernel8Ideal.cfg0.N := by
  obtain ⟨hZ, hW, hB, -⟩ := h
  refine (ref_conv m' c).trans (Eq.trans ?_ (final_v m c).symm)
  rw [hZ, hW, hB]
  rfl

/-- The two programs end with equal results. -/
theorem algebraic : Cert.algebraic_Kernel8Ideal_Reference8Ideal_pre_finite_args8 := by
  intro m ρ m' ρ' hpre hag
  refine ⟨fun c => (Cert.Kernel8Ideal.Gen.dats m 0 c).arrAt 8 Cert.Kernel8Ideal.cfg0.N,
    fun c => (Cert.Kernel8Ideal.Gen.dats m 0 c).arrAt 9 Cert.Kernel8Ideal.cfg0.N,
    Cert.Kernel8Ideal.Value.run_blocks m ρ, ?_⟩
  exact (θ_run _ _ _).mono (fun r h c => ⟨(h c).1.trans (meet_y hpre c (hag c)), (h c).2.1.trans (meet_v c (hag c)), (h c).2.2⟩)
    (Cert.Reference8Ideal.Value.run m' ρ')

end Cert.SeqFwd

end
-- ==== Proof.Adam.lean ====
/-
  The optimiser's step of one weight: what the kernel's four results hold, and that the plain lines give the same. The
  gradient comes as two halves, transposed.
-/
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise
public import Idealize.ShloMosaic.Lib.Tactic
public import Idealize.ShloMosaic.Lib.Tactic.CleanTypes

@[expose] public section

set_option maxRecDepth 16384

noncomputable section

namespace Cert.Adam

open Idealize.ShloMosaic Idealize.ShloMosaic.TcCoe Idealize.SL.Sem

/-! ## The step of one entry -/

/-- The new first moment. -/
def mom (mu g : EReal) : EReal := Scalar.ofBits (F := Ideal) .f32 0x3F666666#32 * mu + Scalar.ofBits (F := Ideal) .f32 0x3DCCCCCD#32 * g
/-- The new second moment. -/
def var (nu g : EReal) : EReal :=
  Scalar.ofBits (F := Ideal) .f32 0x3F7FBE77#32 * nu + Scalar.ofBits (F := Ideal) .f32 0x3A83126F#32 * (g * g)
/-- The change of the weight. -/
def delta (w mu nu g : EReal) : EReal :=
  Scalar.ofBits (F := Ideal) .f32 0xBA83126F#32
    * (Ideal.div (Ideal.div (mom mu g) (Scalar.ofBits (F := Ideal) .f32 0x3F26BD02#32))
        (Ideal.sqrt (Ideal.div (var nu g) (Scalar.ofBits (F := Ideal) .f32 0x3C231ACC#32))
          + Scalar.ofBits (F := Ideal) .f32 0x322BCC77#32)
      + Scalar.ofBits (F := Ideal) .f32 0x3C23D70A#32 * w)

section Kernel
open Cert.Kernel9Ideal Cert.Kernel9Ideal.Gen

variable (m : (ℓ : Loc nD τ sig) → Buf (Elt Ideal) ℓ)

/-- The window index maps, decided over the four grid points. -/
theorem idx : ∀ t : Fin cfg0.N, win0_0.index t = ![t.val, 0] ∧ win0_1.index t = ![t.val, 0] ∧ win0_2.index t = ![t.val, 0]
    ∧ win0_3.index t = ![0, t.val] ∧ win0_4.index t = ![0, t.val] ∧ win0_5.index t = ![t.val, 0]
    ∧ win0_6.index t = ![t.val, 0] ∧ win0_7.index t = ![t.val, 0] ∧ win0_8.index t = ![t.val, 0] :=
  (by decide +kernel : ∀ t : Fin grid0.N, _)

theorem g_at (v0 v1 : Vec Ideal S384x256 .f32) (r : Fin 256) (k : Fin 384) :
    k0_pay1 v0 v1 (ix2 r k) = v0 (ix2 k r) + v1 (ix2 k r) := by
  pointwise! [k0_pay1]

theorem mom_at (v0 v1 : Vec Ideal S384x256 .f32) (v7 : Vec Ideal S256x384 .f32) (r : Fin 256) (k : Fin 384) :
    k0_pay2 v0 v1 v7 (ix2 r k) = mom (v7 (ix2 r k)) (k0_pay1 v0 v1 (ix2 r k)) := by
  unfold k0_pay2
  generalize k0_pay1 v0 v1 = g
  pointwise! [mom]

theorem var_at (v0 v1 : Vec Ideal S384x256 .f32) (v9 : Vec Ideal S256x384 .f32) (r : Fin 256) (k : Fin 384) :
    k0_pay3 v0 v1 v9 (ix2 r k) = var (v9 (ix2 r k)) (k0_pay1 v0 v1 (ix2 r k)) := by
  unfold k0_pay3
  generalize k0_pay1 v0 v1 = g
  pointwise! [var]

theorem delta_at (v0 v1 : Vec Ideal S384x256 .f32) (v5 v7 v9 : Vec Ideal S256x384 .f32) (r : Fin 256) (k : Fin 384) :
    k0_pay4 v0 v1 v5 v7 v9 (ix2 r k) = delta (v5 (ix2 r k)) (v7 (ix2 r k)) (v9 (ix2 r k)) (k0_pay1 v0 v1 (ix2 r k)) := by
  unfold delta
  rw [← mom_at, ← var_at]
  unfold k0_pay4
  generalize k0_pay2 v0 v1 v7 = a
  generalize k0_pay3 v0 v1 v9 = b
  pointwise

/-! ## The four result arrays -/

variable (c : Dev nD)

/-- The arguments, named. -/
abbrev aW : Vec Ideal S1x1024x384 .f32 := m ((c : Thread nD τ).loc main_arg0)
abbrev aM : Vec Ideal S1x1024x384 .f32 := m ((c : Thread nD τ).loc main_arg1)
abbrev aV : Vec Ideal S1x1024x384 .f32 := m ((c : Thread nD τ).loc main_arg2)
abbrev aH : Vec Ideal S384x1024 .f32 := m ((c : Thread nD τ).loc main_arg3)
abbrev aT : Vec Ideal S384x1024 .f32 := m ((c : Thread nD τ).loc main_arg4)

theorem V_w (i : Fin 1024) (j : Fin 384) : V m c main_v0 (ix2 i j) = aW m c (ix3 0 i j) := by
  unfold_abbrev_sides; after_results; pointwise
theorem V_m (i : Fin 1024) (j : Fin 384) : V m c main_v1 (ix2 i j) = aM m c (ix3 0 i j) := by
  unfold_abbrev_sides; after_results; pointwise
theorem V_v (i : Fin 1024) (j : Fin 384) : V m c main_v2 (ix2 i j) = aV m c (ix3 0 i j) := by
  unfold_abbrev_sides; after_results; pointwise

/-- Row `r` of tile `t`, as a row of the arrays. -/
def row (t : Fin cfg0.N) (r : Fin 256) : Fin 1024 :=
  ⟨t.val * 256 + r.val, by have := t.isLt; have : cfg0.N = 4 := N_0; omega⟩

theorem blk_w (t : Fin cfg0.N) (r : Fin 256) (j : Fin 384) : iblk m c 0 t (ix2 r j) = aW m c (ix3 0 (row t r) j) := by
  rw [← V_w]; blk_ext [iblk, idx t, row]
theorem blk_m (t : Fin cfg0.N) (r : Fin 256) (j : Fin 384) : iblk m c 1 t (ix2 r j) = aM m c (ix3 0 (row t r) j) := by
  rw [← V_m]; blk_ext [iblk, idx t, row]
theorem blk_v (t : Fin cfg0.N) (r : Fin 256) (j : Fin 384) : iblk m c 2 t (ix2 r j) = aV m c (ix3 0 (row t r) j) := by
  rw [← V_v]; blk_ext [iblk, idx t, row]
theorem blk_h (t : Fin cfg0.N) (r : Fin 256) (j : Fin 384) : iblk m c 3 t (ix2 j r) = aH m c (ix2 j (row t r)) := by
  blk_ext [iblk, V, idx t, row]
theorem blk_t (t : Fin cfg0.N) (r : Fin 256) (j : Fin 384) : iblk m c 4 t (ix2 j r) = aT m c (ix2 j (row t r)) := by
  blk_ext [iblk, V, idx t, row]

/-- The gradient, in the arguments. -/
def gs (i : Fin 1024) (j : Fin 384) : EReal := aH m c (ix2 j i) + aT m c (ix2 j i)

theorem tile_g (t : Fin cfg0.N) (r : Fin 256) (j : Fin 384) :
    k0_pay1 (iblk m c 3 t) (iblk m c 4 t) (ix2 r j) = gs m c (row t r) j := by
  rw [g_at, blk_h, blk_t, gs]

/-- The gradient's array after the run. -/
theorem final_g : (dats m 0 c).arrAt 5 cfg0.N = fun i => gs m c (i 0) (i 1) := by
  refine (dats m 0 c).arrAt_eq_of_covers 5 _ (by decide +kernel) fun t hf y => ?_
  blk_simp
  rw [after0_5]
  have he : ∀ (r : Fin 256) (k : Fin 384),
      ((View.whole main_v3_0).slice (win0_5.rect t)).emb (ix2 r k) = ix2 (row t r) k := fun r k => by
    blk_ext [idx t, row]
  obtain ⟨r, k, rfl⟩ : ∃ (r : Fin 256) (k : Fin 384), y = ix2 r k := ⟨y 0, y 1, eq_ix2 y⟩
  frame_out
  rw [tile_g, he]
  rfl

/-- The change's array after the run. -/
theorem final_d : (dats m 0 c).arrAt 6 cfg0.N = fun i =>
    delta (aW m c (ix3 0 (i 0) (i 1))) (aM m c (ix3 0 (i 0) (i 1))) (aV m c (ix3 0 (i 0) (i 1))) (gs m c (i 0) (i 1)) := by
  refine (dats m 0 c).arrAt_eq_of_covers 6 _ (by decide +kernel) fun t hf y => ?_
  blk_simp
  rw [after0_6]
  have he : ∀ (r : Fin 256) (k : Fin 384),
      ((View.whole main_v3_1).slice (win0_6.rect t)).emb (ix2 r k) = ix2 (row t r) k := fun r k => by
    blk_ext [idx t, row]
  obtain ⟨r, k, rfl⟩ : ∃ (r : Fin 256) (k : Fin 384), y = ix2 r k := ⟨y 0, y 1, eq_ix2 y⟩
  frame_out
  rw [delta_at, tile_g, he, blk_w, blk_m, blk_v]
  rfl

/-- The new first moment's array after the run. -/
theorem final_m : (dats m 0 c).arrAt 7 cfg0.N = fun i => mom (aM m c (ix3 0 (i 0) (i 1))) (gs m c (i 0) (i 1)) := by
  refine (dats m 0 c).arrAt_eq_of_covers 7 _ (by decide +kernel) fun t hf y => ?_
  blk_simp
  rw [after0_7]
  have he : ∀ (r : Fin 256) (k : Fin 384),
      ((View.whole main_v3_2).slice (win0_7.rect t)).emb (ix2 r k) = ix2 (row t r) k := fun r k => by
    blk_ext [idx t, row]
  obtain ⟨r, k, rfl⟩ : ∃ (r : Fin 256) (k : Fin 384), y = ix2 r k := ⟨y 0, y 1, eq_ix2 y⟩
  frame_out
  rw [mom_at, tile_g, he, blk_m]
  rfl

/-- The new second moment's array after the run. -/
theorem final_v : (dats m 0 c).arrAt 8 cfg0.N = fun i => var (aV m c (ix3 0 (i 0) (i 1))) (gs m c (i 0) (i 1)) := by
  refine (dats m 0 c).arrAt_eq_of_covers 8 _ (by decide +kernel) fun t hf y => ?_
  blk_simp
  rw [after0_8]
  have he : ∀ (r : Fin 256) (k : Fin 384),
      ((View.whole main_v3_3).slice (win0_8.rect t)).emb (ix2 r k) = ix2 (row t r) k := fun r k => by
    blk_ext [idx t, row]
  obtain ⟨r, k, rfl⟩ : ∃ (r : Fin 256) (k : Fin 384), y = ix2 r k := ⟨y 0, y 1, eq_ix2 y⟩
  frame_out
  rw [var_at, tile_g, he, blk_v]
  rfl

end Kernel

/-! ## The reference -/

section Reference
open Cert.Reference9Ideal Cert.Reference9Ideal.Gen

variable (m : (ℓ : Loc nD τ sig) → Buf (Elt Ideal) ℓ) (ρ : Dev nD → PrngReg) (c : Dev nD)

abbrev rW : Vec Ideal S1x1024x384 .f32 := m ((c : Thread nD τ).loc main_arg0)
abbrev rM : Vec Ideal S1x1024x384 .f32 := m ((c : Thread nD τ).loc main_arg1)
abbrev rV : Vec Ideal S1x1024x384 .f32 := m ((c : Thread nD τ).loc main_arg2)
abbrev rH : Vec Ideal S384x1024 .f32 := m ((c : Thread nD τ).loc main_arg3)
abbrev rT : Vec Ideal S384x1024 .f32 := m ((c : Thread nD τ).loc main_arg4)

/-- The gradient, in the reference's arguments. -/
def rg (i : Fin 1024) (j : Fin 384) : EReal := rH m c (ix2 j i) + rT m c (ix2 j i)

/-- The reference's run, its results read at an index. -/
theorem ref_run : θ_run defs (onTc (τ := τ) (main (F := Ideal))) ⟨m, fun _ => 0, ρ⟩ fun r => ∀ c : Dev nD,
      (r.2.mem ((c : Thread nD τ).loc main_v1) = fun i => rg m c (i 0) (i 1))
      ∧ (r.2.mem ((c : Thread nD τ).loc main_v28) = fun i =>
        delta (rW m c (ix3 0 (i 0) (i 1))) (rM m c (ix3 0 (i 0) (i 1))) (rV m c (ix3 0 (i 0) (i 1))) (rg m c (i 0) (i 1)))
      ∧ (r.2.mem ((c : Thread nD τ).loc main_v7) = fun i => mom (rM m c (ix3 0 (i 0) (i 1))) (rg m c (i 0) (i 1)))
      ∧ r.2.mem ((c : Thread nD τ).loc main_v14) = fun i => var (rV m c (ix3 0 (i 0) (i 1))) (rg m c (i 0) (i 1)) :=
  (θ_run defs _ _).mono (fun r h c => by
    refine ⟨(h c).1.trans ?_, (h c).2.1.trans ?_, (h c).2.2.1.trans ?_, (h c).2.2.2.1.trans ?_⟩
    all_goals
      funext j
      obtain ⟨a, b, rfl⟩ : ∃ (a : Fin 1024) (b : Fin 384), j = ix2 a b := ⟨j 0, j 1, eq_ix2 j⟩
      clean_types
      pointwise
      rfl) (Cert.Reference9Ideal.Value.run m ρ)

end Reference

/-! ## The claim -/

open Cert.Kernel9Ideal (nD τ sig)

/-- The memories agree on the arguments. -/
def Agree (m : (ℓ : Loc nD τ sig) → Buf (Elt Ideal) ℓ)
    (m' : (ℓ : Loc Cert.Reference9Ideal.nD Cert.Reference9Ideal.τ Cert.Reference9Ideal.sig) → Buf (Elt Ideal) ℓ) (c : Dev nD) : Prop :=
  rW m' c = aW m c ∧ rM m' c = aM m c ∧ rV m' c = aV m c ∧ rH m' c = aH m c ∧ rT m' c = aT m c

variable {m : (ℓ : Loc nD τ sig) → Buf (Elt Ideal) ℓ}
  {m' : (ℓ : Loc Cert.Reference9Ideal.nD Cert.Reference9Ideal.τ Cert.Reference9Ideal.sig) → Buf (Elt Ideal) ℓ}

theorem rg_eq {c : Dev nD} (h : Agree m m' c) : rg m' c = gs m c := by
  unfold rg gs
  rw [h.2.2.2.1, h.2.2.2.2]

/-- The claim: equal results from any arguments. -/
theorem algebraic : Cert.algebraic_Kernel9Ideal_Reference9Ideal := by
  intro m ρ m' ρ' _ hag
  refine ⟨fun c => (Cert.Kernel9Ideal.Gen.dats m 0 c).arrAt 5 Cert.Kernel9Ideal.cfg0.N,
    fun c => (Cert.Kernel9Ideal.Gen.dats m 0 c).arrAt 6 Cert.Kernel9Ideal.cfg0.N,
    fun c => (Cert.Kernel9Ideal.Gen.dats m 0 c).arrAt 7 Cert.Kernel9Ideal.cfg0.N,
    fun c => (Cert.Kernel9Ideal.Gen.dats m 0 c).arrAt 8 Cert.Kernel9Ideal.cfg0.N,
    Cert.Kernel9Ideal.Value.run_blocks m ρ, ?_⟩
  refine (θ_run _ _ _).mono (fun r h c => ?_) (θ_run_and (ref_run m' ρ') (Cert.Reference9Ideal.Value.run m' ρ'))
  have ha : Agree m m' c := hag c
  obtain ⟨h1, h2, h3, h4⟩ := h.1 c
  rw [rg_eq ha] at h1 h2 h3 h4
  rw [ha.1, ha.2.1, ha.2.2.1] at h2
  rw [ha.2.1] at h3
  rw [ha.2.2.1] at h4
  exact ⟨h1.trans (final_g m c).symm, h2.trans (final_d m c).symm, h3.trans (final_m m c).symm, h4.trans (final_v m c).symm,
    (h.2 c).2.2.2.2⟩

end Cert.Adam

end
-- ==== Proof.WeightGrad.lean ====
/-
  The gradient of a plain product with respect to its weights: the product of the transposed rows with the gradient of the
  result, its rows in two halves, the first kept in a scratch.
-/
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Pointwise
public import Idealize.ShloMosaic.Lib.Tactic
public import Idealize.ShloMosaic.Lib.Tactic.CleanTypes

@[expose] public section

set_option maxRecDepth 16384

noncomputable section

namespace Cert.WeightGrad

open Idealize.ShloMosaic Idealize.ShloMosaic.TcCoe Idealize.SL.Sem

section Kernel
open Cert.Kernel10Ideal Cert.Kernel10Ideal.Gen

variable (m : (ℓ : Loc nD τ sig) → Buf (Elt Ideal) ℓ)

/-- The window index maps, decided over the four grid points: the half of the rows runs fastest. -/
theorem idx : ∀ t : Fin cfg0.N, win0_0.index t = ![t.val % 2, t.val / 2] ∧ win0_1.index t = ![t.val % 2, 0]
    ∧ win0_2.index t = ![t.val / 2, 0] :=
  (by decide +kernel : ∀ t : Fin grid0.N, _)

/-- The product of two tiles. -/
theorem prod_at (v1 : Vec Ideal S2048x1408 .bf16) (v3 : Vec Ideal S2048x1024 .bf16) (r : Fin 1408) (k : Fin 1024) :
    k0_pay1 v1 v3 (ix2 r k) = ∑ l : Fin 2048, v1 (ix2 l r) * v3 (ix2 l k) := by
  pointwise! [k0_pay1]

variable (c : Dev nD)

/-- The arguments, named. -/
abbrev aA : Vec Ideal S4096x2816 .f32 := m ((c : Thread nD τ).loc main_arg0)
abbrev aD : Vec Ideal S4096x1024 .f32 := m ((c : Thread nD τ).loc main_arg1)

theorem V_a (i : Fin 4096) (j : Fin 2816) : V m c main_v0 (ix2 i j) = aA m c (ix2 i j) := by
  unfold_abbrev_sides; after_results; pointwise
theorem V_d (i : Fin 4096) (j : Fin 1024) : V m c main_v1 (ix2 i j) = aD m c (ix2 i j) := by
  unfold_abbrev_sides; after_results; pointwise

/-- Row `l` of half `h`, as a row of the arrays. -/
def row (h : Fin 2) (l : Fin 2048) : Fin 4096 := ⟨h.val * 2048 + l.val, by omega⟩

/-- Column `r` of the tile at point `t`, as a column of the array. -/
def col (t : Fin cfg0.N) (r : Fin 1408) : Fin 2816 :=
  ⟨t.val / 2 * 1408 + r.val, by have := t.isLt; have : cfg0.N = 4 := N_0; omega⟩

/-- The half point `t` works on. -/
def half (t : Fin cfg0.N) : Fin 2 := ⟨t.val % 2, by omega⟩

theorem blk_a (t : Fin cfg0.N) (l : Fin 2048) (r : Fin 1408) :
    iblk m c 0 t (ix2 l r) = aA m c (ix2 (row (half t) l) (col t r)) := by
  rw [← V_a]; blk_ext [iblk, idx t, row, col, half]
theorem blk_d (t : Fin cfg0.N) (l : Fin 2048) (k : Fin 1024) :
    iblk m c 1 t (ix2 l k) = aD m c (ix2 (row (half t) l) k) := by
  rw [← V_d]; blk_ext [iblk, idx t, row, half]

/-- The sum over one half of the rows. -/
def part (h : Fin 2) (i : Fin 2816) (k : Fin 1024) : EReal :=
  ∑ l : Fin 2048, aA m c (ix2 (row h l) i) * aD m c (ix2 (row h l) k)

theorem tile (t : Fin cfg0.N) (r : Fin 1408) (k : Fin 1024) :
    k0_pay1 (iblk m c 0 t) (iblk m c 1 t) (ix2 r k) = part m c (half t) (col t r) k := by
  rw [prod_at]
  simp only [blk_a, blk_d, part]

/-- The two halves make all the rows. -/
theorem halves (f : Fin 4096 → EReal) : ∑ l : Fin 2048, f (row 0 l) + ∑ l : Fin 2048, f (row 1 l) = ∑ l : Fin 4096, f l := by
  refine Eq.trans ?_ (Fin.sum_univ_add (a := 2048) (b := 2048) f).symm
  congr 1 <;> exact Finset.sum_congr rfl fun l _ => congrArg f (Fin.ext (by simp [row]))

/-- What the scratch holds after a first half. -/
theorem held (t : Fin cfg0.N) (h : t.val % 2 = 0) (r : Fin 1408) (k : Fin 1024) :
    (outsAt0 m c t.val t.isLt).2 (ix2 r k) = part m c (half t) (col t r) k := by
  rw [outsAt0_A m c t h (by omega) (by omega)]
  frame_out
  rw [← tile]
  pointwise! [k0_pay2]

/-- The result array after the run. -/
theorem final : (dats m 0 c).arrAt 2 cfg0.N = fun i => ∑ l : Fin 4096, aA m c (ix2 l (i 0)) * aD m c (ix2 l (i 1)) := by
  refine (dats m 0 c).arrAt_eq_of_covers 2 _ (by decide +kernel) fun t hf y => ?_
  have hm : t.val % 2 = 1 := (flush0_2 t).mp hf
  blk_simp
  rw [after0_2]
  have he : ∀ (r : Fin 1408) (k : Fin 1024),
      ((View.whole main_v2).slice (win0_2.rect t)).emb (ix2 r k) = ix2 (col t r) k := fun r k => by
    blk_ext [idx t, col]
  obtain ⟨r, k, rfl⟩ : ∃ (r : Fin 1408) (k : Fin 1024), y = ix2 r k := ⟨y 0, y 1, eq_ix2 y⟩
  rw [outsAt0_B m c t (by omega) hm hm]
  frame_out
  rw [he]
  have hl : t.val - 1 < cfg0.N := lt_of_le_of_lt (Nat.sub_le _ _) t.isLt
  have hs := held m c ⟨t.val - 1, hl⟩ (by dsimp only; omega) r k
  have ht := tile m c t r k
  pointwise [k0_pay4, k0_pay3]
  refine (congrArg₂ (· + ·) ((congrFun (Memref.IsWhole.read_unread _ _) _).trans hs) ht).trans ?_
  have h0 : half ⟨t.val - 1, hl⟩ = 0 := Fin.ext (by simp only [half]; omega)
  have h1 : half t = 1 := Fin.ext (by simp only [half]; omega)
  have hc : col ⟨t.val - 1, hl⟩ r = col t r := Fin.ext (by simp only [col]; omega)
  rw [h0, h1, hc]
  exact halves fun l => aA m c (ix2 l (col t r)) * aD m c (ix2 l k)

end Kernel

/-! ## The reference -/

section Reference
open Cert.Reference10Ideal Cert.Reference10Ideal.Gen

variable (m : (ℓ : Loc nD τ sig) → Buf (Elt Ideal) ℓ) (ρ : Dev nD → PrngReg) (c : Dev nD)

abbrev rA : Vec Ideal S4096x2816 .f32 := m ((c : Thread nD τ).loc main_arg0)
abbrev rD : Vec Ideal S4096x1024 .f32 := m ((c : Thread nD τ).loc main_arg1)

/-- The reference's run, its result read at an index: the derivative multiplies in the other order. -/
theorem ref_run : θ_run defs (onTc (τ := τ) (main (F := Ideal))) ⟨m, fun _ => 0, ρ⟩ fun r => ∀ c : Dev nD,
      r.2.mem ((c : Thread nD τ).loc main_v4) = fun i => ∑ l : Fin 4096, rD m c (ix2 l (i 1)) * rA m c (ix2 l (i 0)) :=
  (θ_run defs _ _).mono (fun r h c => (h c).1.trans (by
    funext j
    obtain ⟨a, b, rfl⟩ : ∃ (a : Fin 2816) (b : Fin 1024), j = ix2 a b := ⟨j 0, j 1, eq_ix2 j⟩
    clean_types
    pointwise)) (Cert.Reference10Ideal.Value.run m ρ)

end Reference

/-! ## The claim -/

variable {m : (ℓ : Loc Cert.Kernel10Ideal.nD Cert.Kernel10Ideal.τ Cert.Kernel10Ideal.sig) → Buf (Elt Ideal) ℓ}
  {m' : (ℓ : Loc Cert.Reference10Ideal.nD Cert.Reference10Ideal.τ Cert.Reference10Ideal.sig) → Buf (Elt Ideal) ℓ}

/-- The results meet. -/
theorem meet (c : Dev Cert.Kernel10Ideal.nD) (hA : rA m' c = aA m c) (hD : rD m' c = aD m c) :
    (fun i => ∑ l : Fin 4096, rD m' c (ix2 l (i 1)) * rA m' c (ix2 l (i 0)) : Cert.Kernel10Ideal.S2816x1024.Idx → EReal)
      = (Cert.Kernel10Ideal.Gen.dats m 0 c).arrAt 2 Cert.Kernel10Ideal.cfg0.N := by
  rw [final, hA, hD]
  funext i
  exact Finset.sum_congr rfl fun l _ => mul_comm _ _

/-- The claim: equal results from any arguments. -/
theorem algebraic : Cert.algebraic_Kernel10Ideal_Reference10Ideal := by
  intro m ρ m' ρ' _ hag
  refine ⟨fun c => (Cert.Kernel10Ideal.Gen.dats m 0 c).arrAt 2 Cert.Kernel10Ideal.cfg0.N,
    Cert.Kernel10Ideal.Value.run_blocks m ρ, ?_⟩
  exact (θ_run _ _ _).mono (fun r h c => ⟨(h.1 c).trans (meet c (hag c).1 (hag c).2), (h.2 c).2⟩)
    (θ_run_and (ref_run m' ρ') (Cert.Reference10Ideal.Value.run m' ρ'))

end Cert.WeightGrad

end
-- ==== Proof.Pack.lean ====
/-
  The packing of the small gradients into one buffer: the kernel lays one piece over another on a buffer of zeros; the plain
  lines join the same rows.
-/
module

public import proofs.«01_k».proof.Defs
public import proofs.«01_k».proof.Proof.Gen.Kernel11Ideal.Value
public import proofs.«01_k».proof.Proof.Gen.Reference11Ideal.Run
public import Idealize.ShloMosaic.Lib.Pipeline.ValueKit
public import Idealize.ShloMosaic.Lib.WritesUnit
public import Idealize.ShloMosaic.Lib.Pipeline.ReadBack
public import Idealize.ShloMosaic.Lib.Pointwise
public import Idealize.ShloMosaic.Lib.Tactic
public import Idealize.ShloMosaic.Lib.Tactic.CleanTypes

@[expose] public section

set_option maxRecDepth 16384

noncomputable section

namespace Cert.Pack

open Idealize.ShloMosaic Idealize.ShloMosaic.TcCoe Idealize.SL.Sem

/-- The newest piece of a buffer of rows: its own value inside, what was there before outside. -/
theorem step {e : EltTy} {Val : EltTy → Type} [∀ e, Nonempty (Val e)] {R C o p s q : ℕ}
    (inb : ∀ a, (![o, p] : Fin 2 → ℕ) a + (![s, q] : Fin 2 → ℕ) a ≤ (⟨2, ![R, C]⟩ : Shape).size a)
    (w : (⟨2, ![s, q]⟩ : Shape).Idx → Val e) (L : List (View.Piece Val (⟨2, ![R, C]⟩ : Shape) e)) (r : Fin R) (k : Fin C) :
    View.canon ((⟨Rect.unit (s := (⟨2, ![R, C]⟩ : Shape)) ![o, p] ![s, q] inb, w⟩ : View.Piece Val (⟨2, ![R, C]⟩ : Shape) e) :: L) (ix2 r k)
      = if h : (o ≤ r.val ∧ r.val < o + s) ∧ p ≤ k.val ∧ k.val < p + q then
          w (ix2 ⟨r.val - o, by omega⟩ ⟨k.val - p, by omega⟩)
        else View.canon L (ix2 r k) := by
  by_cases h : (o ≤ r.val ∧ r.val < o + s) ∧ p ≤ k.val ∧ k.val < p + q
  · rw [dif_pos h]
    have hy : (ix2 r k : (⟨2, ![R, C]⟩ : Shape).Idx)
        = (Rect.unit (s := (⟨2, ![R, C]⟩ : Shape)) ![o, p] ![s, q] inb).emb (ix2 ⟨r.val - o, by omega⟩ ⟨k.val - p, by omega⟩) :=
      funext fun a => Fin.ext (by
        refine Eq.trans ?_ (Rect.idx_unit_val (s := (⟨2, ![R, C]⟩ : Shape)) ![o, p] ![s, q] inb _ a).symm
        match a with
        | 0 => show r.val = o + (r.val - o); omega
        | 1 => show k.val = p + (k.val - p); omega)
    rw [hy]
    exact View.canon_cons_emb (Rect.unit (s := (⟨2, ![R, C]⟩ : Shape)) ![o, p] ![s, q] inb) w L _
  · rw [dif_neg h]
    refine View.canon_cons_of_not_mem _ L ?_
    rw [Rect.mem_set_unit]
    intro hall
    have h0 : o ≤ r.val ∧ r.val < o + s := hall 0
    have h1 : p ≤ k.val ∧ k.val < p + q := hall 1
    exact h ⟨h0, h1⟩

/-- The packed buffer: the taps' gradients, the pooling weights', eleven rows of vectors, and zeros. -/
def pk (W : Fin 4 → Fin 32 → Fin 128 → EReal) (P : Fin 4 → Fin 128 → Fin 128 → EReal) (b n d s : Fin 512 → EReal)
    (f g : Fin 1024 → EReal) (h : Fin 1536 → EReal) (r : Fin 176) (k : Fin 512) : EReal :=
  if h1 : r.val < 32 then W ⟨k.val / 128, by omega⟩ ⟨r.val, h1⟩ ⟨k.val % 128, by omega⟩
  else if h2 : r.val < 160 then P ⟨k.val / 128, by omega⟩ ⟨r.val - 32, by omega⟩ ⟨k.val % 128, by omega⟩
  else if r.val = 160 then b k
  else if r.val = 161 then n k
  else if r.val = 162 then d k
  else if r.val = 163 then s k
  else if h3 : r.val < 166 then f ⟨(r.val - 164) * 512 + k.val, by omega⟩
  else if h4 : r.val < 168 then g ⟨(r.val - 166) * 512 + k.val, by omega⟩
  else if h5 : r.val < 171 then h ⟨(r.val - 168) * 512 + k.val, by omega⟩
  else Scalar.ofBits (F := Ideal) .f32 0#32

/-- Two places of a matrix with the same coordinates hold the same. -/
theorem same2 {α : Type} {p q : ℕ} (f : (⟨2, ![p, q]⟩ : Shape).Idx → α) {i i' : Fin p} {j j' : Fin q}
    (hi : i.val = i'.val) (hj : j.val = j'.val) : f (ix2 i j) = f (ix2 i' j') := by
  obtain rfl := Fin.ext hi
  obtain rfl := Fin.ext hj
  rfl

/-- The same for three coordinates. -/
theorem same3 {α : Type} {p q r : ℕ} (f : (⟨3, ![p, q, r]⟩ : Shape).Idx → α) {i i' : Fin p} {j j' : Fin q} {k k' : Fin r}
    (hi : i.val = i'.val) (hj : j.val = j'.val) (hk : k.val = k'.val) : f (ix3 i j k) = f (ix3 i' j' k') := by
  obtain rfl := Fin.ext hi
  obtain rfl := Fin.ext hj
  obtain rfl := Fin.ext hk
  rfl

/-- The columns by quarters. -/
theorem quarters (k : Fin 512) : k.val < 128 ∨ (128 ≤ k.val ∧ k.val < 256) ∨ (256 ≤ k.val ∧ k.val < 384) ∨ 384 ≤ k.val := by
  omega

/-- The rows, one kind at a time. -/
theorem kinds (r : Fin 176) : r.val < 32 ∨ (32 ≤ r.val ∧ r.val < 160) ∨ r.val = 160 ∨ r.val = 161 ∨ r.val = 162 ∨ r.val = 163
    ∨ r.val = 164 ∨ r.val = 165 ∨ r.val = 166 ∨ r.val = 167 ∨ r.val = 168 ∨ r.val = 169 ∨ r.val = 170 ∨ 171 ≤ r.val := by
  omega

section Kernel
open Cert.Kernel11Ideal Cert.Kernel11Ideal.Gen

variable (m : (ℓ : Loc nD τ sig) → Buf (Elt Ideal) ℓ) (c : Dev nD)

/-- Every window is its whole array. -/
theorem idx : ∀ t : Fin cfg0.N, win0_0.index t = ![0, 0, 0] ∧ win0_1.index t = ![0, 0, 0] ∧ win0_2.index t = ![0, 0]
    ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] :=
  (by decide +kernel : ∀ t : Fin grid0.N, _)

/-- The kernel's buffer, in its arguments. -/
def pkK : Fin 176 → Fin 512 → EReal :=
  pk (fun i j k => m ((c : Thread nD τ).loc main_arg0) (ix3 i j k)) (fun i j k => m ((c : Thread nD τ).loc main_arg1) (ix3 i j k))
    (fun k => m ((c : Thread nD τ).loc main_arg2) (ix2 0 k)) (fun k => m ((c : Thread nD τ).loc main_arg3) (ix2 0 k))
    (fun k => m ((c : Thread nD τ).loc main_arg4) (ix2 0 k)) (fun k => m ((c : Thread nD τ).loc main_arg5) (ix2 0 k))
    (fun k => m ((c : Thread nD τ).loc main_arg6) (ix2 0 k)) (fun k => m ((c : Thread nD τ).loc main_arg7) (ix2 0 k))
    (fun k => m ((c : Thread nD τ).loc main_arg8) (ix2 0 k))

/-- Each block is its whole argument. -/
theorem blk (t : Fin cfg0.N) : (∀ (i : Fin 4) (j : Fin 32) (k : Fin 128), iblk m c 0 t (ix3 i j k) = m ((c : Thread nD τ).loc main_arg0) (ix3 i j k))
    ∧ (∀ (i : Fin 4) (j : Fin 128) (k : Fin 128), iblk m c 1 t (ix3 i j k) = m ((c : Thread nD τ).loc main_arg1) (ix3 i j k))
    ∧ (∀ (j : Fin 1) (k : Fin 512), iblk m c 2 t (ix2 j k) = m ((c : Thread nD τ).loc main_arg2) (ix2 j k))
    ∧ (∀ (j : Fin 1) (k : Fin 512), iblk m c 3 t (ix2 j k) = m ((c : Thread nD τ).loc main_arg3) (ix2 j k))
    ∧ (∀ (j : Fin 1) (k : Fin 512), iblk m c 4 t (ix2 j k) = m ((c : Thread nD τ).loc main_arg4) (ix2 j k))
    ∧ (∀ (j : Fin 1) (k : Fin 512), iblk m c 5 t (ix2 j k) = m ((c : Thread nD τ).loc main_arg5) (ix2 j k))
    ∧ (∀ (j : Fin 1) (k : Fin 1024), iblk m c 6 t (ix2 j k) = m ((c : Thread nD τ).loc main_arg6) (ix2 j k))
    ∧ (∀ (j : Fin 1) (k : Fin 1024), iblk m c 7 t (ix2 j k) = m ((c : Thread nD τ).loc main_arg7) (ix2 j k))
    ∧ (∀ (j : Fin 1) (k : Fin 1536), iblk m c 8 t (ix2 j k) = m ((c : Thread nD τ).loc main_arg8) (ix2 j k)) := by
  refine ⟨?_, ?_, ?_, ?_, ?_, ?_, ?_, ?_, ?_⟩ <;> intros <;> blk_ext [iblk, V, idx t]

set_option maxHeartbeats 1000000 in
/-- The packed buffer after the run. -/
theorem final : (dats m 0 c).arrAt 9 cfg0.N = fun i => pkK m c (i 0) (i 1) := by
  refine (dats m 0 c).arrAt_eq_of_covers 9 _ (by decide +kernel) fun t hf y => ?_
  blk_simp
  rw [after0_9]
  have he : ∀ (r : Fin 176) (k : Fin 512),
      ((View.whole main_v0).slice (win0_9.rect t)).emb (ix2 r k) = ix2 r k := fun r k => by
    blk_ext [idx t]
  obtain ⟨r, k, rfl⟩ : ∃ (r : Fin 176) (k : Fin 512), y = ix2 r k := ⟨y 0, y 1, eq_ix2 y⟩
  rw [he]
  show _ = pkK m c r k
  unfold outsAt0 out0_A_9
  frame_out
  open_payloads
  simp only [read_unread_whole]
  repeat rw [step]
  pointwise
  obtain ⟨e0, e1, e2, e3, e4, e5, e6, e7, e8⟩ := blk m c t
  simp only [e0, e1, e2, e3, e4, e5, e6, e7, e8]
  have hk := k.isLt
  unfold pkK pk
  rcases kinds r with h | ⟨h, h'⟩ | h | h | h | h | h | h | h | h | h | h | h | h
  · rcases quarters k with q | q | q | q
    all_goals simp (disch := omega) only [dif_pos, dif_neg]
    all_goals exact same3 _ (show _ = k.val / 128 by omega) rfl (by simp only []; omega)
  · rcases quarters k with q | q | q | q
    all_goals simp (disch := omega) only [dif_pos, dif_neg]
    all_goals exact same3 _ (show _ = k.val / 128 by omega) rfl (by simp only []; omega)
  all_goals simp (disch := omega) only [dif_pos, dif_neg, if_pos, if_neg]
  all_goals first
    | exact same2 _ (congrArg Fin.val (Subsingleton.elim (α := Fin 1) _ _)) (by omega)
    | exact same2 _ (congrArg Fin.val (Subsingleton.elim (α := Fin 1) _ _)) (by simp only []; omega)
    | simp

end Kernel

section Reference
open Cert.Reference11Ideal Cert.Reference11Ideal.Gen

variable (m : (ℓ : Loc nD τ sig) → Buf (Elt Ideal) ℓ) (ρ : Dev nD → PrngReg) (c : Dev nD)

/-- The plain lines' buffer, in its arguments. -/
def pkR : Fin 176 → Fin 512 → EReal :=
  pk (fun i j k => m ((c : Thread nD τ).loc main_arg0) (ix3 i j k)) (fun i j k => m ((c : Thread nD τ).loc main_arg1) (ix3 i j k))
    (fun k => m ((c : Thread nD τ).loc main_arg2) (ix2 0 k)) (fun k => m ((c : Thread nD τ).loc main_arg3) (ix2 0 k))
    (fun k => m ((c : Thread nD τ).loc main_arg4) (ix2 0 k)) (fun k => m ((c : Thread nD τ).loc main_arg5) (ix2 0 k))
    (fun k => m ((c : Thread nD τ).loc main_arg6) (ix2 0 k)) (fun k => m ((c : Thread nD τ).loc main_arg7) (ix2 0 k))
    (fun k => m ((c : Thread nD τ).loc main_arg8) (ix2 0 k))

/-- The joined rows, read at an entry. -/
theorem chain (a : Fin 176) (b : Fin 512) : (if h : a.val < 32 then
      m ((c : Thread nD τ).loc main_arg0) (ix3 ⟨b.val / 128, by omega⟩ ⟨a.val, by omega⟩ ⟨b.val % 128, by omega⟩)
    else if h : a.val - 32 < 128 then
      m ((c : Thread nD τ).loc main_arg1) (ix3 ⟨b.val / 128, by omega⟩ ⟨a.val - 32, by omega⟩ ⟨b.val % 128, by omega⟩)
    else if h : a.val - 32 - 128 < 11 then
      if h_1 : (a.val - 32 - 128) * 512 + b.val < 512 then
        m ((c : Thread nD τ).loc main_arg2) (ix2 0 ⟨(a.val - 32 - 128) * 512 + b.val, by omega⟩)
      else if h_2 : (a.val - 32 - 128) * 512 + b.val - 512 < 512 then
        m ((c : Thread nD τ).loc main_arg3) (ix2 0 ⟨(a.val - 32 - 128) * 512 + b.val - 512, by omega⟩)
      else if h_3 : (a.val - 32 - 128) * 512 + b.val - 512 - 512 < 512 then
        m ((c : Thread nD τ).loc main_arg4) (ix2 0 ⟨(a.val - 32 - 128) * 512 + b.val - 512 - 512, by omega⟩)
      else if h_4 : (a.val - 32 - 128) * 512 + b.val - 512 - 512 - 512 < 512 then
        m ((c : Thread nD τ).loc main_arg5) (ix2 0 ⟨(a.val - 32 - 128) * 512 + b.val - 512 - 512 - 512, by omega⟩)
      else if h_5 : (a.val - 32 - 128) * 512 + b.val - 512 - 512 - 512 - 512 < 1024 then
        m ((c : Thread nD τ).loc main_arg6) (ix2 0 ⟨(a.val - 32 - 128) * 512 + b.val - 512 - 512 - 512 - 512, by omega⟩)
      else if h_6 : (a.val - 32 - 128) * 512 + b.val - 512 - 512 - 512 - 512 - 1024 < 1024 then
        m ((c : Thread nD τ).loc main_arg7) (ix2 0 ⟨(a.val - 32 - 128) * 512 + b.val - 512 - 512 - 512 - 512 - 1024, by omega⟩)
      else
        m ((c : Thread nD τ).loc main_arg8)
          (ix2 0 ⟨(a.val - 32 - 128) * 512 + b.val - 512 - 512 - 512 - 512 - 1024 - 1024, by omega⟩)
    else (0 : EReal)) = pkR m c a b := by
  have hb := b.isLt
  unfold pkR pk
  rcases kinds a with h | ⟨h, h'⟩ | h | h | h | h | h | h | h | h | h | h | h | h
  · rw [dif_pos h, dif_pos h]
  · simp (disch := omega) only [dif_pos, dif_neg]
  all_goals simp (disch := omega) only [dif_pos, dif_neg, if_pos, if_neg]
  all_goals first
    | exact same2 _ rfl (by simp only []; omega)
    | rfl
    | simp

/-- The plain lines' result, entry by entry. -/
theorem ref_run : θ_run defs (onTc (τ := τ) (main (F := Ideal))) ⟨m, fun _ => 0, ρ⟩ fun r => ∀ c : Dev nD,
      r.2.mem ((c : Thread nD τ).loc main_v7) = fun i => pkR m c (i 0) (i 1) :=
  (θ_run defs _ _).mono (fun r h c => (h c).1.trans (by
    funext j
    obtain ⟨a, b, rfl⟩ : ∃ (a : Fin 176) (b : Fin 512), j = ix2 a b := ⟨j 0, j 1, eq_ix2 j⟩
    clean_types
    pointwise
    exact chain m c a b)) (Cert.Reference11Ideal.Value.run m ρ)

end Reference

/-! ## The claim -/

variable {m : (ℓ : Loc Cert.Kernel11Ideal.nD Cert.Kernel11Ideal.τ Cert.Kernel11Ideal.sig) → Buf (Elt Ideal) ℓ}
  {m' : (ℓ : Loc Cert.Reference11Ideal.nD Cert.Reference11Ideal.τ Cert.Reference11Ideal.sig) → Buf (Elt Ideal) ℓ}

/-- The results meet. -/
theorem meet (c : Dev Cert.Kernel11Ideal.nD)
    (h0 : m' ((c : Thread Cert.Reference11Ideal.nD Cert.Reference11Ideal.τ).loc Cert.Reference11Ideal.main_arg0) = m ((c : Thread Cert.Kernel11Ideal.nD Cert.Kernel11Ideal.τ).loc Cert.Kernel11Ideal.main_arg0))
    (h1 : m' ((c : Thread Cert.Reference11Ideal.nD Cert.Reference11Ideal.τ).loc Cert.Reference11Ideal.main_arg1) = m ((c : Thread Cert.Kernel11Ideal.nD Cert.Kernel11Ideal.τ).loc Cert.Kernel11Ideal.main_arg1))
    (h2 : m' ((c : Thread Cert.Reference11Ideal.nD Cert.Reference11Ideal.τ).loc Cert.Reference11Ideal.main_arg2) = m ((c : Thread Cert.Kernel11Ideal.nD Cert.Kernel11Ideal.τ).loc Cert.Kernel11Ideal.main_arg2))
    (h3 : m' ((c : Thread Cert.Reference11Ideal.nD Cert.Reference11Ideal.τ).loc Cert.Reference11Ideal.main_arg3) = m ((c : Thread Cert.Kernel11Ideal.nD Cert.Kernel11Ideal.τ).loc Cert.Kernel11Ideal.main_arg3))
    (h4 : m' ((c : Thread Cert.Reference11Ideal.nD Cert.Reference11Ideal.τ).loc Cert.Reference11Ideal.main_arg4) = m ((c : Thread Cert.Kernel11Ideal.nD Cert.Kernel11Ideal.τ).loc Cert.Kernel11Ideal.main_arg4))
    (h5 : m' ((c : Thread Cert.Reference11Ideal.nD Cert.Reference11Ideal.τ).loc Cert.Reference11Ideal.main_arg5) = m ((c : Thread Cert.Kernel11Ideal.nD Cert.Kernel11Ideal.τ).loc Cert.Kernel11Ideal.main_arg5))
    (h6 : m' ((c : Thread Cert.Reference11Ideal.nD Cert.Reference11Ideal.τ).loc Cert.Reference11Ideal.main_arg6) = m ((c : Thread Cert.Kernel11Ideal.nD Cert.Kernel11Ideal.τ).loc Cert.Kernel11Ideal.main_arg6))
    (h7 : m' ((c : Thread Cert.Reference11Ideal.nD Cert.Reference11Ideal.τ).loc Cert.Reference11Ideal.main_arg7) = m ((c : Thread Cert.Kernel11Ideal.nD Cert.Kernel11Ideal.τ).loc Cert.Kernel11Ideal.main_arg7))
    (h8 : m' ((c : Thread Cert.Reference11Ideal.nD Cert.Reference11Ideal.τ).loc Cert.Reference11Ideal.main_arg8) = m ((c : Thread Cert.Kernel11Ideal.nD Cert.Kernel11Ideal.τ).loc Cert.Kernel11Ideal.main_arg8)) :
    (fun i => pkR m' c (i 0) (i 1) : Cert.Kernel11Ideal.S176x512.Idx → EReal)
      = (Cert.Kernel11Ideal.Gen.dats m 0 c).arrAt 9 Cert.Kernel11Ideal.cfg0.N := by
  rw [final]
  unfold pkR pkK
  rw [h0, h1, h2, h3, h4, h5, h6, h7, h8]
  rfl

/-- The claim: equal results from any arguments. -/
theorem algebraic : Cert.algebraic_Kernel11Ideal_Reference11Ideal := by
  intro m ρ m' ρ' _ hag
  refine ⟨fun c => (Cert.Kernel11Ideal.Gen.dats m 0 c).arrAt 9 Cert.Kernel11Ideal.cfg0.N,
    Cert.Kernel11Ideal.Value.run_blocks m ρ, ?_⟩
  refine (θ_run _ _ _).mono (fun r h c => ⟨(h.1 c).trans ?_, (h.2 c).2⟩)
    (θ_run_and (ref_run m' ρ') (Cert.Reference11Ideal.Value.run m' ρ'))
  obtain ⟨h0, h1, h2, h3, h4, h5, h6, h7, h8⟩ := hag c
  exact meet c h0 h1 h2 h3 h4 h5 h6 h7 h8

end Cert.Pack

end
-- ==== Proof.lean ====
/- The certificate's assembly: each claim from the module that proves it. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite_args
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Pre_finite_args2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_finite_args3
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_finite_args4
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite_args5
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Pre_finite_args8
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.InProjClaim
public import proofs.«01_k».proof.Proof.DownLossClaim
public import proofs.«01_k».proof.Proof.FfnInClaim
public import proofs.«01_k».proof.Proof.GateClaim
public import proofs.«01_k».proof.Proof.GateUpClaim
public import proofs.«01_k».proof.Proof.NormIn
public import proofs.«01_k».proof.Proof.NormOut
public import proofs.«01_k».proof.Proof.SeqFwdClaim
public import proofs.«01_k».proof.Proof.Adam
public import proofs.«01_k».proof.Proof.WeightGrad
public import proofs.«01_k».proof.Proof.Pack
public import Idealize.ShloMosaic.Lib.Quiescent

@[expose] public section

noncomputable section

namespace Cert.Proof

open Idealize.ShloMosaic Idealize.SL.Sem

/-- The reference of the input projection's gradient runs and leaves its arguments. -/
theorem frame_R : Cert.quiescent_ReferenceIdeal := fun m ρ _ =>
  (θ_run _ _ _).mono (fun r h => ⟨fun c => (h c).2.2, sem_eq_zero_of_no_sems (by decide) r.2⟩)
    (Cert.ReferenceIdeal.Value.run m ρ)

/-- The reference of the loss runs and leaves its arguments. -/
theorem frame_R2 : Cert.quiescent_Reference2Ideal := fun m ρ _ =>
  (θ_run _ _ _).mono (fun r h => ⟨fun c => (h c).2.2.2.2, sem_eq_zero_of_no_sems (by decide) r.2⟩)
    (Cert.Reference2Ideal.Value.run m ρ)

/-- The reference of the feed-forward's input gradient runs and leaves its arguments. -/
theorem frame_R3 : Cert.quiescent_Reference3Ideal := fun m ρ _ =>
  (θ_run _ _ _).mono (fun r h => ⟨fun c => (h c).2.2.2.2, sem_eq_zero_of_no_sems (by decide) r.2⟩)
    (Cert.Reference3Ideal.Value.run m ρ)

/-- The reference of the gate's gradient runs and leaves its arguments. -/
theorem frame_R4 : Cert.quiescent_Reference4Ideal := fun m ρ _ =>
  (θ_run _ _ _).mono (fun r h => ⟨fun c => (h c).2.2, sem_eq_zero_of_no_sems (by decide) r.2⟩)
    (Cert.Reference4Ideal.Value.run m ρ)

/-- The reference of the gate runs and leaves its arguments. -/
theorem frame_R5 : Cert.quiescent_Reference5Ideal := fun m ρ _ =>
  (θ_run _ _ _).mono (fun r h => ⟨fun c => (h c).2.2.2, sem_eq_zero_of_no_sems (by decide) r.2⟩)
    (Cert.Reference5Ideal.Value.run m ρ)

/-- The reference of the input projection and its norm runs and leaves its arguments. -/
theorem frame_R6 : Cert.quiescent_Reference6Ideal := fun m ρ _ =>
  (θ_run _ _ _).mono (fun r h => ⟨fun c => (h c).2.2, sem_eq_zero_of_no_sems (by decide) r.2⟩)
    (Cert.Reference6Ideal.Value.run m ρ)

/-- The reference of the output projection and its norm runs and leaves its arguments. -/
theorem frame_R7 : Cert.quiescent_Reference7Ideal := fun m ρ _ =>
  (θ_run _ _ _).mono (fun r h => ⟨fun c => (h c).2.2, sem_eq_zero_of_no_sems (by decide) r.2⟩)
    (Cert.Reference7Ideal.Value.run m ρ)

/-- The reference of the forward pass along the rows runs and leaves its arguments. -/
theorem frame_R8 : Cert.quiescent_Reference8Ideal := fun m ρ _ =>
  (θ_run _ _ _).mono (fun r h => ⟨fun c => (h c).2.2, sem_eq_zero_of_no_sems (by decide) r.2⟩)
    (Cert.Reference8Ideal.Value.run m ρ)

/-- The reference of the optimiser's step runs and leaves its arguments. -/
theorem frame_R9 : Cert.quiescent_Reference9Ideal := fun m ρ _ =>
  (θ_run _ _ _).mono (fun r h => ⟨fun c => (h c).2.2.2.2, sem_eq_zero_of_no_sems (by decide) r.2⟩)
    (Cert.Reference9Ideal.Value.run m ρ)

/-- The reference of the weights' gradient runs and leaves its arguments. -/
theorem frame_R10 : Cert.quiescent_Reference10Ideal := fun m ρ _ =>
  (θ_run _ _ _).mono (fun r h => ⟨fun c => (h c).2, sem_eq_zero_of_no_sems (by decide) r.2⟩)
    (Cert.Reference10Ideal.Value.run m ρ)

/-- The reference of the packing runs and leaves its arguments. -/
theorem frame_R11 : Cert.quiescent_Reference11Ideal := fun m ρ _ =>
  (θ_run _ _ _).mono (fun r h => ⟨fun c => (h c).2, sem_eq_zero_of_no_sems (by decide) r.2⟩)
    (Cert.Reference11Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_finite_args.Gen.facts, Cert.Pre_finite_args2.Gen.facts, Cert.Pre_finite_args3.Gen.facts, Cert.Pre_finite_args4.Gen.facts, Cert.Pre_finite_args5.Gen.facts, Cert.Pre_finite_args8.Gen.facts,
  fun m ρ _ => Cert.Kernel.Gen.frame m ρ, fun m ρ _ => Cert.KernelIdeal.Gen.frame m ρ, fun m ρ _ => Cert.KernelIdeal.Gen.frame m ρ,
  frame_R, fun m ρ _ => frame_R m ρ trivial,
  fun m ρ _ => Cert.Kernel2.Gen.frame m ρ, fun m ρ _ => Cert.Kernel2Ideal.Gen.frame m ρ, fun m ρ _ => Cert.Kernel2Ideal.Gen.frame m ρ,
  frame_R2, fun m ρ _ => frame_R2 m ρ trivial,
  fun m ρ _ => Cert.Kernel3.Gen.frame m ρ, fun m ρ _ => Cert.Kernel3Ideal.Gen.frame m ρ, fun m ρ _ => Cert.Kernel3Ideal.Gen.frame m ρ,
  frame_R3, fun m ρ _ => frame_R3 m ρ trivial,
  fun m ρ _ => Cert.Kernel4.Gen.frame m ρ, fun m ρ _ => Cert.Kernel4Ideal.Gen.frame m ρ, fun m ρ _ => Cert.Kernel4Ideal.Gen.frame m ρ,
  frame_R4, fun m ρ _ => frame_R4 m ρ trivial,
  fun m ρ _ => Cert.Kernel5.Gen.frame m ρ, fun m ρ _ => Cert.Kernel5Ideal.Gen.frame m ρ, fun m ρ _ => Cert.Kernel5Ideal.Gen.frame m ρ,
  frame_R5, fun m ρ _ => frame_R5 m ρ trivial,
  fun m ρ _ => Cert.Kernel6.Gen.frame m ρ, fun m ρ _ => Cert.Kernel6Ideal.Gen.frame m ρ, frame_R6,
  fun m ρ _ => Cert.Kernel7.Gen.frame m ρ, fun m ρ _ => Cert.Kernel7Ideal.Gen.frame m ρ, frame_R7,
  fun m ρ _ => Cert.Kernel8.Gen.frame m ρ, fun m ρ _ => Cert.Kernel8Ideal.Gen.frame m ρ, fun m ρ _ => Cert.Kernel8Ideal.Gen.frame m ρ,
  frame_R8, fun m ρ _ => frame_R8 m ρ trivial,
  fun m ρ _ => Cert.Kernel9.Gen.frame m ρ, fun m ρ _ => Cert.Kernel9Ideal.Gen.frame m ρ, frame_R9,
  fun m ρ _ => Cert.Kernel10.Gen.frame m ρ, fun m ρ _ => Cert.Kernel10Ideal.Gen.frame m ρ, frame_R10,
  fun m ρ _ => Cert.Kernel11.Gen.frame m ρ, fun m ρ _ => Cert.Kernel11Ideal.Gen.frame m ρ, frame_R11,
  trivial, Cert.InProj.algebraic,
  trivial, Cert.DownLoss.algebraic,
  trivial, Cert.FfnIn.algebraic,
  trivial, Cert.Gate.algebraic,
  trivial, Cert.GateUp.algebraic,
  trivial, Cert.NormIn.algebraic,
  trivial, Cert.NormOut.algebraic,
  trivial, Cert.SeqFwd.algebraic,
  trivial, Cert.Adam.algebraic,
  trivial, Cert.WeightGrad.algebraic,
  trivial, Cert.Pack.algebraic⟩

end Cert.Proof

end
